-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨3, ![2, 256, 512]⟩ ⟨3, ![32, 256, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S32x256x64x64 : S_.BroadcastsInDim S32x256x64x64 (![] : Fin 0 → Fin S32x256x64x64.rank)

variable [Facts]

def fn {F : FTy → Type} [FloatOps F] (main_arg0 : FVec F S2x256x512 .bf16) (main_arg1 : FVec F S512x256 .bf16) (main_arg2 : FVec F S32x256x64x64 .bf16) (main_arg3 : FVec F S32x256x64x64 .bf16) (main_arg4 : FVec F S256x512 .bf16) : IVec S2x256x512 1 × IVec S512x256 1 × IVec S32x256x64x64 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S32x256x64x64 .f32 := (extf .f32 · bitsLt_bf16_f32) main_arg2
  let main_v9 : FVec F S32x256x64x64 .f32 := Host.absf main_v8
  let main_cst_1 : FVec F S_ .f32 := constant S_ .f32 0x7F800000#32
  let main_v10 : FVec F S32x256x64x64 .f32 := broadcastInDim S32x256x64x64 ![] bcast_S_S32x256x64x64 main_cst_1
  let main_v11 : IVec S32x256x64x64 1 := cmpf .olt main_v9 main_v10
  (main_v3, main_v7, main_v11)
-- ==== Pre_finite_scores_ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S_ : Shape := ⟨0, ![]⟩

class Facts : Prop where
  bitsLt_bf16_f32 : FTy.bits .bf16 < FTy.bits .f32
  bcast_S_S32x256x512 : S_.BroadcastsInDim S32x256x512 (![] : Fin 0 → Fin S32x256x512.rank)
  bcast_S_S512x4096 : S_.BroadcastsInDim S512x4096 (![] : Fin 0 → Fin S512x4096.rank)
  bcast_S_S32x256x64x64 : S_.BroadcastsInDim S32x256x64x64 (![] : Fin 0 → Fin S32x256x64x64.rank)

variable [Facts]

def fn {F : FTy → Type} [FloatOps F] (main_arg0 : FVec F S32x256x512 .bf16) (main_arg1 : FVec F S512x4096 .bf16) (main_arg2 : FVec F S32x256x64x64 .bf16) (main_arg3 : FVec F S32x256x64x64 .bf16) (main_arg4 : FVec F S4096x512 .bf16) : IVec S32x256x512 1 × IVec S512x4096 1 × IVec S32x256x64x64 1 :=
  let main_v0 : FVec F S32x256x512 .f32 := (extf .f32 · bitsLt_bf16_f32) main_arg0
  let main_v1 : FVec F S32x256x512 .f32 := Host.absf main_v0
  let main_cst : FVec F S_ .f32 := constant S_ .f32 0x7F800000#32
  let main_v2 : FVec F S32x256x512 .f32 := broadcastInDim S32x256x512 ![] bcast_S_S32x256x512 main_cst
  let main_v3 : IVec S32x256x512 1 := cmpf .olt main_v1 main_v2
  let main_v4 : FVec F S512x4096 .f32 := (extf .f32 · bitsLt_bf16_f32) main_arg1
  let main_v5 : FVec F S512x4096 .f32 := Host.absf main_v4
  let main_cst_0 : FVec F S_ .f32 := constant S_ .f32 0x7F800000#32
  let main_v6 : FVec F S512x4096 .f32 := broadcastInDim S512x4096 ![] bcast_S_S512x4096 main_cst_0
  let main_v7 : IVec S512x4096 1 := cmpf .olt main_v5 main_v6
  let main_v8 : FVec F S32x256x64x64 .f32 := (extf .f32 · bitsLt_bf16_f32) main_arg2
  let main_v9 : FVec F S32x256x64x64 .f32 := Host.absf main_v8
  let main_cst_1 : FVec F S_ .f32 := constant S_ .f32 0x7F800000#32
  let main_v10 : FVec F S32x256x64x64 .f32 := broadcastInDim S32x256x64x64 ![] bcast_S_S32x256x64x64 main_cst_1
  let main_v11 : IVec S32x256x64x64 1 := cmpf .olt main_v9 main_v10
  (main_v3, main_v7, main_v11)
-- ==== Kernel.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩
abbrev S2x256x64x64 : Shape := ⟨4, ![2, 256, 64, 64]⟩
abbrev S64x2x256x64 : Shape := ⟨4, ![64, 2, 256, 64]⟩
abbrev S16x512x256 : Shape := ⟨3, ![16, 512, 256]⟩
abbrev S16x256x512 : Shape := ⟨3, ![16, 256, 512]⟩
abbrev S16 : Shape := ⟨1, ![16]⟩
abbrev S256x256 : Shape := ⟨2, ![256, 256]⟩
abbrev S1x512x256 : Shape := ⟨3, ![1, 512, 256]⟩
abbrev S1x256x512 : Shape := ⟨3, ![1, 256, 512]⟩
abbrev S1 : Shape := ⟨1, ![1]⟩
abbrev S512x512 : Shape := ⟨2, ![512, 512]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩

abbrev nBuf : Space → Nat
  | .hbm => 39
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S32x256x64x64, .bf16⟩
  | .hbm, ⟨3, _⟩ => ⟨S32x256x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .bf16⟩
  | .hbm, ⟨12, _⟩ => ⟨S512x256, .bf16⟩
  | .hbm, ⟨13, _⟩ => ⟨S512x256, .bf16⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S2x256x64x64, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2x256x64x64, .bf16⟩
  | .hbm, ⟨36, _⟩ => ⟨S64x2x256x64, .bf16⟩
  | .hbm, ⟨37, _⟩ => ⟨S64x2x256x64, .bf16⟩
  | .hbm, ⟨38, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S256x512, .bf16⟩
  | .local _ .vmem, ⟨3, _⟩ => ⟨S64x2x256x64, .bf16⟩
  | .local _ .vmem, ⟨4, _⟩ => ⟨S64x2x256x64, .bf16⟩
  | .local _ .vmem, ⟨5, _⟩ => ⟨S2x256x512, .f32⟩
  | .local _ .vmem, ⟨6, _⟩ => ⟨S16x512x256, .bf16⟩
  | .local _ .vmem, ⟨7, _⟩ => ⟨S16x256x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_c_5 : Ref sig .tc := ⟨.hbm, 22, rfl⟩
abbrev main_c_6 : Ref sig .tc := ⟨.hbm, 23, rfl⟩
abbrev main_v11 : Ref sig .tc := ⟨.hbm, 24, rfl⟩
abbrev main_c_7 : Ref sig .tc := ⟨.hbm, 25, rfl⟩
abbrev main_v12 : Ref sig .tc := ⟨.hbm, 26, rfl⟩
abbrev main_c_8 : Ref sig .tc := ⟨.hbm, 27, rfl⟩
abbrev main_v13 : Ref sig .tc := ⟨.hbm, 28, rfl⟩
abbrev main_c_9 : Ref sig .tc := ⟨.hbm, 29, rfl⟩
abbrev main_v14 : Ref sig .tc := ⟨.hbm, 30, rfl⟩
abbrev main_v15 : Ref sig .tc := ⟨.hbm, 31, rfl⟩
abbrev main_c_10 : Ref sig .tc := ⟨.hbm, 32, rfl⟩
abbrev main_c_11 : Ref sig .tc := ⟨.hbm, 33, rfl⟩
abbrev main_c_12 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_45 : BitVec 32 := 0#32
  let true_39 : BitVec 1 := 1#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let v88 : BitVec 32 := Scalar.select true_39 v4 v7
  let c1_i32_44 : BitVec 32 := 1#32
  let v89 : BitVec 32 := Scalar.muli v88 c1_i32_44
  let v90 : BitVec 32 := Scalar.addi c0_i32_45 v89
  v90.toNat
def k0_dev4 (d0 : Dev nD) : Nat :=
  let c0_i32_55 : BitVec 32 := 0#32
  let true_39 : BitVec 1 := 1#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let v88 : BitVec 32 := Scalar.select true_39 v4 v7
  let c1_i32_54 : BitVec 32 := 1#32
  let v99 : BitVec 32 := Scalar.muli v88 c1_i32_54
  let v100 : BitVec 32 := Scalar.addi c0_i32_55 v99
  v100.toNat
def k0_dev5 (d0 : Dev nD) : Nat :=
  let c0_i32_63 : BitVec 32 := 0#32
  let v_false : BitVec 1 := 0#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let v109 : BitVec 32 := Scalar.select v_false v4 v7
  let c1_i32_62 : BitVec 32 := 1#32
  let v110 : BitVec 32 := Scalar.muli v109 c1_i32_62
  let v111 : BitVec 32 := Scalar.addi c0_i32_63 v110
  v111.toNat
def k0_dev6 (d0 : Dev nD) : Nat :=
  let c0_i32_73 : BitVec 32 := 0#32
  let v_false : BitVec 1 := 0#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let v109 : BitVec 32 := Scalar.select v_false v4 v7
  let c1_i32_72 : BitVec 32 := 1#32
  let v120 : BitVec 32 := Scalar.muli v109 c1_i32_72
  let v121 : BitVec 32 := Scalar.addi c0_i32_73 v120
  v121.toNat
def k0_off1 (d0 : Dev nD) (c0_i32_88 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v140 : BitVec 32 := Scalar.muli v2 c4_i32
  let v141 : BitVec 32 := Scalar.addi v140 c0_i32_88
  let v143 : Index := Scalar.indexCast v141
  let c0_89 : Index := 0#32
  let c0_90 : Index := 0#32
  let c0_91 : Index := 0#32
  ![v143.toNat, 0, 0, 0]
def k0_off2 (d0 : Dev nD) (c0_i32_136 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_135 : BitVec 32 := 4#32
  let v226 : BitVec 32 := Scalar.muli v2 c4_i32_135
  let v227 : BitVec 32 := Scalar.addi v226 c0_i32_136
  let v229 : Index := Scalar.indexCast v227
  let c1 : Index := 1#32
  let c0_137 : Index := 0#32
  let c0_138 : Index := 0#32
  ![v229.toNat, 1, 0, 0]
@[reducible] def k0_t1_loop : Scf.Loop 32 :=
  let c1_i32_191 : BitVec 32 := 1#32
  let c8_i32_192 : BitVec 32 := 8#32
  let v318 : BitVec 32 := Scalar.addi c1_i32_191 c8_i32_192
  let c1_i32_193 : BitVec 32 := 1#32
  ⟨c1_i32_191, v318, c1_i32_193⟩
def k0_off3 (k0_t1 : Fin k0_t1_loop.trips) : Fin 1 → Nat :=
  let c1_i32_191 : BitVec 32 := 1#32
  let c1_i32_193 : BitVec 32 := 1#32
  let arg12 : BitVec 32 := Scf.iv c1_i32_191 c1_i32_193 k0_t1
  let c1_i32_196 : BitVec 32 := 1#32
  let v320 : BitVec 32 := Scalar.subi arg12 c1_i32_196
  ![v320.toNat]
def k0_off4 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c1_i32_195 : BitVec 32 := 1#32
  let v319 : BitVec 32 := Scalar.subi arg12 c1_i32_195
  let c0_i32_198 : BitVec 32 := 0#32
  let c0_i32_199 : BitVec 32 := 0#32
  ![v319.toNat, 0, 0]
def k0_off5 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c0_i32_200 : BitVec 32 := 0#32
  let c0_i32_201 : BitVec 32 := 0#32
  ![arg12.toNat, 0, 0]
def k0_off6 (k0_t1 : Fin k0_t1_loop.trips) : Fin 1 → Nat :=
  let c1_i32_191 : BitVec 32 := 1#32
  let c1_i32_193 : BitVec 32 := 1#32
  let arg12 : BitVec 32 := Scf.iv c1_i32_191 c1_i32_193 k0_t1
  ![arg12.toNat]
def k0_off7 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c1_i32_195 : BitVec 32 := 1#32
  let v319 : BitVec 32 := Scalar.subi arg12 c1_i32_195
  let c0_i32_209 : BitVec 32 := 0#32
  let c0_i32_210 : BitVec 32 := 0#32
  ![v319.toNat, 0, 0]
def k0_off8 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c0_i32_211 : BitVec 32 := 0#32
  let c0_i32_212 : BitVec 32 := 0#32
  ![arg12.toNat, 0, 0]
def k0_cond1 (k0_t1 : Fin k0_t1_loop.trips) : BitVec 1 :=
  let c1_i32_191 : BitVec 32 := 1#32
  let c1_i32_193 : BitVec 32 := 1#32
  let arg12 : BitVec 32 := Scf.iv c1_i32_191 c1_i32_193 k0_t1
  let c8_i32_219 : BitVec 32 := 8#32
  let v350 : BitVec 1 := Scalar.cmpi .slt arg12 c8_i32_219
  let v351 : BitVec 32 := Scalar.extui v350
  let c0_i32_220 : BitVec 32 := 0#32
  let v352 : BitVec 1 := Scalar.cmpi .ne v351 c0_i32_220
  v352

def k0_off9 (k0_t1 : Fin k0_t1_loop.trips) : Fin 1 → Nat :=
  let c1_i32_191 : BitVec 32 := 1#32
  let c1_i32_193 : BitVec 32 := 1#32
  let arg12 : BitVec 32 := Scf.iv c1_i32_191 c1_i32_193 k0_t1
  ![arg12.toNat]
def k0_off10 (k0_t1 : Fin k0_t1_loop.trips) : Fin 1 → Nat :=
  let c1_i32_191 : BitVec 32 := 1#32
  let c1_i32_193 : BitVec 32 := 1#32
  let arg12 : BitVec 32 := Scf.iv c1_i32_191 c1_i32_193 k0_t1
  let c1_i32_338 : BitVec 32 := 1#32
  let v553 : BitVec 32 := Scalar.addi arg12 c1_i32_338
  ![v553.toNat]
def k0_off11 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c1_i32_337 : BitVec 32 := 1#32
  let v552 : BitVec 32 := Scalar.addi arg12 c1_i32_337
  let c0_i32_341 : BitVec 32 := 0#32
  let c0_i32_342 : BitVec 32 := 0#32
  ![v552.toNat, 0, 0]
def k0_off12 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c0_i32_343 : BitVec 32 := 0#32
  let c0_i32_344 : BitVec 32 := 0#32
  ![arg12.toNat, 0, 0]
def k0_dev7 (d0 : Dev nD) : Nat :=
  let c0_i32_340 : BitVec 32 := 0#32
  let true_189 : BitVec 1 := 1#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let v554 : BitVec 32 := Scalar.select true_189 v4 v7
  let c1_i32_339 : BitVec 32 := 1#32
  let v555 : BitVec 32 := Scalar.muli v554 c1_i32_339
  let v556 : BitVec 32 := Scalar.addi c0_i32_340 v555
  v556.toNat
def k0_off13 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c1_i32_337 : BitVec 32 := 1#32
  let v552 : BitVec 32 := Scalar.addi arg12 c1_i32_337
  let c0_i32_347 : BitVec 32 := 0#32
  let c0_i32_348 : BitVec 32 := 0#32
  ![v552.toNat, 0, 0]
def k0_off14 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c0_i32_349 : BitVec 32 := 0#32
  let c0_i32_350 : BitVec 32 := 0#32
  ![arg12.toNat, 0, 0]
def k0_dev8 (d0 : Dev nD) : Nat :=
  let c0_i32_346 : BitVec 32 := 0#32
  let true_189 : BitVec 1 := 1#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let v554 : BitVec 32 := Scalar.select true_189 v4 v7
  let c1_i32_345 : BitVec 32 := 1#32
  let v565 : BitVec 32 := Scalar.muli v554 c1_i32_345
  let v566 : BitVec 32 := Scalar.addi c0_i32_346 v565
  v566.toNat
def k0_cond2 (k0_t1 : Fin k0_t1_loop.trips) : BitVec 1 :=
  let c1_i32_191 : BitVec 32 := 1#32
  let c1_i32_193 : BitVec 32 := 1#32
  let arg12 : BitVec 32 := Scf.iv c1_i32_191 c1_i32_193 k0_t1
  let c7_i32 : BitVec 32 := 7#32
  let v353 : BitVec 1 := Scalar.cmpi .sle arg12 c7_i32
  let v354 : BitVec 32 := Scalar.extui v353
  let c0_i32_221 : BitVec 32 := 0#32
  let v355 : BitVec 1 := Scalar.cmpi .ne v354 c0_i32_221
  v355

def k0_off15 (k0_t1 : Fin k0_t1_loop.trips) : Fin 1 → Nat :=
  let c8_i32_342 : BitVec 32 := 8#32
  let c1_i32_191 : BitVec 32 := 1#32
  let c1_i32_193 : BitVec 32 := 1#32
  let arg12 : BitVec 32 := Scf.iv c1_i32_191 c1_i32_193 k0_t1
  let v557 : BitVec 32 := Scalar.addi c8_i32_342 arg12
  let c1_i32_343 : BitVec 32 := 1#32
  let v558 : BitVec 32 := Scalar.subi v557 c1_i32_343
  ![v558.toNat]
def k0_off16 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c1_i32_337 : BitVec 32 := 1#32
  let v552 : BitVec 1 := Scalar.cmpi .eq arg12 c1_i32_337
  let c0_i32_340 : BitVec 32 := 0#32
  let c8_i32_338 : BitVec 32 := 8#32
  let v553 : BitVec 32 := Scalar.addi c8_i32_338 arg12
  let c1_i32_339 : BitVec 32 := 1#32
  let v554 : BitVec 32 := Scalar.subi v553 c1_i32_339
  let v555 : BitVec 32 := Scalar.select v552 c0_i32_340 v554
  let c0_i32_346 : BitVec 32 := 0#32
  let c0_i32_347 : BitVec 32 := 0#32
  ![v555.toNat, 0, 0]
def k0_off17 (k0_t1 : Fin k0_t1_loop.trips) : Fin 3 → Nat :=
  let c8_i32_341 : BitVec 32 := 8#32
  let c1_i32_191 : BitVec 32 := 1#32
  let c1_i32_193 : BitVec 32 := 1#32
  let arg12 : BitVec 32 := Scf.iv c1_i32_191 c1_i32_193 k0_t1
  let v556 : BitVec 32 := Scalar.addi c8_i32_341 arg12
  let c0_i32_348 : BitVec 32 := 0#32
  let c0_i32_349 : BitVec 32 := 0#32
  ![v556.toNat, 0, 0]
def k0_off18 (k0_t1 : Fin k0_t1_loop.trips) : Fin 1 → Nat :=
  let c8_i32_344 : BitVec 32 := 8#32
  let c1_i32_191 : BitVec 32 := 1#32
  let c1_i32_193 : BitVec 32 := 1#32
  let arg12 : BitVec 32 := Scf.iv c1_i32_191 c1_i32_193 k0_t1
  let v559 : BitVec 32 := Scalar.addi c8_i32_344 arg12
  ![v559.toNat]
def k0_off19 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let c1_i32_337 : BitVec 32 := 1#32
  let v552 : BitVec 1 := Scalar.cmpi .eq arg12 c1_i32_337
  let c0_i32_340 : BitVec 32 := 0#32
  let c8_i32_338 : BitVec 32 := 8#32
  let v553 : BitVec 32 := Scalar.addi c8_i32_338 arg12
  let c1_i32_339 : BitVec 32 := 1#32
  let v554 : BitVec 32 := Scalar.subi v553 c1_i32_339
  let v555 : BitVec 32 := Scalar.select v552 c0_i32_340 v554
  let c0_i32_357 : BitVec 32 := 0#32
  let c0_i32_358 : BitVec 32 := 0#32
  ![v555.toNat, 0, 0]
def k0_off20 (k0_t1 : Fin k0_t1_loop.trips) : Fin 3 → Nat :=
  let c8_i32_341 : BitVec 32 := 8#32
  let c1_i32_191 : BitVec 32 := 1#32
  let c1_i32_193 : BitVec 32 := 1#32
  let arg12 : BitVec 32 := Scf.iv c1_i32_191 c1_i32_193 k0_t1
  let v556 : BitVec 32 := Scalar.addi c8_i32_341 arg12
  let c0_i32_359 : BitVec 32 := 0#32
  let c0_i32_360 : BitVec 32 := 0#32
  ![v556.toNat, 0, 0]
def k0_cond3 (k0_t1 : Fin k0_t1_loop.trips) : BitVec 1 :=
  let c1_i32_191 : BitVec 32 := 1#32
  let c1_i32_193 : BitVec 32 := 1#32
  let arg12 : BitVec 32 := Scf.iv c1_i32_191 c1_i32_193 k0_t1
  let c7_i32_367 : BitVec 32 := 7#32
  let v589 : BitVec 1 := Scalar.cmpi .slt arg12 c7_i32_367
  let v590 : BitVec 32 := Scalar.extui v589
  let c0_i32_368 : BitVec 32 := 0#32
  let v591 : BitVec 1 := Scalar.cmpi .ne v590 c0_i32_368
  v591

def k0_off21 (k0_t1 : Fin k0_t1_loop.trips) : Fin 1 → Nat :=
  let c8_i32_372 : BitVec 32 := 8#32
  let c1_i32_191 : BitVec 32 := 1#32
  let c1_i32_193 : BitVec 32 := 1#32
  let arg12 : BitVec 32 := Scf.iv c1_i32_191 c1_i32_193 k0_t1
  let v595 : BitVec 32 := Scalar.addi c8_i32_372 arg12
  ![v595.toNat]
def k0_off22 (k0_t1 : Fin k0_t1_loop.trips) : Fin 1 → Nat :=
  let c8_i32_373 : BitVec 32 := 8#32
  let c1_i32_191 : BitVec 32 := 1#32
  let c1_i32_193 : BitVec 32 := 1#32
  let arg12 : BitVec 32 := Scf.iv c1_i32_191 c1_i32_193 k0_t1
  let v596 : BitVec 32 := Scalar.addi c8_i32_373 arg12
  let c1_i32_374 : BitVec 32 := 1#32
  let v597 : BitVec 32 := Scalar.addi v596 c1_i32_374
  ![v597.toNat]
def k0_off23 (k0_t1 : Fin k0_t1_loop.trips) : Fin 3 → Nat :=
  let c8_i32_370 : BitVec 32 := 8#32
  let c1_i32_191 : BitVec 32 := 1#32
  let c1_i32_193 : BitVec 32 := 1#32
  let arg12 : BitVec 32 := Scf.iv c1_i32_191 c1_i32_193 k0_t1
  let v593 : BitVec 32 := Scalar.addi c8_i32_370 arg12
  let c1_i32_371 : BitVec 32 := 1#32
  let v594 : BitVec 32 := Scalar.addi v593 c1_i32_371
  let c0_i32_377 : BitVec 32 := 0#32
  let c0_i32_378 : BitVec 32 := 0#32
  ![v594.toNat, 0, 0]
def k0_off24 (k0_t1 : Fin k0_t1_loop.trips) : Fin 3 → Nat :=
  let c8_i32_369 : BitVec 32 := 8#32
  let c1_i32_191 : BitVec 32 := 1#32
  let c1_i32_193 : BitVec 32 := 1#32
  let arg12 : BitVec 32 := Scf.iv c1_i32_191 c1_i32_193 k0_t1
  let v592 : BitVec 32 := Scalar.addi c8_i32_369 arg12
  let c0_i32_379 : BitVec 32 := 0#32
  let c0_i32_380 : BitVec 32 := 0#32
  ![v592.toNat, 0, 0]
def k0_dev9 (d0 : Dev nD) : Nat :=
  let c0_i32_376 : BitVec 32 := 0#32
  let false_190 : BitVec 1 := 0#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let v598 : BitVec 32 := Scalar.select false_190 v4 v7
  let c1_i32_375 : BitVec 32 := 1#32
  let v599 : BitVec 32 := Scalar.muli v598 c1_i32_375
  let v600 : BitVec 32 := Scalar.addi c0_i32_376 v599
  v600.toNat
def k0_off25 (k0_t1 : Fin k0_t1_loop.trips) : Fin 3 → Nat :=
  let c8_i32_370 : BitVec 32 := 8#32
  let c1_i32_191 : BitVec 32 := 1#32
  let c1_i32_193 : BitVec 32 := 1#32
  let arg12 : BitVec 32 := Scf.iv c1_i32_191 c1_i32_193 k0_t1
  let v593 : BitVec 32 := Scalar.addi c8_i32_370 arg12
  let c1_i32_371 : BitVec 32 := 1#32
  let v594 : BitVec 32 := Scalar.addi v593 c1_i32_371
  let c0_i32_383 : BitVec 32 := 0#32
  let c0_i32_384 : BitVec 32 := 0#32
  ![v594.toNat, 0, 0]
def k0_off26 (k0_t1 : Fin k0_t1_loop.trips) : Fin 3 → Nat :=
  let c8_i32_369 : BitVec 32 := 8#32
  let c1_i32_191 : BitVec 32 := 1#32
  let c1_i32_193 : BitVec 32 := 1#32
  let arg12 : BitVec 32 := Scf.iv c1_i32_191 c1_i32_193 k0_t1
  let v592 : BitVec 32 := Scalar.addi c8_i32_369 arg12
  let c0_i32_385 : BitVec 32 := 0#32
  let c0_i32_386 : BitVec 32 := 0#32
  ![v592.toNat, 0, 0]
def k0_dev10 (d0 : Dev nD) : Nat :=
  let c0_i32_382 : BitVec 32 := 0#32
  let false_190 : BitVec 1 := 0#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let v598 : BitVec 32 := Scalar.select false_190 v4 v7
  let c1_i32_381 : BitVec 32 := 1#32
  let v609 : BitVec 32 := Scalar.muli v598 c1_i32_381
  let v610 : BitVec 32 := Scalar.addi c0_i32_382 v609
  v610.toNat
def k0_off27 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let v359 : Index := Scalar.indexCast arg12
  let c0_224 : Index := 0#32
  let c0_225 : Index := 0#32
  ![v359.toNat, 0, 0]
def k0_off28 (k0_t1 : Fin k0_t1_loop.trips) : Fin 3 → Nat :=
  let c1_i32_191 : BitVec 32 := 1#32
  let c1_i32_193 : BitVec 32 := 1#32
  let arg12 : BitVec 32 := Scf.iv c1_i32_191 c1_i32_193 k0_t1
  let v362 : Index := Scalar.indexCast arg12
  let c0_226 : Index := 0#32
  let c0_227 : Index := 0#32
  ![v362.toNat, 0, 0]
def k0_off29 (d0 : Dev nD) (k0_t1 : Fin k0_t1_loop.trips) (c0_i32_233 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_191 : BitVec 32 := 1#32
  let c1_i32_193 : BitVec 32 := 1#32
  let arg12 : BitVec 32 := Scf.iv c1_i32_191 c1_i32_193 k0_t1
  let v356 : BitVec 32 := Scalar.subi v2 arg12
  let c16_i32_222 : BitVec 32 := 16#32
  let v357 : BitVec 32 := Scalar.addi v356 c16_i32_222
  let c16_i32_223 : BitVec 32 := 16#32
  let v358 : BitVec 32 := Scalar.remsi v357 c16_i32_223
  let c4_i32_232 : BitVec 32 := 4#32
  let v371 : BitVec 32 := Scalar.muli v358 c4_i32_232
  let v372 : BitVec 32 := Scalar.addi v371 c0_i32_233
  let v374 : Index := Scalar.indexCast v372
  let c0_234 : Index := 0#32
  let c0_235 : Index := 0#32
  let c0_236 : Index := 0#32
  ![v374.toNat, 0, 0, 0]
def k0_off30 (d0 : Dev nD) (k0_t1 : Fin k0_t1_loop.trips) (c0_i32_281 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_191 : BitVec 32 := 1#32
  let c1_i32_193 : BitVec 32 := 1#32
  let arg12 : BitVec 32 := Scf.iv c1_i32_191 c1_i32_193 k0_t1
  let v356 : BitVec 32 := Scalar.subi v2 arg12
  let c16_i32_222 : BitVec 32 := 16#32
  let v357 : BitVec 32 := Scalar.addi v356 c16_i32_222
  let c16_i32_223 : BitVec 32 := 16#32
  let v358 : BitVec 32 := Scalar.remsi v357 c16_i32_223
  let c4_i32_280 : BitVec 32 := 4#32
  let v457 : BitVec 32 := Scalar.muli v358 c4_i32_280
  let v458 : BitVec 32 := Scalar.addi v457 c0_i32_281
  let v460 : Index := Scalar.indexCast v458
  let c1_282 : Index := 1#32
  let c0_283 : Index := 0#32
  let c0_284 : Index := 0#32
  ![v460.toNat, 1, 0, 0]
def k0_cond4 (k0_t1 : Fin k0_t1_loop.trips) : BitVec 1 :=
  let c1_i32_191 : BitVec 32 := 1#32
  let c1_i32_193 : BitVec 32 := 1#32
  let arg12 : BitVec 32 := Scf.iv c1_i32_191 c1_i32_193 k0_t1
  let c7_i32_335 : BitVec 32 := 7#32
  let v549 : BitVec 1 := Scalar.cmpi .sle arg12 c7_i32_335
  let v550 : BitVec 32 := Scalar.extui v549
  let c0_i32_336 : BitVec 32 := 0#32
  let v551 : BitVec 1 := Scalar.cmpi .ne v550 c0_i32_336
  v551

def k0_off31 (k0_t1 : Fin k0_t1_loop.trips) : Fin 3 → Nat :=
  let c8_i32_337 : BitVec 32 := 8#32
  let c1_i32_191 : BitVec 32 := 1#32
  let c1_i32_193 : BitVec 32 := 1#32
  let arg12 : BitVec 32 := Scf.iv c1_i32_191 c1_i32_193 k0_t1
  let v552 : BitVec 32 := Scalar.addi c8_i32_337 arg12
  let v555 : Index := Scalar.indexCast v552
  let c0_339 : Index := 0#32
  let c0_340 : Index := 0#32
  ![v555.toNat, 0, 0]
def k0_off32 (k0_t1 : Fin k0_t1_loop.trips) : Fin 3 → Nat :=
  let c8_i32_337 : BitVec 32 := 8#32
  let c1_i32_191 : BitVec 32 := 1#32
  let c1_i32_193 : BitVec 32 := 1#32
  let arg12 : BitVec 32 := Scf.iv c1_i32_191 c1_i32_193 k0_t1
  let v552 : BitVec 32 := Scalar.addi c8_i32_337 arg12
  let v558 : Index := Scalar.indexCast v552
  let c0_341 : Index := 0#32
  let c0_342 : Index := 0#32
  ![v558.toNat, 0, 0]
def k0_off33 (d0 : Dev nD) (k0_t1 : Fin k0_t1_loop.trips) (c0_i32_348 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_191 : BitVec 32 := 1#32
  let c1_i32_193 : BitVec 32 := 1#32
  let arg12 : BitVec 32 := Scf.iv c1_i32_191 c1_i32_193 k0_t1
  let v553 : BitVec 32 := Scalar.addi v2 arg12
  let c16_i32_338 : BitVec 32 := 16#32
  let v554 : BitVec 32 := Scalar.remsi v553 c16_i32_338
  let c4_i32_347 : BitVec 32 := 4#32
  let v567 : BitVec 32 := Scalar.muli v554 c4_i32_347
  let v568 : BitVec 32 := Scalar.addi v567 c0_i32_348
  let v570 : Index := Scalar.indexCast v568
  let c0_349 : Index := 0#32
  let c0_350 : Index := 0#32
  let c0_351 : Index := 0#32
  ![v570.toNat, 0, 0, 0]
def k0_off34 (d0 : Dev nD) (k0_t1 : Fin k0_t1_loop.trips) (c0_i32_396 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_191 : BitVec 32 := 1#32
  let c1_i32_193 : BitVec 32 := 1#32
  let arg12 : BitVec 32 := Scf.iv c1_i32_191 c1_i32_193 k0_t1
  let v553 : BitVec 32 := Scalar.addi v2 arg12
  let c16_i32_338 : BitVec 32 := 16#32
  let v554 : BitVec 32 := Scalar.remsi v553 c16_i32_338
  let c4_i32_395 : BitVec 32 := 4#32
  let v653 : BitVec 32 := Scalar.muli v554 c4_i32_395
  let v654 : BitVec 32 := Scalar.addi v653 c0_i32_396
  let v656 : Index := Scalar.indexCast v654
  let c1_397 : Index := 1#32
  let c0_398 : Index := 0#32
  let c0_399 : Index := 0#32
  ![v656.toNat, 1, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S32x256x4096 : Shape := ⟨3, ![32, 256, 4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32x64x256x256 : Shape := ⟨4, ![32, 64, 256, 256]⟩
abbrev S1x1x256x256 : Shape := ⟨4, ![1, 1, 256, 256]⟩
abbrev S32x64x256 : Shape := ⟨3, ![32, 64, 256]⟩
abbrev S32x64x256x1 : Shape := ⟨4, ![32, 64, 256, 1]⟩
abbrev S1x1x256x1 : Shape := ⟨4, ![1, 1, 256, 1]⟩
abbrev S32x64x64x256 : Shape := ⟨4, ![32, 64, 64, 256]⟩

abbrev nBuf : Space → Nat
  | .hbm => 128
  | .vmem => 0
  | .smem => 0
  | _ => 0

abbrev bufTy : (tb : Table) → Fin (tcTables nBuf tb) → BufTy
  | .hbm, ⟨0, _⟩ => ⟨S32x256x512, .bf16⟩
  | .hbm, ⟨1, _⟩ => ⟨S512x4096, .bf16⟩
  | .hbm, ⟨2, _⟩ => ⟨S32x256x64x64, .bf16⟩
  | .hbm, ⟨3, _⟩ => ⟨S32x256x64x64, .bf16⟩
  | .hbm, ⟨4, _⟩ => ⟨S4096x512, .bf16⟩
  | .hbm, ⟨5, _⟩ => ⟨S32x256x512, .f32⟩
  | .hbm, ⟨6, _⟩ => ⟨S512x4096, .f32⟩
  | .hbm, ⟨7, _⟩ => ⟨S32x256x64x64, .f32⟩
  | .hbm, ⟨8, _⟩ => ⟨S32x256x64x64, .f32⟩
  | .hbm, ⟨9, _⟩ => ⟨S4096x512, .f32⟩
  | .hbm, ⟨10, _⟩ => ⟨S32x256x4096, .f32⟩
  | .hbm, ⟨11, _⟩ => ⟨S32x256x64x64, .f32⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256, .i32⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S1x256, .i32⟩
  | .hbm, ⟨52, _⟩ => ⟨S256x256, .i32⟩
  | .hbm, ⟨53, _⟩ => ⟨S256x256, .i32⟩
  | .hbm, ⟨54, _⟩ => ⟨S256x256, .i1⟩
  | .hbm, ⟨55, _⟩ => ⟨S_, .i32⟩
  | .hbm, ⟨56, _⟩ => ⟨S1x256, .i32⟩
  | .hbm, ⟨57, _⟩ => ⟨S1x256, .i1⟩
  | .hbm, ⟨58, _⟩ => ⟨S256x256, .i1⟩
  | .hbm, ⟨59, _⟩ => ⟨S256x256, .i1⟩
  | .hbm, ⟨60, _⟩ => ⟨S256x256, .i32⟩
  | .hbm, ⟨61, _⟩ => ⟨S256x256, .i32⟩
  | .hbm, ⟨62, _⟩ => ⟨S256x256, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S256x256, .i32⟩
  | .hbm, ⟨70, _⟩ => ⟨S256x256, .i32⟩
  | .hbm, ⟨71, _⟩ => ⟨S_, .i32⟩
  | .hbm, ⟨72, _⟩ => ⟨S256x256, .i32⟩
  | .hbm, ⟨73, _⟩ => ⟨S256x256, .i1⟩
  | .hbm, ⟨74, _⟩ => ⟨S_, .i32⟩
  | .hbm, ⟨75, _⟩ => ⟨S256x256, .i32⟩
  | .hbm, ⟨76, _⟩ => ⟨S256x256, .i1⟩
  | .hbm, ⟨77, _⟩ => ⟨S_, .i32⟩
  | .hbm, ⟨78, _⟩ => ⟨S_, .i1⟩
  | .hbm, ⟨79, _⟩ => ⟨S256x256, .i1⟩
  | .hbm, ⟨80, _⟩ => ⟨S256x256, .i1⟩
  | .hbm, ⟨81, _⟩ => ⟨S256x256, .i1⟩
  | .hbm, ⟨82, _⟩ => ⟨S256x256, .i32⟩
  | .hbm, ⟨83, _⟩ => ⟨S256x256, .i32⟩
  | .hbm, ⟨84, _⟩ => ⟨S256x256, .i32⟩
  | .hbm, ⟨85, _⟩ => ⟨S_, .i32⟩
  | .hbm, ⟨86, _⟩ => ⟨S256x256, .i32⟩
  | .hbm, ⟨87, _⟩ => ⟨S256x256, .i1⟩
  | .hbm, ⟨88, _⟩ => ⟨S256x256, .i1⟩
  | .hbm, ⟨89, _⟩ => ⟨S32x64x256x256, .f32⟩
  | .hbm, ⟨90, _⟩ => ⟨S_, .f32⟩
  | .hbm, ⟨91, _⟩ => ⟨S32x64x256x256, .f32⟩
  | .hbm, ⟨92, _⟩ => ⟨S32x64x256x256, .f32⟩
  | .hbm, ⟨93, _⟩ => ⟨S1x1x256x256, .i1⟩
  | .hbm, ⟨94, _⟩ => ⟨S_, .f32⟩
  | .hbm, ⟨95, _⟩ => ⟨S_, .f32⟩
  | .hbm, ⟨96, _⟩ => ⟨S32x64x256x256, .i1⟩
  | .hbm, ⟨97, _⟩ => ⟨S32x64x256x256, .f32⟩
  | .hbm, ⟨98, _⟩ => ⟨S32x64x256x256, .f32⟩
  | .hbm, ⟨99, _⟩ => ⟨S_, .f32⟩
  | .hbm, ⟨100, _⟩ => ⟨S32x64x256, .f32⟩
  | .hbm, ⟨101, _⟩ => ⟨S32x64x256x1, .f32⟩
  | .hbm, ⟨102, _⟩ => ⟨S32x64x256x256, .f32⟩
  | .hbm, ⟨103, _⟩ => ⟨S32x64x256x256, .f32⟩
  | .hbm, ⟨104, _⟩ => ⟨S32x64x256x256, .f32⟩
  | .hbm, ⟨105, _⟩ => ⟨S_, .i1⟩
  | .hbm, ⟨106, _⟩ => ⟨S256, .i1⟩
  | .hbm, ⟨107, _⟩ => ⟨S1x1x256x1, .i1⟩
  | .hbm, ⟨108, _⟩ => ⟨S_, .f32⟩
  | .hbm, ⟨109, _⟩ => ⟨S32x64x256, .f32⟩
  | .hbm, ⟨110, _⟩ => ⟨S32x64x256x1, .f32⟩
  | .hbm, ⟨111, _⟩ => ⟨S_, .f32⟩
  | .hbm, ⟨112, _⟩ => ⟨S_, .f32⟩
  | .hbm, ⟨113, _⟩ => ⟨S32x64x256x1, .i1⟩
  | .hbm, ⟨114, _⟩ => ⟨S32x64x256x1, .f32⟩
  | .hbm, ⟨115, _⟩ => ⟨S32x64x256x1, .f32⟩
  | .hbm, ⟨116, _⟩ => ⟨S32x64x256x256, .f32⟩
  | .hbm, ⟨117, _⟩ => ⟨S32x64x256x256, .f32⟩
  | .hbm, ⟨118, _⟩ => ⟨S1x1x256x1, .i1⟩
  | .hbm, ⟨119, _⟩ => ⟨S_, .f32⟩
  | .hbm, ⟨120, _⟩ => ⟨S_, .f32⟩
  | .hbm, ⟨121, _⟩ => ⟨S32x64x256x256, .i1⟩
  | .hbm, ⟨122, _⟩ => ⟨S32x64x256x256, .f32⟩
  | .hbm, ⟨123, _⟩ => ⟨S32x64x256x256, .f32⟩
  | .hbm, ⟨124, _⟩ => ⟨S32x64x64x256, .f32⟩
  | .hbm, ⟨125, _⟩ => ⟨S32x256x64x64, .f32⟩
  | .hbm, ⟨126, _⟩ => ⟨S32x256x4096, .f32⟩
  | .hbm, ⟨127, _⟩ => ⟨S32x256x512, .f32⟩
  | _, _ => ⟨S32x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.KI.Arith.lean ====
/- The ring's arithmetic: neighbours, the devices and the offsets the kernel computes, its loop's conditions. -/
module

public import proofs.«01_k».proof.Proof.Gen.KernelIdeal.Skeleton

@[expose] public section

namespace Cert.KernelIdeal.Ring

open Idealize.ShloMosaic Cert.KernelIdeal Cert.KernelIdeal.Gen

/-- The neighbour to the right, and the one to the left. -/
def rt (c : Dev nD) : Dev nD := ⟨(c.val + 1) % 16, Nat.mod_lt _ (by decide)⟩
def lf (c : Dev nD) : Dev nD := ⟨(c.val + 15) % 16, Nat.mod_lt _ (by decide)⟩

theorem rt_lf : ∀ c : Dev nD, rt (lf c) = c := by decide +kernel
theorem lf_rt : ∀ c : Dev nD, lf (rt c) = c := by decide +kernel

theorem dev1_eq : ∀ c : Dev nD, k0_dev1 c = (lf c).val := by decide +kernel
theorem dev2_eq : ∀ c : Dev nD, k0_dev2 c = (rt c).val := by decide +kernel
theorem dev3_eq : ∀ c : Dev nD, k0_dev3 c = (rt c).val := by decide +kernel
theorem dev4_eq : ∀ c : Dev nD, k0_dev4 c = (rt c).val := by decide +kernel
theorem dev5_eq : ∀ c : Dev nD, k0_dev5 c = (lf c).val := by decide +kernel
theorem dev6_eq : ∀ c : Dev nD, k0_dev6 c = (lf c).val := by decide +kernel
theorem dev7_eq : ∀ c : Dev nD, k0_dev7 c = (rt c).val := by decide +kernel
theorem dev8_eq : ∀ c : Dev nD, k0_dev8 c = (rt c).val := by decide +kernel
theorem dev9_eq : ∀ c : Dev nD, k0_dev9 c = (lf c).val := by decide +kernel
theorem dev10_eq : ∀ c : Dev nD, k0_dev10 c = (lf c).val := by decide +kernel

theorem cond1_iff : ∀ t : Fin k0_t1_loop.trips, k0_cond1 t = 1#1 ↔ t.val < 7 := by decide +kernel
theorem cond2_iff : ∀ t : Fin k0_t1_loop.trips, k0_cond2 t = 1#1 ↔ t.val < 7 := by decide +kernel
theorem cond3_iff : ∀ t : Fin k0_t1_loop.trips, k0_cond3 t = 1#1 ↔ t.val < 6 := by decide +kernel
theorem cond4_iff : ∀ t : Fin k0_t1_loop.trips, k0_cond4 t = 1#1 ↔ t.val < 7 := by decide +kernel

/-- The slot a transfer into slot `k` reads from on the sending device. -/
def src (k : ℕ) : ℕ := if k = 9 then 0 else k - 1

theorem off3_eq : ∀ t : Fin k0_t1_loop.trips, k0_off3 t = ![t.val] := by decide +kernel
theorem off4_eq : ∀ t : Fin k0_t1_loop.trips, k0_off4 t = ![t.val, 0, 0] := by decide +kernel
theorem off5_eq : ∀ t : Fin k0_t1_loop.trips, k0_off5 t = ![t.val + 1, 0, 0] := by decide +kernel
theorem off6_eq : ∀ t : Fin k0_t1_loop.trips, k0_off6 t = ![t.val + 1] := by decide +kernel
theorem off7_eq : ∀ t : Fin k0_t1_loop.trips, k0_off7 t = ![t.val, 0, 0] := by decide +kernel
theorem off8_eq : ∀ t : Fin k0_t1_loop.trips, k0_off8 t = ![t.val + 1, 0, 0] := by decide +kernel
theorem off9_eq : ∀ t : Fin k0_t1_loop.trips, k0_off9 t = ![t.val + 1] := by decide +kernel
theorem off10_eq : ∀ t : Fin k0_t1_loop.trips, k0_off10 t = ![t.val + 2] := by decide +kernel
theorem off11_eq : ∀ t : Fin k0_t1_loop.trips, k0_off11 t = ![t.val + 2, 0, 0] := by decide +kernel
theorem off12_eq : ∀ t : Fin k0_t1_loop.trips, k0_off12 t = ![t.val + 1, 0, 0] := by decide +kernel
theorem off13_eq : ∀ t : Fin k0_t1_loop.trips, k0_off13 t = ![t.val + 2, 0, 0] := by decide +kernel
theorem off14_eq : ∀ t : Fin k0_t1_loop.trips, k0_off14 t = ![t.val + 1, 0, 0] := by decide +kernel
theorem off15_eq : ∀ t : Fin k0_t1_loop.trips, k0_off15 t = ![t.val + 8] := by decide +kernel
theorem off16_eq : ∀ t : Fin k0_t1_loop.trips, k0_off16 t = ![src (t.val + 9), 0, 0] := by decide +kernel
theorem off17_eq : ∀ t : Fin k0_t1_loop.trips, k0_off17 t = ![t.val + 9, 0, 0] := by decide +kernel
theorem off18_eq : ∀ t : Fin k0_t1_loop.trips, k0_off18 t = ![t.val + 9] := by decide +kernel
theorem off19_eq : ∀ t : Fin k0_t1_loop.trips, k0_off19 t = ![src (t.val + 9), 0, 0] := by decide +kernel
theorem off20_eq : ∀ t : Fin k0_t1_loop.trips, k0_off20 t = ![t.val + 9, 0, 0] := by decide +kernel
theorem off21_eq : ∀ t : Fin k0_t1_loop.trips, k0_off21 t = ![t.val + 9] := by decide +kernel
theorem off22_eq : ∀ t : Fin k0_t1_loop.trips, k0_off22 t = ![t.val + 10] := by decide +kernel
theorem off23_eq : ∀ t : Fin k0_t1_loop.trips, k0_off23 t = ![t.val + 10, 0, 0] := by decide +kernel
theorem off24_eq : ∀ t : Fin k0_t1_loop.trips, k0_off24 t = ![t.val + 9, 0, 0] := by decide +kernel
theorem off25_eq : ∀ t : Fin k0_t1_loop.trips, k0_off25 t = ![t.val + 10, 0, 0] := by decide +kernel
theorem off26_eq : ∀ t : Fin k0_t1_loop.trips, k0_off26 t = ![t.val + 9, 0, 0] := by decide +kernel
theorem off27_eq : ∀ t : Fin k0_t1_loop.trips, k0_off27 t = ![t.val + 1, 0, 0] := by decide +kernel
theorem off28_eq : ∀ t : Fin k0_t1_loop.trips, k0_off28 t = ![t.val + 1, 0, 0] := by decide +kernel
theorem off31_eq : ∀ t : Fin k0_t1_loop.trips, k0_off31 t = ![t.val + 9, 0, 0] := by decide +kernel
theorem off32_eq : ∀ t : Fin k0_t1_loop.trips, k0_off32 t = ![t.val + 9, 0, 0] := by decide +kernel

/-- The device whose weights slot `k` of device `c` ends up with. -/
def org (c : Dev nD) (k : ℕ) : Dev nD :=
  ⟨if k ≤ 8 then (c.val + 16 - k) % 16 else (c.val + (k - 8)) % 16, by split <;> exact Nat.mod_lt _ (by decide)⟩

theorem org_zero : ∀ c : Dev nD, org c 0 = c := by decide +kernel

/-- The device that a transfer into slot `k` goes to, and the one it comes from. -/
def dst (k : ℕ) (c : Dev nD) : Dev nD := if k ≤ 8 then rt c else lf c
def frm (k : ℕ) (c : Dev nD) : Dev nD := if k ≤ 8 then lf c else rt c

theorem dst_frm (k : ℕ) (c : Dev nD) : dst k (frm k c) = c := by
  unfold dst frm; split <;> simp only [rt_lf, lf_rt]
theorem frm_dst (k : ℕ) (c : Dev nD) : frm k (dst k c) = c := by
  unfold dst frm; split <;> simp only [rt_lf, lf_rt]

/-- The weights travel unchanged: slot `k` of the receiver is for the device of the sender's source slot. -/
theorem org_dst : ∀ c : Dev nD, ∀ k : Fin 16, k ≠ 0 → org (dst k.val c) k.val = org c (src k.val) := by decide +kernel

theorem off1_eq : ∀ c : Dev nD, ∀ h : Fin 4, k0_off1 c (BitVec.ofNat 32 h.val) = ![c.val * 4 + h.val, 0, 0, 0] := by
  decide +kernel
theorem off2_eq : ∀ c : Dev nD, ∀ h : Fin 4, k0_off2 c (BitVec.ofNat 32 h.val) = ![c.val * 4 + h.val, 1, 0, 0] := by
  decide +kernel
theorem off29_eq : ∀ c : Dev nD, ∀ t : Fin k0_t1_loop.trips, ∀ h : Fin 4,
    k0_off29 c t (BitVec.ofNat 32 h.val) = ![(org c (t.val + 1)).val * 4 + h.val, 0, 0, 0] := by
  decide +kernel
theorem off30_eq : ∀ c : Dev nD, ∀ t : Fin k0_t1_loop.trips, ∀ h : Fin 4,
    k0_off30 c t (BitVec.ofNat 32 h.val) = ![(org c (t.val + 1)).val * 4 + h.val, 1, 0, 0] := by
  decide +kernel
theorem off33_eq : ∀ c : Dev nD, ∀ t : Fin k0_t1_loop.trips, ∀ h : Fin 4, t.val < 7 →
    k0_off33 c t (BitVec.ofNat 32 h.val) = ![(org c (t.val + 9)).val * 4 + h.val, 0, 0, 0] := by
  decide +kernel
theorem off34_eq : ∀ c : Dev nD, ∀ t : Fin k0_t1_loop.trips, ∀ h : Fin 4, t.val < 7 →
    k0_off34 c t (BitVec.ofNat 32 h.val) = ![(org c (t.val + 9)).val * 4 + h.val, 1, 0, 0] := by
  decide +kernel

end Cert.KernelIdeal.Ring
-- ==== Proof.KI.Slots.lean ====
/- The two sixteen-slot buffers: their slots' views and element sets, the contents every slot ends up with, and that a
   transfer from one slot to another lands exactly those contents. -/
module

public import proofs.«01_k».proof.Proof.KI.Arith
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Slot views -/

abbrev aM : Memref sig .tc .vmem S16x512x256 .bf16 := Memref.whole cc0_scratch0
abbrev bM : Memref sig .tc .vmem S16x256x512 .bf16 := Memref.whole cc0_scratch1

/-- One slot of the first buffer (the query weights), and one of the second (the output weights), as the kernel spells them. -/
abbrev slotA (off : Fin 3 → ℕ) (inb : ∀ a, off a + S1x512x256.size a ≤ S16x512x256.size a) : Memref sig .tc .vmem S512x256 .bf16 :=
  (aM.slice (Rect.unit (s := S16x512x256) off S1x512x256.size inb) (fun _ => rfl)).squeeze S512x256 squeezes_S1x512x256_S512x256
abbrev slotB (off : Fin 3 → ℕ) (inb : ∀ a, off a + S1x256x512.size a ≤ S16x256x512.size a) : Memref sig .tc .vmem S256x512 .bf16 :=
  (bM.slice (Rect.unit (s := S16x256x512) off S1x256x512.size inb) (fun _ => rfl)).squeeze S256x512 squeezes_S1x256x512_S256x512

/-- The elements of slot `k`. -/
def setA (k : ℕ) : Finset S16x512x256.Idx := Finset.univ.filter fun i => (i 0).val = k
def setB (k : ℕ) : Finset S16x256x512.Idx := Finset.univ.filter fun i => (i 0).val = k

theorem rectA_set {off : Fin 3 → ℕ} {inb : ∀ a, off a + S1x512x256.size a ≤ S16x512x256.size a} {k : ℕ} (h : off = ![k, 0, 0]) :
    (Rect.unit (s := S16x512x256) off S1x512x256.size inb).set = setA k := by
  subst h
  ext i
  rw [Rect.mem_set_unit]
  unfold setA
  rw [Finset.mem_filter]
  constructor
  · intro h
    have h0 := h 0
    refine ⟨Finset.mem_univ _, ?_⟩
    have h1 : k ≤ (i 0).val := h0.1
    have h2 : (i 0).val < k + 1 := h0.2
    omega
  · rintro ⟨-, h⟩ a
    fin_cases a
    · exact ⟨le_of_eq h.symm, by show (i 0).val < k + 1; omega⟩
    · exact ⟨Nat.zero_le _, by show (i 1).val < 0 + 512; have := (i 1).isLt; rw [Nat.zero_add]; exact this⟩
    · exact ⟨Nat.zero_le _, by show (i 2).val < 0 + 256; have := (i 2).isLt; rw [Nat.zero_add]; exact this⟩

theorem rectB_set {off : Fin 3 → ℕ} {inb : ∀ a, off a + S1x256x512.size a ≤ S16x256x512.size a} {k : ℕ} (h : off = ![k, 0, 0]) :
    (Rect.unit (s := S16x256x512) off S1x256x512.size inb).set = setB k := by
  subst h
  ext i
  rw [Rect.mem_set_unit]
  unfold setB
  rw [Finset.mem_filter]
  constructor
  · intro h
    have h0 := h 0
    refine ⟨Finset.mem_univ _, ?_⟩
    have h1 : k ≤ (i 0).val := h0.1
    have h2 : (i 0).val < k + 1 := h0.2
    omega
  · rintro ⟨-, h⟩ a
    fin_cases a
    · exact ⟨le_of_eq h.symm, by show (i 0).val < k + 1; omega⟩
    · exact ⟨Nat.zero_le _, by show (i 1).val < 0 + 256; have := (i 1).isLt; rw [Nat.zero_add]; exact this⟩
    · exact ⟨Nat.zero_le _, by show (i 2).val < 0 + 512; have := (i 2).isLt; rw [Nat.zero_add]; exact this⟩

theorem accA_set {off : Fin 3 → ℕ} {inb : ∀ a, off a + S1x512x256.size a ≤ S16x512x256.size a} {k : ℕ} (h : off = ![k, 0, 0]) :
    (aM.access (Rect.unit (s := S16x512x256) off S1x512x256.size inb)).set = setA k :=
  (View.set_slice_whole _ _).trans (rectA_set h)

theorem slotA_set {off : Fin 3 → ℕ} {inb : ∀ a, off a + S1x512x256.size a ≤ S16x512x256.size a} {k : ℕ} (h : off = ![k, 0, 0]) :
    (slotA off inb).view.set = setA k := by
  refine (View.set_reshape _ _).trans ((View.set_slice_whole _ _).trans (rectA_set h))

theorem accB_set {off : Fin 3 → ℕ} {inb : ∀ a, off a + S1x256x512.size a ≤ S16x256x512.size a} {k : ℕ} (h : off = ![k, 0, 0]) :
    (bM.access (Rect.unit (s := S16x256x512) off S1x256x512.size inb)).set = setB k :=
  (View.set_slice_whole _ _).trans (rectB_set h)

theorem slotB_set {off : Fin 3 → ℕ} {inb : ∀ a, off a + S1x256x512.size a ≤ S16x256x512.size a} {k : ℕ} (h : off = ![k, 0, 0]) :
    (slotB off inb).view.set = setB k := by
  refine (View.set_reshape _ _).trans ((View.set_slice_whole _ _).trans (rectB_set h))

/-! ## Contents -/

/-- An element of a sixteen-slot buffer, as an element of one slot. -/
def inA (i : S16x512x256.Idx) : S1x512x256.Idx := fun a => ⟨if a = 0 then 0 else (i a).val, by
  fin_cases a
  · exact Nat.zero_lt_one
  · exact (i 1).isLt
  · exact (i 2).isLt⟩
def inB (i : S16x256x512.Idx) : S1x256x512.Idx := fun a => ⟨if a = 0 then 0 else (i a).val, by
  fin_cases a
  · exact Nat.zero_lt_one
  · exact (i 1).isLt
  · exact (i 2).isLt⟩

theorem inA_emb {off : Fin 3 → ℕ} {inb : ∀ a, off a + S1x512x256.size a ≤ S16x512x256.size a} {k : ℕ} (h : off = ![k, 0, 0])
    (x : S1x512x256.Idx) : inA ((Rect.unit (s := S16x512x256) off S1x512x256.size inb).emb x) = x := by
  subst h
  funext a
  apply Fin.ext
  fin_cases a
  · have := (x 0).isLt
    show 0 = (x 0).val
    have h1 : (x 0).val < 1 := this
    omega
  · show 0 + 1 * (x 1).val = (x 1).val
    omega
  · show 0 + 1 * (x 2).val = (x 2).val
    omega

theorem inB_emb {off : Fin 3 → ℕ} {inb : ∀ a, off a + S1x256x512.size a ≤ S16x256x512.size a} {k : ℕ} (h : off = ![k, 0, 0])
    (x : S1x256x512.Idx) : inB ((Rect.unit (s := S16x256x512) off S1x256x512.size inb).emb x) = x := by
  subst h
  funext a
  apply Fin.ext
  fin_cases a
  · have := (x 0).isLt
    show 0 = (x 0).val
    have h1 : (x 0).val < 1 := this
    omega
  · show 0 + 1 * (x 1).val = (x 1).val
    omega
  · show 0 + 1 * (x 2).val = (x 2).val
    omega

theorem slotIxA_emb {off : Fin 3 → ℕ} {inb : ∀ a, off a + S1x512x256.size a ≤ S16x512x256.size a} {k : ℕ} (h : off = ![k, 0, 0])
    (x : S1x512x256.Idx) : (((Rect.unit (s := S16x512x256) off S1x512x256.size inb).emb x) 0).val = k := by
  subst h
  have : (x 0).val < 1 := (x 0).isLt
  show k + 1 * (x 0).val = k
  omega

theorem slotIxB_emb {off : Fin 3 → ℕ} {inb : ∀ a, off a + S1x256x512.size a ≤ S16x256x512.size a} {k : ℕ} (h : off = ![k, 0, 0])
    (x : S1x256x512.Idx) : (((Rect.unit (s := S16x256x512) off S1x256x512.size inb).emb x) 0).val = k := by
  subst h
  have : (x 0).val < 1 := (x 0).isLt
  show k + 1 * (x 0).val = k
  omega

variable (Wq : Dev nD → S1x512x256.Idx → Elt F .bf16) (Wo : Dev nD → S1x256x512.Idx → Elt F .bf16)

/-- What device `c`'s slots end up with: in slot `k` the weights of device `org c k`. -/
def allA (c : Dev nD) : S16x512x256.Idx → Elt F .bf16 := fun i => Wq (org c (i 0).val) (inA i)
def allB (c : Dev nD) : S16x256x512.Idx → Elt F .bf16 := fun i => Wo (org c (i 0).val) (inB i)

/-- A load of slot `k` reads the weights of device `org c k`. -/
theorem readA {off : Fin 3 → ℕ} {inb : ∀ a, off a + S1x512x256.size a ≤ S16x512x256.size a} {k : ℕ} (h : off = ![k, 0, 0]) (c : Dev nD) :
    aM.view.readAt (Elt F) (Rect.unit (s := S16x512x256) off S1x512x256.size inb).toLoadRect (allA Wq c) = Wq (org c k) := by
  funext x
  show Wq (org c (((Rect.unit (s := S16x512x256) off S1x512x256.size inb).emb x) 0).val) (inA ((Rect.unit (s := S16x512x256) off S1x512x256.size inb).emb x)) = _
  rw [slotIxA_emb h, inA_emb h]

theorem readB {off : Fin 3 → ℕ} {inb : ∀ a, off a + S1x256x512.size a ≤ S16x256x512.size a} {k : ℕ} (h : off = ![k, 0, 0]) (c : Dev nD) :
    bM.view.readAt (Elt F) (Rect.unit (s := S16x256x512) off S1x256x512.size inb).toLoadRect (allB Wo c) = Wo (org c k) := by
  funext x
  show Wo (org c (((Rect.unit (s := S16x256x512) off S1x256x512.size inb).emb x) 0).val) (inB ((Rect.unit (s := S16x256x512) off S1x256x512.size inb).emb x)) = _
  rw [slotIxB_emb h, inB_emb h]

/-- Storing a device's own weights in slot `k` makes the slot's contents. -/
theorem storeA {off : Fin 3 → ℕ} {inb : ∀ a, off a + S1x512x256.size a ≤ S16x512x256.size a} {k : ℕ} (h : off = ![k, 0, 0]) (c : Dev nD)
    (f : S16x512x256.Idx → Elt F .bf16) (w : S1x512x256.Idx → Elt F .bf16) (hw : w = Wq (org c k)) :
    ∀ i ∈ setA k, (aM.access (Rect.unit (s := S16x512x256) off S1x512x256.size inb)).write (Elt F) f w Finset.univ i = allA Wq c i := by
  intro i hi
  have hi' : i ∈ (aM.access (Rect.unit (s := S16x512x256) off S1x512x256.size inb)).set := by
    exact (Finset.ext_iff.mp (accA_set h) i).mpr hi
  obtain ⟨x, -, rfl⟩ := Finset.mem_map.mp hi'
  refine (View.write_emb_of_mem _ _ (Finset.mem_univ x)).trans ?_
  show w x = Wq (org c (((Rect.unit (s := S16x512x256) off S1x512x256.size inb).emb x) 0).val) (inA ((Rect.unit (s := S16x512x256) off S1x512x256.size inb).emb x))
  rw [slotIxA_emb h, inA_emb h, hw]

theorem storeB {off : Fin 3 → ℕ} {inb : ∀ a, off a + S1x256x512.size a ≤ S16x256x512.size a} {k : ℕ} (h : off = ![k, 0, 0]) (c : Dev nD)
    (f : S16x256x512.Idx → Elt F .bf16) (w : S1x256x512.Idx → Elt F .bf16) (hw : w = Wo (org c k)) :
    ∀ i ∈ setB k, (bM.access (Rect.unit (s := S16x256x512) off S1x256x512.size inb)).write (Elt F) f w Finset.univ i = allB Wo c i := by
  intro i hi
  have hi' : i ∈ (bM.access (Rect.unit (s := S16x256x512) off S1x256x512.size inb)).set := by
    exact (Finset.ext_iff.mp (accB_set h) i).mpr hi
  obtain ⟨x, -, rfl⟩ := Finset.mem_map.mp hi'
  refine (View.write_emb_of_mem _ _ (Finset.mem_univ x)).trans ?_
  show w x = Wo (org c (((Rect.unit (s := S16x256x512) off S1x256x512.size inb).emb x) 0).val) (inB ((Rect.unit (s := S16x256x512) off S1x256x512.size inb).emb x))
  rw [slotIxB_emb h, inB_emb h, hw]

/-- A transfer from slot `j` of device `c` into slot `k` of device `c'` lands the latter's contents. -/
theorem landA {off off' : Fin 3 → ℕ} {inb : ∀ a, off a + S1x512x256.size a ≤ S16x512x256.size a}
    {inb' : ∀ a, off' a + S1x512x256.size a ≤ S16x512x256.size a} {j k : ℕ} (h : off = ![j, 0, 0]) (h' : off' = ![k, 0, 0])
    (c c' : Dev nD) (ho : org c' k = org c j) (f : S16x512x256.Idx → Elt F .bf16) :
    ∀ i ∈ setA k, (slotA off' inb').view.write (Elt F) f ((slotA off inb).view.read (Elt F) (allA Wq c)) Finset.univ i = allA Wq c' i := by
  intro i hi
  have hi' : i ∈ (slotA off' inb').view.set := (Finset.ext_iff.mp (slotA_set (inb := inb') h') i).mpr hi
  obtain ⟨y, -, rfl⟩ := Finset.mem_map.mp hi'
  refine (View.write_emb_of_mem _ _ (Finset.mem_univ y)).trans ?_
  obtain ⟨x, hx⟩ : ∃ x : S1x512x256.Idx, ∀ (o : Fin 3 → ℕ) (ib : ∀ a, o a + S1x512x256.size a ≤ S16x512x256.size a),
      (slotA o ib).view.emb y = (Rect.unit (s := S16x512x256) o S1x512x256.size ib).emb x :=
    ⟨Shape.reshapeEquiv squeezes_S1x512x256_S512x256.numel_eq y, fun _ _ => rfl⟩
  show allA Wq c ((slotA off inb).view.emb y) = allA Wq c' ((slotA off' inb').view.emb y)
  rw [hx, hx]
  unfold allA
  rw [slotIxA_emb h, slotIxA_emb h', inA_emb h, inA_emb h', ho]

theorem landB {off off' : Fin 3 → ℕ} {inb : ∀ a, off a + S1x256x512.size a ≤ S16x256x512.size a}
    {inb' : ∀ a, off' a + S1x256x512.size a ≤ S16x256x512.size a} {j k : ℕ} (h : off = ![j, 0, 0]) (h' : off' = ![k, 0, 0])
    (c c' : Dev nD) (ho : org c' k = org c j) (f : S16x256x512.Idx → Elt F .bf16) :
    ∀ i ∈ setB k, (slotB off' inb').view.write (Elt F) f ((slotB off inb).view.read (Elt F) (allB Wo c)) Finset.univ i = allB Wo c' i := by
  intro i hi
  have hi' : i ∈ (slotB off' inb').view.set := (Finset.ext_iff.mp (slotB_set (inb := inb') h') i).mpr hi
  obtain ⟨y, -, rfl⟩ := Finset.mem_map.mp hi'
  refine (View.write_emb_of_mem _ _ (Finset.mem_univ y)).trans ?_
  obtain ⟨x, hx⟩ : ∃ x : S1x256x512.Idx, ∀ (o : Fin 3 → ℕ) (ib : ∀ a, o a + S1x256x512.size a ≤ S16x256x512.size a),
      (slotB o ib).view.emb y = (Rect.unit (s := S16x256x512) o S1x256x512.size ib).emb x :=
    ⟨Shape.reshapeEquiv squeezes_S1x256x512_S256x512.numel_eq y, fun _ _ => rfl⟩
  show allB Wo c ((slotB off inb).view.emb y) = allB Wo c' ((slotB off' inb').view.emb y)
  rw [hx, hx]
  unfold allB
  rw [slotIxB_emb h, slotIxB_emb h', inB_emb h, inB_emb h', ho]

/-- The elements of distinct slots are apart; the sixteen slots make the buffer. -/
theorem setA_disjoint {j k : ℕ} (h : j ≠ k) : Disjoint (setA j) (setA k) :=
  Finset.disjoint_left.mpr fun i hj hk => h ((Finset.mem_filter.mp hj).2.symm.trans (Finset.mem_filter.mp hk).2)
theorem setB_disjoint {j k : ℕ} (h : j ≠ k) : Disjoint (setB j) (setB k) :=
  Finset.disjoint_left.mpr fun i hj hk => h ((Finset.mem_filter.mp hj).2.symm.trans (Finset.mem_filter.mp hk).2)
theorem setA_cover : (Finset.univ : Finset (Fin 16)).biUnion (fun k => setA k.val) = Finset.univ := by
  ext i
  simp only [Finset.mem_biUnion, Finset.mem_univ, true_and, iff_true]
  exact ⟨i 0, Finset.mem_filter.mpr ⟨Finset.mem_univ _, rfl⟩⟩
theorem setB_cover : (Finset.univ : Finset (Fin 16)).biUnion (fun k => setB k.val) = Finset.univ := by
  ext i
  simp only [Finset.mem_biUnion, Finset.mem_univ, true_and, iff_true]
  exact ⟨i 0, Finset.mem_filter.mpr ⟨Finset.mem_univ _, rfl⟩⟩

end Cert.KernelIdeal.Ring

end
-- ==== Proof.KI.Sched.lean ====
/- The protocol's schedule: the cells, what each landing and each signal hands over, the amounts, what is owed, the levels.

   A TRANSFER is named by a buffer (`false` the query weights', `true` the output weights') and the slot `k ≠ 0` it lands in:
   it reads slot `src k`, goes to device `dst k c`, and uses the sender's send cell and the receiver's receive cell of `k`. -/
module

public import proofs.«01_k».proof.Proof.KI.Slots

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A transfer: its buffer and the slot it lands in. -/
abbrev Tr : Type := Bool × Fin 16

/-- The send and the receive semaphore of a transfer. Slot 0 stands for the two cells of a buffer that no transfer uses. -/
def sendI (p : Tr) : DmaSem sig := ⟨(if p.1 then 38 else 6) + (p.2.val + 15) % 16, by
  have : (p.2.val + 15) % 16 < 16 := Nat.mod_lt _ (by decide)
  show _ < 70
  split <;> omega⟩
def recvI (p : Tr) : DmaSem sig := ⟨(if p.1 then 54 else 22) + p.2.val, by
  have : p.2.val < 16 := p.2.isLt
  show _ < 70
  split <;> omega⟩

abbrev barS : Sem sig := barrier0
abbrev barC (c : Dev nD) : GSem nD τ sig := ((c : Thread nD τ), .reg barS)
abbrev sendC (c : Dev nD) (p : Tr) : GSem nD τ sig := ((c : Thread nD τ), .dma (sendI p))
abbrev recvC (c : Dev nD) (p : Tr) : GSem nD τ sig := ((c : Thread nD τ), .dma (recvI p))

/-- The transfer a semaphore belongs to, and whether it is its receive semaphore. -/
def dec (i : DmaSem sig) : Option (Bool × Tr) :=
  if i.val < 6 then none
  else if i.val < 22 then some (false, false, ⟨(i.val - 5) % 16, Nat.mod_lt _ (by decide)⟩)
  else if i.val < 38 then some (true, false, ⟨(i.val - 22) % 16, Nat.mod_lt _ (by decide)⟩)
  else if i.val < 54 then some (false, true, ⟨(i.val - 37) % 16, Nat.mod_lt _ (by decide)⟩)
  else some (true, true, ⟨(i.val - 54) % 16, Nat.mod_lt _ (by decide)⟩)

theorem dec_send : ∀ p : Tr, dec (sendI p) = some (false, p) := by decide +kernel
theorem dec_recv : ∀ p : Tr, dec (recvI p) = some (true, p) := by decide +kernel

theorem recvI_inj {p q : Tr} (h : recvI p = recvI q) : p = q := by
  have := congrArg dec h
  rw [dec_recv, dec_recv] at this
  exact (Prod.mk.inj (Option.some.inj this)).2
theorem sendI_inj {p q : Tr} (h : sendI p = sendI q) : p = q := by
  have := congrArg dec h
  rw [dec_send, dec_send] at this
  exact (Prod.mk.inj (Option.some.inj this)).2
theorem sendI_ne_recvI (p q : Tr) : sendI p ≠ recvI q := by
  intro h
  have := congrArg dec h
  rw [dec_send, dec_recv] at this
  exact absurd (Prod.mk.inj (Option.some.inj this)).1 (by decide)

/-- The semaphores as the kernel spells them. -/
theorem semA_send' : ∀ k : Fin 16, k ≠ 0 → ∀ inb : ∀ a, (![k.val - 1] : Fin 1 → ℕ) a + S1.size a ≤ S16.size a,
    ((cc0_scratch2.slice (Rect.unit (s := S16) ![k.val - 1] S1.size inb)).squeeze S_ squeezes_S1_S_).sem = sendI (false, k) := by
  decide +kernel
theorem semA_send {off : Fin 1 → ℕ} {inb : ∀ a, off a + S1.size a ≤ S16.size a} (k : Fin 16) (hk : k ≠ 0) (h : off = ![k.val - 1]) :
    ((cc0_scratch2.slice (Rect.unit (s := S16) off S1.size inb)).squeeze S_ squeezes_S1_S_).sem = sendI (false, k) := by
  subst h; exact semA_send' k hk inb
theorem semA_recv' : ∀ k : Fin 16, ∀ inb : ∀ a, (![k.val] : Fin 1 → ℕ) a + S1.size a ≤ S16.size a,
    ((cc0_scratch3.slice (Rect.unit (s := S16) ![k.val] S1.size inb)).squeeze S_ squeezes_S1_S_).sem = recvI (false, k) := by
  decide +kernel
theorem semA_recv {off : Fin 1 → ℕ} {inb : ∀ a, off a + S1.size a ≤ S16.size a} (k : Fin 16) (h : off = ![k.val]) :
    ((cc0_scratch3.slice (Rect.unit (s := S16) off S1.size inb)).squeeze S_ squeezes_S1_S_).sem = recvI (false, k) := by
  subst h; exact semA_recv' k inb
theorem semB_send' : ∀ k : Fin 16, k ≠ 0 → ∀ inb : ∀ a, (![k.val - 1] : Fin 1 → ℕ) a + S1.size a ≤ S16.size a,
    ((cc0_scratch4.slice (Rect.unit (s := S16) ![k.val - 1] S1.size inb)).squeeze S_ squeezes_S1_S_).sem = sendI (true, k) := by
  decide +kernel
theorem semB_send {off : Fin 1 → ℕ} {inb : ∀ a, off a + S1.size a ≤ S16.size a} (k : Fin 16) (hk : k ≠ 0) (h : off = ![k.val - 1]) :
    ((cc0_scratch4.slice (Rect.unit (s := S16) off S1.size inb)).squeeze S_ squeezes_S1_S_).sem = sendI (true, k) := by
  subst h; exact semB_send' k hk inb
theorem semB_recv' : ∀ k : Fin 16, ∀ inb : ∀ a, (![k.val] : Fin 1 → ℕ) a + S1.size a ≤ S16.size a,
    ((cc0_scratch5.slice (Rect.unit (s := S16) ![k.val] S1.size inb)).squeeze S_ squeezes_S1_S_).sem = recvI (true, k) := by
  decide +kernel
theorem semB_recv {off : Fin 1 → ℕ} {inb : ∀ a, off a + S1.size a ≤ S16.size a} (k : Fin 16) (h : off = ![k.val]) :
    ((cc0_scratch5.slice (Rect.unit (s := S16) off S1.size inb)).squeeze S_ squeezes_S1_S_).sem = recvI (true, k) := by
  subst h; exact semB_recv' k inb

/-! ## What the slots hold, as resources -/

abbrev scr : Bool → Ref sig .tc | false => cc0_scratch0 | true => cc0_scratch1

def slotSet : (b : Bool) → ℕ → Finset (scr b).ty.Idx
  | false, k => setA k
  | true, k => setB k

variable (Wq : Dev nD → S1x512x256.Idx → Elt F .bf16) (Wo : Dev nD → S1x256x512.Idx → Elt F .bf16)

/-- The contents device `c`'s buffer `b` ends up with. -/
def all (c : Dev nD) : (b : Bool) → (scr b).ty.Contents (Elt F)
  | false => allA Wq c
  | true => allB Wo c

/-- Slot `k` of device `c`'s buffer `b`, at share `q`, with the contents `f` (the buffer's, of which only the slot's matter). -/
def pts (c : Dev nD) (b : Bool) (k : ℕ) (q : PosShare TreeShare) (f : (scr b).ty.Contents (Elt F)) : sProp 𝕄 :=
  ((c : Thread nD τ).loc (scr b)) ↦[slotSet b k]{q} f

omit [FloatOps F] [Named F] in
instance pts_storable (c : Dev nD) (b : Bool) (k : ℕ) (q) (f) : BI.Storable (upEmb : UEmb _ 𝕄) (pts (F := F) c b k q f) := by
  unfold pts; infer_instance

/-- The share of its source that a transfer lends: half a slot; of slot 0, which two transfers read, a half and a quarter. -/
def lent (k : ℕ) : PosShare TreeShare := if k = 9 then fullShare.right.left else fullShare.left

/-- A receiving slot not yet written, handed by its device, and that its receive cell has reached round 0. -/
def vacant (c : Dev nD) (p : Tr) : sProp 𝕄 :=
  iprop((∃ f, pts (F := F) c p.1 p.2.val fullShare f) ∗ reached ER (recvC c p) 0)

/-- The transfers, and those of one direction (`true`: from a device to its right). -/
def live : Finset Tr := Finset.univ.filter fun p => p.2 ≠ 0
def dir : Bool → Finset Tr
  | true => Finset.univ.filter fun p => p.2 ≠ 0 ∧ p.2.val ≤ 8
  | false => Finset.univ.filter fun p => p.2 ≠ 0 ∧ ¬ p.2.val ≤ 8

/-- Paid to device `c`'s barrier cell: by its right neighbour the slots that `c`'s transfers to the right land in, by its left
    neighbour those that `c`'s transfers to the left land in. -/
def barPay (c : Dev nD) (d : Bool) : sProp 𝕄 := bigSep (dir d) fun p => vacant (F := F) (dst p.2.val c) p

/-- Paid to a send cell: the share of the source that was lent. To a receive cell: the slot, at its contents. -/
def sendPay (c : Dev nD) (p : Tr) : sProp 𝕄 := pts c p.1 (src p.2.val) (lent p.2.val) (all Wq Wo c p.1)
def recvPay (c : Dev nD) (p : Tr) : sProp 𝕄 := pts c p.1 p.2.val fullShare (all Wq Wo c p.1)

/-! ## The schedule -/

/-- What one transfer of a buffer credits its cells by. -/
def N : Bool → ℕ
  | false => (slotA ![0, 0, 0] (by decide)).view.dmaCredit
  | true => (slotB ![0, 0, 0] (by decide)).view.dmaCredit

theorem N_pos (b : Bool) : 0 < N b := by
  cases b
  · exact View.dmaCredit_pos _ (by decide)
  · exact View.dmaCredit_pos _ (by decide)

def dutyOf : SemLoc sig → Finset Bool
  | .reg s => if s = barS then Finset.univ else ∅
  | .dma i => match dec i with
    | none => ∅
    | some (_, p) => if p.2 = 0 then ∅ else {true}

def amtOf : SemLoc sig → ℕ
  | .reg _ => 1
  | .dma i => match dec i with
    | none => 1
    | some (_, p) => N p.1

def payOf (c : Dev nD) (d : Bool) : SemLoc sig → sProp 𝕄
  | .reg _ => barPay c d
  | .dma i => match dec i with
    | none => iprop(emp)
    | some (false, p) => sendPay Wq Wo c p
    | some (true, p) => recvPay Wq Wo c p

/-- One round of every cell: two units on a barrier cell, one landing on a used send or receive cell. -/
def Rd : Rounds.Schedule (GSem nD τ sig) Bool 𝕄 where
  duties g r := if r = 0 ∧ g.1.2 = .tc then dutyOf g.2 else ∅
  unitless _ := False
  amount g _ _ := amtOf g.2
  payload g _ d := payOf Wq Wo g.1.1 d g.2
  amount_pos g _ _ _ := by
    show 0 < amtOf g.2
    unfold amtOf
    split
    · exact Nat.one_pos
    · split
      · exact Nat.one_pos
      · exact N_pos _

instance Rd_storable (g : GSem nD τ sig) (r : ℕ) (d : Bool) :
    BI.Storable (upEmb : UEmb _ 𝕄) ((Rd (F := F) Wq Wo).payload g r d) := by
  show BI.Storable upEmb (payOf Wq Wo g.1.1 d g.2)
  unfold payOf
  split
  · unfold barPay vacant; infer_instance
  · split
    · infer_instance
    · unfold sendPay; infer_instance
    · unfold recvPay; infer_instance

section Tables

variable (c : Dev nD)

theorem duties_bar : (Rd (F := F) Wq Wo).duties (barC c) 0 = Finset.univ := by
  refine (show (Rd (F := F) Wq Wo).duties (barC c) 0 = dutyOf (.reg barS) from by dsimp only [Rd]; exact if_pos ⟨rfl, rfl⟩).trans (by dsimp only [dutyOf]; exact if_pos rfl)
theorem duties_send (p : Tr) (hp : p.2 ≠ 0) : (Rd (F := F) Wq Wo).duties (sendC c p) 0 = {true} := by
  refine (show (Rd (F := F) Wq Wo).duties (sendC c p) 0 = dutyOf (.dma (sendI p)) from by dsimp only [Rd]; exact if_pos ⟨rfl, rfl⟩).trans ?_
  simp only [dutyOf, dec_send, if_neg hp]
theorem duties_recv (p : Tr) (hp : p.2 ≠ 0) : (Rd (F := F) Wq Wo).duties (recvC c p) 0 = {true} := by
  refine (show (Rd (F := F) Wq Wo).duties (recvC c p) 0 = dutyOf (.dma (recvI p)) from by dsimp only [Rd]; exact if_pos ⟨rfl, rfl⟩).trans ?_
  simp only [dutyOf, dec_recv, if_neg hp]
theorem duties_later (g : GSem nD τ sig) : ∀ r, 1 ≤ r → (Rd (F := F) Wq Wo).duties g r = ∅ :=
  fun r hr => if_neg (fun h => by omega)
theorem duties_send0 (p : Tr) (hp : p.2 = 0) : ∀ r, 0 ≤ r → (Rd (F := F) Wq Wo).duties (sendC c p) r = ∅ := by
  intro r _
  have e : dutyOf (.dma (sendI p)) = ∅ := by simp only [dutyOf, dec_send, if_pos hp]
  show (if (r = 0 ∧ (sendC c p).1.2 = .tc) then dutyOf (.dma (sendI p)) else ∅) = ∅
  rw [e, ite_self]
theorem duties_recv0 (p : Tr) (hp : p.2 = 0) : ∀ r, 0 ≤ r → (Rd (F := F) Wq Wo).duties (recvC c p) r = ∅ := by
  intro r _
  have e : dutyOf (.dma (recvI p)) = ∅ := by simp only [dutyOf, dec_recv, if_pos hp]
  show (if (r = 0 ∧ (recvC c p).1.2 = .tc) then dutyOf (.dma (recvI p)) else ∅) = ∅
  rw [e, ite_self]

theorem amount_bar (d : Bool) : (Rd (F := F) Wq Wo).amount (barC c) 0 d = 1 := rfl
theorem amount_send (p : Tr) (d : Bool) : (Rd (F := F) Wq Wo).amount (sendC c p) 0 d = N p.1 := by
  show amtOf (.dma (sendI p)) = _
  simp only [amtOf, dec_send]
theorem amount_recv (p : Tr) (d : Bool) : (Rd (F := F) Wq Wo).amount (recvC c p) 0 d = N p.1 := by
  show amtOf (.dma (recvI p)) = _
  simp only [amtOf, dec_recv]

theorem expect_bar : (Rd (F := F) Wq Wo).expect (barC c) 0 = 2 := by
  unfold Schedule.expect Schedule.amountOf; rw [duties_bar]; rfl
theorem expect_send (p : Tr) (hp : p.2 ≠ 0) : (Rd (F := F) Wq Wo).expect (sendC c p) 0 = N p.1 := by
  unfold Schedule.expect Schedule.amountOf; rw [duties_send Wq Wo c p hp, Finset.sum_singleton, amount_send]
theorem expect_recv (p : Tr) (hp : p.2 ≠ 0) : (Rd (F := F) Wq Wo).expect (recvC c p) 0 = N p.1 := by
  unfold Schedule.expect Schedule.amountOf; rw [duties_recv Wq Wo c p hp, Finset.sum_singleton, amount_recv]

theorem payload_bar (d : Bool) : (Rd (F := F) Wq Wo).payload (barC c) 0 d = barPay c d := rfl
theorem payload_send (p : Tr) (d : Bool) : (Rd (F := F) Wq Wo).payload (sendC c p) 0 d = sendPay Wq Wo c p := by
  show payOf Wq Wo c d (.dma (sendI p)) = _
  simp only [payOf, dec_send]
theorem payload_recv (p : Tr) (d : Bool) : (Rd (F := F) Wq Wo).payload (recvC c p) 0 d = recvPay Wq Wo c p := by
  show payOf Wq Wo c d (.dma (recvI p)) = _
  simp only [payOf, dec_recv]

theorem rest_bar : bigSep ((Rd (F := F) Wq Wo).duties (barC c) 0 \ ∅) (fun d => (Rd (F := F) Wq Wo).payload (barC c) 0 d)
    = bigSep live fun p => vacant (F := F) (dst p.2.val c) p := by
  rw [Finset.sdiff_empty, duties_bar, show (Finset.univ : Finset Bool) = {true, false} from by decide,
    bigSep_insert (by decide), bigSep_singleton, payload_bar, payload_bar]
  unfold barPay
  rw [show live = dir true ∪ dir false from by decide +kernel, bigSep_union (by decide +kernel)]
theorem rest_send (p : Tr) (hp : p.2 ≠ 0) :
    bigSep ((Rd (F := F) Wq Wo).duties (sendC c p) 0 \ ∅) (fun d => (Rd (F := F) Wq Wo).payload (sendC c p) 0 d) = sendPay Wq Wo c p := by
  rw [Finset.sdiff_empty, duties_send Wq Wo c p hp, bigSep_singleton, payload_send]
theorem rest_recv (p : Tr) (hp : p.2 ≠ 0) :
    bigSep ((Rd (F := F) Wq Wo).duties (recvC c p) 0 \ ∅) (fun d => (Rd (F := F) Wq Wo).payload (recvC c p) 0 d) = recvPay Wq Wo c p := by
  rw [Finset.sdiff_empty, duties_recv Wq Wo c p hp, bigSep_singleton, payload_recv]

end Tables

/-! ## What each device owes; the levels -/

/-- The hop of a transfer: how many hops its data has behind it. -/
def hop (k : ℕ) : ℕ := if k ≤ 8 then k - 1 else k - 9

/-- What device `c` owes for the transfers `T`: their landings at their receivers. -/
def OW (c : Dev nD) (T : Finset Tr) : CellTallies nD τ sig Unit :=
  ∑ p ∈ T, tallyAt (recvC (dst p.2.val c) p) () (N p.1)

/-- At launch: every transfer's landing, and a unit on each neighbour's barrier cell. -/
def O₀ (c : Dev nD) : CellTallies nD τ sig Unit :=
  (OW c live + tallyAt (barC (rt c)) () 1) + tallyAt (barC (lf c)) () 1

def L (g : GSem nD τ sig) : Finset Unit := if g.1.2 = .tc then {()} else ∅

/-- Barrier cells at 1; a receive cell at two more than its transfer's hop; the rest at 0. -/
def lvs : SemLoc sig → ℕ
  | .reg _ => 1
  | .dma i => match dec i with
    | some (true, p) => 2 + hop p.2.val
    | _ => 0
def lv (g : GSem nD τ sig) (_ : Unit) : ℕ := lvs g.2

theorem lvs_send (p : Tr) : lvs (.dma (sendI p)) = 0 := by simp only [lvs, dec_send]
theorem lvs_recv (p : Tr) : lvs (.dma (recvI p)) = 2 + hop p.2.val := by simp only [lvs, dec_recv]

theorem L_of_ne (g : GSem nD τ sig) (h : g.1.2 ≠ .tc) : L g = ∅ := if_neg h
theorem L_tc (c : Dev nD) (sm : SemLoc sig) : L ((c : Thread nD τ), sm) = {()} := if_pos rfl

theorem OW_apply_pos {c : Dev nD} {T : Finset Tr} {g : GSem nD τ sig} {u : Unit} (h : 0 < OW c T g u) :
    ∃ p ∈ T, g = recvC (dst p.2.val c) p := by
  unfold OW at h
  rw [Finset.sum_apply, Finsupp.finset_sum_apply] at h
  obtain ⟨p, hp, hlt⟩ := (Finset.sum_pos_iff).mp h
  refine ⟨p, hp, ?_⟩
  rw [tallyAt_apply] at hlt
  split at hlt
  · next hg => exact hg.1
  · exact absurd hlt (Nat.lt_irrefl 0)

omit [FloatOps F] [Named F] in
/-- A device may wait on a cell below every landing it owes. -/
theorem mayWait (c : Dev nD) (sm : SemLoc sig) (T : Finset Tr) (h : ∀ p ∈ T, lvs sm < 2 + hop p.2.val) :
    (levAts L lv : sProp 𝕄) ⊢ MayWait (c : Thread nD τ) sm () (OW c T) :=
  MayOwe.of_cut (L := L) (lev := lv) (lvs sm) (fun p hp => by rw [Finset.mem_singleton.mp hp, L_tc]; exact Finset.mem_singleton_self _)
    (fun g u hg => by
      obtain ⟨p, -, rfl⟩ := OW_apply_pos hg
      rw [L_tc]; exact Finset.mem_singleton_self _)
    (fun p hp => by rw [Finset.mem_singleton.mp hp]; exact le_of_eq rfl)
    (fun g u hg => by
      obtain ⟨p, hp, rfl⟩ := OW_apply_pos hg
      show lvs sm < lvs (.dma (recvI p))
      rw [lvs_recv]; exact h p hp)

/-- Starting a transfer takes its landing off what is owed. -/
theorem OW_erase (c : Dev nD) {T : Finset Tr} {p : Tr} (hp : p ∈ T) :
    OW c T = OW c (T.erase p) + tallyAt (recvC (dst p.2.val c) p) () (N p.1) := by
  unfold OW
  rw [Finset.sum_erase_add _ _ hp]

end Cert.KernelIdeal.Ring

end
-- ==== Proof.KI.Steps.lean ====
/- One transfer at a device: its states (not started, in flight, waited for), and the two steps between them, as rules for the
   kernel's operations. -/
module

public import proofs.«01_k».proof.Proof.KI.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (Wq : Dev nD → S1x512x256.Idx → Elt F .bf16) (Wo : Dev nD → S1x256x512.Idx → Elt F .bf16)

/-! ## The invariants, known to every device -/

def barEmb : Dev nD ↪ GSem nD τ sig := ⟨fun c => barC c, fun _ _ h => congrArg (fun g : GSem nD τ sig => g.1.1) h⟩

/-- A device's send (`false`) or receive (`true`) semaphore of a transfer. -/
def scI (x : Bool × Tr) : DmaSem sig := if x.1 then recvI x.2 else sendI x.2
theorem scI_inj {x y : Bool × Tr} (h : scI x = scI y) : x = y := by
  have e : ∀ x : Bool × Tr, dec (scI x) = some x := by
    rintro ⟨b, p⟩; cases b
    · exact dec_send p
    · exact dec_recv p
  exact Option.some.inj ((e x).symm.trans ((congrArg dec h).trans (e y)))
def scEmb : Dev nD × (Bool × Tr) ↪ GSem nD τ sig :=
  ⟨fun x => ((x.1 : Thread nD τ), .dma (scI x.2)), fun _ _ h =>
    Prod.ext (congrArg (fun g : GSem nD τ sig => g.1.1) h) (scI_inj (SemLoc.dma.inj (congrArg Prod.snd h)))⟩

abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem send_mem (c : Dev nD) (p : Tr) : sendC c p ∈ (barCells ∪ scCells : Finset (GSem nD τ sig)) :=
  Finset.mem_union_right _ (Finset.mem_map_of_mem scEmb (Finset.mem_univ (c, (false, p))))
theorem recv_mem (c : Dev nD) (p : Tr) : recvC c p ∈ (barCells ∪ scCells : Finset (GSem nD τ sig)) :=
  Finset.mem_union_right _ (Finset.mem_map_of_mem scEmb (Finset.mem_univ (c, (true, p))))

/-- Every cell's invariant, under one map of names; round 0 of every barrier cell reached. -/
def records (K : GSem nD τ sig → ℕ) : sProp 𝕄 :=
  iprop((bigSep (barCells ∪ scCells) fun g => cellInv ER (Rd Wq Wo) (K g) g) ∗ bigSep barCells fun g => reached ER g 0)
instance records_persistent (K : GSem nD τ sig → ℕ) : BI.Persistent (records Wq Wo K) := by unfold records; infer_instance

theorem inv_at (K : GSem nD τ sig → ℕ) {g : GSem nD τ sig} (hg : g ∈ (barCells ∪ scCells : Finset (GSem nD τ sig))) :
    records Wq Wo K ⊢ cellInv ER (Rd Wq Wo) (K g) g := by
  unfold records
  iintro ⟨HI, -⟩
  iapply (bigSep_elim (Φ := fun g => cellInv ER (Rd Wq Wo) (K g) g) hg : _ ⊢ _) $$ HI
theorem reached_at (K : GSem nD τ sig → ℕ) (c : Dev nD) : records Wq Wo K ⊢ reached ER (barC c) 0 := by
  unfold records
  iintro ⟨-, HR⟩
  iapply (bigSep_elim (Φ := fun g => reached ER g 0) (Finset.mem_map_of_mem barEmb (Finset.mem_univ c)) : _ ⊢ _) $$ HR

/-! ## States of a transfer -/

/-- Not yet started, at the sender: its two duties, its send cell's position, the slot it will land in. -/
def todoS (c : Dev nD) (p : Tr) : sProp 𝕄 :=
  iprop(dutyTok ER (sendC c p) 0 true ∗ dutyTok ER (recvC (dst p.2.val c) p) 0 true
    ∗ (atPos ER (sendC c p) 0 ∅ 0 ∗ reached ER (sendC c p) 0) ∗ vacant (F := F) (dst p.2.val c) p)
/-- Not yet landed, at the receiver: its receive cell's position, and the credit to wait with. -/
def rcv (c : Dev nD) (p : Tr) : sProp 𝕄 := iprop(atPos ER (recvC c p) 0 ∅ 0 ∗ cred (tallyAt (recvC c p) () (N p.1)))
/-- In flight, at the sender. -/
def flyS (c : Dev nD) (p : Tr) : sProp 𝕄 := iprop(cred (tallyAt (sendC c p) () (N p.1)) ∗ atPos ER (sendC c p) 0 ∅ 0)

def Todo (c : Dev nD) (p : Tr) : sProp 𝕄 := iprop(todoS (F := F) c p ∗ rcv (F := F) c p)
def Fly (c : Dev nD) (p : Tr) : sProp 𝕄 := iprop(flyS (F := F) c p ∗ rcv (F := F) c p)

/-- The share of a landed slot a device keeps: the slots it forwards, half; the two last ones, all. -/
def keep (k : ℕ) : PosShare TreeShare := if k = 8 ∨ k = 15 then fullShare else fullShare.right

/-- Waited for: both cells past their round, the lent share back, the landed slot at the share kept. -/
def Done (c : Dev nD) (p : Tr) : sProp 𝕄 :=
  iprop(atPos ER (sendC c p) 1 ∅ 0 ∗ atPos ER (recvC c p) 1 ∅ 0 ∗ sendPay Wq Wo c p
    ∗ pts c p.1 p.2.val (keep p.2.val) (all Wq Wo c p.1))

omit [FloatOps F] [Named F] in
/-- A full slot is the half that its forwarding transfer lends and the half kept. -/
theorem pts_halves (c : Dev nD) (b : Bool) (k : ℕ) (q : PosShare TreeShare) (f : (scr b).ty.Contents (Elt F)) :
    (pts c b k q f : sProp 𝕄) ⊣⊢ iprop(pts c b k q.left f ∗ pts c b k q.right f) := by
  unfold pts; exact pointsTo_share (PosShare.mem_left_op_right q)

/-! ## Waiting -/

section Wait

/-- A wait on a used send cell: the lent share comes back. -/
theorem wait_send {W : Waits sig Unit} {α : Type} (Q : α → sProp 𝕄) (k : PUnit → Prog (TpuEff nD τ sig (Elt F) Λ₀ .tc) α) (K : GSem nD τ sig → ℕ) (c : Dev nD) (p : Tr) (hp : p.2 ≠ 0) (T : Finset Tr)
    {w : TpuEff nD τ sig (Elt F) Λ₀ .tc PUnit} {sS : DmaSem sig} (hS : sS = sendI p)
    (hw : ∀ K' : PUnit → sProp 𝕄, wpE defs₀ 𝒱₀ (c : Thread nD τ) none Set.univ w K' = waitSpec (c : Thread nD τ) Set.univ (.dma sS) (N p.1) K') :
    iprop(records Wq Wo K ∗ levAts L lv ∗ flyS (F := F) c p ∗ owes (c : Thread nD τ) (OW c T) W)
      ⊢ iprop(((∃ W', owes (c : Thread nD τ) (OW c T) W') ∗ atPos ER (sendC c p) 1 ∅ 0 ∗ sendPay Wq Wo c p
            -∗ wp frame (wpE defs₀ 𝒱₀ (c : Thread nD τ) none) Set.univ (k ⟨⟩) Q)
          -∗ wp frame (wpE defs₀ 𝒱₀ (c : Thread nD τ) none) Set.univ (.op w k) Q) := by
  subst hS
  unfold flyS
  iintro ⟨#HI, #Hlev, ⟨Hc, Hat⟩, HO⟩ Hk
  ihave #HI1 := (inv_at Wq Wo K (send_mem c p)) $$ HI
  iapply (Rounds.wp_wait_rest_token 𝒱₀ ER (Rd Wq Wo) (c : Thread nD τ) none (κ := K (sendC c p))
      hw (Set.mem_univ _) () (O := OW c T) (W := W) (R := 0) (m := 0) (T := ∅)
      ((Nat.zero_add _).trans (expect_send Wq Wo c p hp).symm)) $$ [Hc HO Hat]
  · isplitr; · iexact HI1
    isplitl [Hc]; · iexact Hc
    isplitl [HO]; · iexact HO
    isplitr
    · iapply (mayWait c (.dma (sendI p)) T (fun q _ => by rw [lvs_send]; omega)); iexact Hlev
    iexact Hat
  iintro ⟨HO, Hat, -, Hpay⟩
  ihave Hp := (Entails.of_eq (rest_send Wq Wo c p hp)) $$ Hpay
  iapply Hk
  isplitl [HO]; · iexists _; iexact HO
  isplitl [Hat]; · iexact Hat
  iexact Hp

/-- A wait on a used receive cell: the landed slot comes. -/
theorem wait_recv {W : Waits sig Unit} {α : Type} (Q : α → sProp 𝕄) (k : PUnit → Prog (TpuEff nD τ sig (Elt F) Λ₀ .tc) α) (K : GSem nD τ sig → ℕ) (c : Dev nD) (p : Tr) (hp : p.2 ≠ 0) (T : Finset Tr)
    (hT : ∀ q ∈ T, hop p.2.val < hop q.2.val)
    {w : TpuEff nD τ sig (Elt F) Λ₀ .tc PUnit} {sS : DmaSem sig} (hS : sS = recvI p)
    (hw : ∀ K' : PUnit → sProp 𝕄, wpE defs₀ 𝒱₀ (c : Thread nD τ) none Set.univ w K' = waitSpec (c : Thread nD τ) Set.univ (.dma sS) (N p.1) K') :
    iprop(records Wq Wo K ∗ levAts L lv ∗ rcv (F := F) c p ∗ owes (c : Thread nD τ) (OW c T) W)
      ⊢ iprop(((∃ W', owes (c : Thread nD τ) (OW c T) W') ∗ atPos ER (recvC c p) 1 ∅ 0 ∗ recvPay Wq Wo c p
            -∗ wp frame (wpE defs₀ 𝒱₀ (c : Thread nD τ) none) Set.univ (k ⟨⟩) Q)
          -∗ wp frame (wpE defs₀ 𝒱₀ (c : Thread nD τ) none) Set.univ (.op w k) Q) := by
  subst hS
  unfold rcv
  iintro ⟨#HI, #Hlev, ⟨Hat, Hc⟩, HO⟩ Hk
  ihave #HI1 := (inv_at Wq Wo K (recv_mem c p)) $$ HI
  iapply (Rounds.wp_wait_rest_token 𝒱₀ ER (Rd Wq Wo) (c : Thread nD τ) none (κ := K (recvC c p))
      hw (Set.mem_univ _) () (O := OW c T) (W := W) (R := 0) (m := 0) (T := ∅)
      ((Nat.zero_add _).trans (expect_recv Wq Wo c p hp).symm)) $$ [Hc HO Hat]
  · isplitr; · iexact HI1
    isplitl [Hc]; · iexact Hc
    isplitl [HO]; · iexact HO
    isplitr
    · iapply (mayWait c (.dma (recvI p)) T (fun q hq => by rw [lvs_recv]; have := hT q hq; omega)); iexact Hlev
    iexact Hat
  iintro ⟨HO, Hat, -, Hpay⟩
  ihave Hp := (Entails.of_eq (rest_recv Wq Wo c p hp)) $$ Hpay
  iapply Hk
  isplitl [HO]; · iexists _; iexact HO
  isplitl [Hat]; · iexact Hat
  iexact Hp

/-! ## Starting -/

/-- Starting a transfer of the query weights: its source's share goes to the send cell, the landing slot to the receiver. -/
theorem startA {W : Waits sig Unit} {α : Type} (Q : α → sProp 𝕄) (k : PUnit → Prog (TpuEff nD τ sig (Elt F) Λ₀ .tc) α) (K : GSem nD τ sig → ℕ) (c : Dev nD) (j : Fin 16) (hj : j ≠ 0) {T : Finset Tr} (hT : ((false, j) : Tr) ∈ T)
    {sS sR : DmaSem sig} (hS : sS = sendI (false, j)) (hR : sR = recvI (false, j)) {d : Dev nD} (hd : d = dst j.val c)
    {off off' : Fin 3 → ℕ} {inb : ∀ a, off a + S1x512x256.size a ≤ S16x512x256.size a}
    {inb' : ∀ a, off' a + S1x512x256.size a ≤ S16x512x256.size a} (ho : off = ![src j.val, 0, 0]) (ho' : off' = ![j.val, 0, 0])
    {hsc : (slotA off' inb').view.ref.isScScratch = false} {hsrc : (slotA off inb).view.WordExact}
    {hdst : (slotA off' inb').view.WordExact} {hsem : DmaTarget.Typed .vmem (.dma sR) (.remote (Dev.tc d) (slotA off' inb') (.dma sS) hsc)} :
    iprop(records Wq Wo K ∗ todoS (F := F) c (false, j) ∗ sendPay Wq Wo c (false, j) ∗ owes (c : Thread nD τ) (OW c T) W)
      ⊢ iprop((flyS (F := F) c (false, j) ∗ owes (c : Thread nD τ) (OW c (T.erase (false, j))) W
            -∗ wp frame (wpE defs₀ 𝒱₀ (c : Thread nD τ) none) Set.univ (k ⟨⟩) Q)
          -∗ wp frame (wpE defs₀ 𝒱₀ (c : Thread nD τ) none) Set.univ
            (.op (.enqueueDma (slotA off inb) (.remote (Dev.tc d) (slotA off' inb') (.dma sS) hsc) (.dma sR) hsrc hdst hsem) k) Q) := by
  subst hS hR hd
  unfold todoS vacant flyS sendPay pts
  iintro ⟨#HI, ⟨Ht1, Ht2, ⟨Hat, #Hr1⟩, ⟨%fd, Hd⟩, #Hr2⟩, Hs, HO⟩ Hk
  ihave #HI1 := (inv_at Wq Wo K (send_mem c (false, j))) $$ HI
  ihave #HI2 := (inv_at Wq Wo K (recv_mem (dst j.val c) (false, j))) $$ HI
  iapply (Rounds.wp_send_pointsTo 𝒱₀ ER (Rd Wq Wo) (c : Thread nD τ) none (c' := (dst j.val c : Thread nD τ))
      (src := slotA off inb) (dst := slotA off' inb')
      (sS := .dma (sendI (false, j))) (sem := .dma (recvI (false, j))) (q := lent j.val) (fs := all Wq Wo c false) (fd := fd)
      (κ₁ := K (sendC c (false, j))) (κ₂ := K (recvC (dst j.val c) (false, j)))
      (r₁ := 0) (r₂ := 0) (d₁ := true) (d₂ := true)
      (by rw [duties_send Wq Wo c _ hj]; exact Finset.mem_singleton_self _)
      (by rw [duties_recv Wq Wo _ _ hj]; exact Finset.mem_singleton_self _)
      () () (N false) rfl (amount_send Wq Wo c _ true) (amount_recv Wq Wo (dst j.val c) _ true)
      (OW c (T.erase (false, j))) (OW_erase c hT) (W := W)
      (by
        rw [payload_send]; unfold sendPay pts
        exact Entails.of_eq (congrArg (fun S => (((c : Thread nD τ).loc (scr false)) ↦[S]{lent j.val} all Wq Wo c false : sProp 𝕄)) (slotA_set ho)))
      (by
        rw [payload_recv]; unfold recvPay pts
        refine (Entails.of_eq (congrArg (fun S => (((dst j.val c : Dev nD) : Thread nD τ).loc (scr false)) ↦[S]{fullShare}
          (slotA off' inb').view.write (Elt F) fd ((slotA off inb).view.read (Elt F) (all Wq Wo c false)) Finset.univ : Finset _ → sProp 𝕄) (slotA_set ho'))).trans ?_
        exact Entails.of_eq (pointsTo_congr (landA Wq ho ho' c (dst j.val c) (org_dst c j hj) fd))))
    $$ [Hs Hd HO Ht1 Ht2]
  · isplitr; · iexact HI1
    isplitr; · iexact HI2
    isplitl [Hs]
    · iapply (Entails.of_eq (congrArg (fun S => (((c : Thread nD τ).loc (scr false)) ↦[S]{lent j.val} all Wq Wo c false : sProp 𝕄)) (slotA_set ho).symm)); iexact Hs
    isplitl [Hd]
    · iapply (Entails.of_eq (congrArg (fun S => ((((dst j.val c : Dev nD) : Thread nD τ).loc (scr false)) ↦[S]{fullShare} fd : sProp 𝕄)) (slotA_set ho').symm)); iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitl [Hc]; · iexact Hc
    iexact Hat
  iexact HO

/-- Starting a transfer of the output weights: its source's share goes to the send cell, the landing slot to the receiver. -/
theorem startB {W : Waits sig Unit} {α : Type} (Q : α → sProp 𝕄) (k : PUnit → Prog (TpuEff nD τ sig (Elt F) Λ₀ .tc) α) (K : GSem nD τ sig → ℕ) (c : Dev nD) (j : Fin 16) (hj : j ≠ 0) {T : Finset Tr} (hT : ((true, j) : Tr) ∈ T)
    {sS sR : DmaSem sig} (hS : sS = sendI (true, j)) (hR : sR = recvI (true, j)) {d : Dev nD} (hd : d = dst j.val c)
    {off off' : Fin 3 → ℕ} {inb : ∀ a, off a + S1x256x512.size a ≤ S16x256x512.size a}
    {inb' : ∀ a, off' a + S1x256x512.size a ≤ S16x256x512.size a} (ho : off = ![src j.val, 0, 0]) (ho' : off' = ![j.val, 0, 0])
    {hsc : (slotB off' inb').view.ref.isScScratch = false} {hsrc : (slotB off inb).view.WordExact}
    {hdst : (slotB off' inb').view.WordExact} {hsem : DmaTarget.Typed .vmem (.dma sR) (.remote (Dev.tc d) (slotB off' inb') (.dma sS) hsc)} :
    iprop(records Wq Wo K ∗ todoS (F := F) c (true, j) ∗ sendPay Wq Wo c (true, j) ∗ owes (c : Thread nD τ) (OW c T) W)
      ⊢ iprop((flyS (F := F) c (true, j) ∗ owes (c : Thread nD τ) (OW c (T.erase (true, j))) W
            -∗ wp frame (wpE defs₀ 𝒱₀ (c : Thread nD τ) none) Set.univ (k ⟨⟩) Q)
          -∗ wp frame (wpE defs₀ 𝒱₀ (c : Thread nD τ) none) Set.univ
            (.op (.enqueueDma (slotB off inb) (.remote (Dev.tc d) (slotB off' inb') (.dma sS) hsc) (.dma sR) hsrc hdst hsem) k) Q) := by
  subst hS hR hd
  unfold todoS vacant flyS sendPay pts
  iintro ⟨#HI, ⟨Ht1, Ht2, ⟨Hat, #Hr1⟩, ⟨%fd, Hd⟩, #Hr2⟩, Hs, HO⟩ Hk
  ihave #HI1 := (inv_at Wq Wo K (send_mem c (true, j))) $$ HI
  ihave #HI2 := (inv_at Wq Wo K (recv_mem (dst j.val c) (true, j))) $$ HI
  iapply (Rounds.wp_send_pointsTo 𝒱₀ ER (Rd Wq Wo) (c : Thread nD τ) none (c' := (dst j.val c : Thread nD τ))
      (src := slotB off inb) (dst := slotB off' inb')
      (sS := .dma (sendI (true, j))) (sem := .dma (recvI (true, j))) (q := lent j.val) (fs := all Wq Wo c true) (fd := fd)
      (κ₁ := K (sendC c (true, j))) (κ₂ := K (recvC (dst j.val c) (true, j)))
      (r₁ := 0) (r₂ := 0) (d₁ := true) (d₂ := true)
      (by rw [duties_send Wq Wo c _ hj]; exact Finset.mem_singleton_self _)
      (by rw [duties_recv Wq Wo _ _ hj]; exact Finset.mem_singleton_self _)
      () () (N true) rfl (amount_send Wq Wo c _ true) (amount_recv Wq Wo (dst j.val c) _ true)
      (OW c (T.erase (true, j))) (OW_erase c hT) (W := W)
      (by
        rw [payload_send]; unfold sendPay pts
        exact Entails.of_eq (congrArg (fun S => (((c : Thread nD τ).loc (scr true)) ↦[S]{lent j.val} all Wq Wo c true : sProp 𝕄)) (slotB_set ho)))
      (by
        rw [payload_recv]; unfold recvPay pts
        refine (Entails.of_eq (congrArg (fun S => (((dst j.val c : Dev nD) : Thread nD τ).loc (scr true)) ↦[S]{fullShare}
          (slotB off' inb').view.write (Elt F) fd ((slotB off inb).view.read (Elt F) (all Wq Wo c true)) Finset.univ : Finset _ → sProp 𝕄) (slotB_set ho'))).trans ?_
        exact Entails.of_eq (pointsTo_congr (landB Wo ho ho' c (dst j.val c) (org_dst c j hj) fd))))
    $$ [Hs Hd HO Ht1 Ht2]
  · isplitr; · iexact HI1
    isplitr; · iexact HI2
    isplitl [Hs]
    · iapply (Entails.of_eq (congrArg (fun S => (((c : Thread nD τ).loc (scr true)) ↦[S]{lent j.val} all Wq Wo c true : sProp 𝕄)) (slotB_set ho).symm)); iexact Hs
    isplitl [Hd]
    · iapply (Entails.of_eq (congrArg (fun S => ((((dst j.val c : Dev nD) : Thread nD τ).loc (scr true)) ↦[S]{fullShare} fd : sProp 𝕄)) (slotB_set ho').symm)); iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitl [Hc]; · iexact Hc
    iexact Hat
  iexact HO

end Wait

end Cert.KernelIdeal.Ring

end
-- ==== Proof.KI.Loads.lean ====
/- The kernel's loads and stores, as rules: what each reads, in terms of the buffers' contents. -/
module

public import proofs.«01_k».proof.Proof.KI.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The staged operands -/

abbrev xM : Memref sig .tc .vmem S2x256x512 .bf16 := Memref.whole cc0_stg0_0
abbrev qM : Memref sig .tc .vmem S512x256 .bf16 := Memref.whole cc0_stg1_0
abbrev oM : Memref sig .tc .vmem S256x512 .bf16 := Memref.whole cc0_stg2_0
abbrev kM : Memref sig .tc .vmem S64x2x256x64 .bf16 := Memref.whole cc0_stg3_0
abbrev vM : Memref sig .tc .vmem S64x2x256x64 .bf16 := Memref.whole cc0_stg4_0
abbrev yM : Memref sig .tc .vmem S2x256x512 .f32 := Memref.whole cc0_stg5_0

def px (c : Dev nD) (f : S2x256x512.Idx → Elt F .bf16) : sProp 𝕄 := ((c : Thread nD τ).loc cc0_stg0_0) ↦[Finset.univ]{fullShare} f
def pq (c : Dev nD) (f : S512x256.Idx → Elt F .bf16) : sProp 𝕄 := ((c : Thread nD τ).loc cc0_stg1_0) ↦[Finset.univ]{fullShare} f
def po (c : Dev nD) (f : S256x512.Idx → Elt F .bf16) : sProp 𝕄 := ((c : Thread nD τ).loc cc0_stg2_0) ↦[Finset.univ]{fullShare} f
def pk (c : Dev nD) (f : S64x2x256x64.Idx → Elt F .bf16) : sProp 𝕄 := ((c : Thread nD τ).loc cc0_stg3_0) ↦[Finset.univ]{fullShare} f
def pv (c : Dev nD) (f : S64x2x256x64.Idx → Elt F .bf16) : sProp 𝕄 := ((c : Thread nD τ).loc cc0_stg4_0) ↦[Finset.univ]{fullShare} f
def py (c : Dev nD) (f : S2x256x512.Idx → Elt F .f32) : sProp 𝕄 := ((c : Thread nD τ).loc cc0_stg5_0) ↦[Finset.univ]{fullShare} f

/-- One head's block of the staged keys or values: head `h` of device `e`'s four, batch `b` of two. -/
def blk (f : S64x2x256x64.Idx → Elt F .bf16) (e : Dev nD) (h : Fin 4) (b : Fin 2) : S1x1x256x64.Idx → Elt F .bf16 :=
  fun x => f (fun a => ⟨(![e.val * 4 + h.val, b.val, (x 2).val, (x 3).val] : Fin 4 → ℕ) a, by
    have he : e.val < 16 := e.isLt
    have hh := h.isLt
    fin_cases a
    · show e.val * 4 + h.val < 64; omega
    · exact b.isLt
    · exact (x 2).isLt
    · exact (x 3).isLt⟩)

theorem blk_read {off : Fin 4 → ℕ} {inb : ∀ a, off a + S1x1x256x64.size a ≤ S64x2x256x64.size a} {e : Dev nD} {h : Fin 4} {b : Fin 2}
    (ho : off = ![e.val * 4 + h.val, b.val, 0, 0]) (f : S64x2x256x64.Idx → Elt F .bf16) :
    (fun x => f ((Rect.unit (s := S64x2x256x64) off S1x1x256x64.size inb).emb x)) = blk f e h b := by
  subst ho
  funext x
  unfold blk
  refine congrArg f (funext fun a => Fin.ext ?_)
  have h0 : (x 0).val < 1 := (x 0).isLt
  have h1 : (x 1).val < 1 := (x 1).isLt
  fin_cases a
  · show e.val * 4 + h.val + 1 * (x 0).val = e.val * 4 + h.val; omega
  · show b.val + 1 * (x 1).val = b.val; omega
  · show 0 + 1 * (x 2).val = (x 2).val; omega
  · show 0 + 1 * (x 3).val = (x 3).val; omega

/-! ## Rules -/

theorem setOnB_sub (R : Finset S16x256x512.Idx) : bM.view.setOn R ⊆ R := fun i hi => by
  obtain ⟨x, hx, rfl⟩ := Finset.mem_map.mp hi
  exact hx

theorem setOnA_sub (R : Finset S16x512x256.Idx) : aM.view.setOn R ⊆ R := fun i hi => by
  obtain ⟨x, hx, rfl⟩ := Finset.mem_map.mp hi
  exact hx

theorem loadK {α : Type} (Q : α → sProp 𝕄) (c : Dev nD) {off : Fin 4 → ℕ} {inb : ∀ a, off a + S1x1x256x64.size a ≤ S64x2x256x64.size a}
    {e : Dev nD} {h : Fin 4} {b : Fin 2} (ho : off = ![e.val * 4 + h.val, b.val, 0, 0]) {f : S64x2x256x64.Idx → Elt F .bf16}
    {hl : kM.view.LoadsAt (Rect.unit (s := S64x2x256x64) off S1x1x256x64.size inb).toLoadRect}
    {k : (S1x1x256x64.Idx → Elt F .bf16) → Prog (TpuEff nD τ sig (Elt F) Λ₀ .tc) α} :
    pk c f ⊢ iprop((pk c f -∗ wp frame (wpE defs₀ 𝒱₀ (c : Thread nD τ) none) Set.univ (k (blk f e h b)) Q)
      -∗ wp frame (wpE defs₀ 𝒱₀ (c : Thread nD τ) none) Set.univ
        (.op (.load kM (Rect.unit (s := S64x2x256x64) off S1x1x256x64.size inb).toLoadRect hl) k) Q) := by
  rw [← blk_read (inb := inb) ho f]
  unfold pk
  exact wp_load 𝒱₀ (c : Thread nD τ) none Set.univ (m := kM) (S := Finset.univ) (f := f) (Finset.subset_univ _)

theorem loadV {α : Type} (Q : α → sProp 𝕄) (c : Dev nD) {off : Fin 4 → ℕ} {inb : ∀ a, off a + S1x1x256x64.size a ≤ S64x2x256x64.size a}
    {e : Dev nD} {h : Fin 4} {b : Fin 2} (ho : off = ![e.val * 4 + h.val, b.val, 0, 0]) {f : S64x2x256x64.Idx → Elt F .bf16}
    {hl : vM.view.LoadsAt (Rect.unit (s := S64x2x256x64) off S1x1x256x64.size inb).toLoadRect}
    {k : (S1x1x256x64.Idx → Elt F .bf16) → Prog (TpuEff nD τ sig (Elt F) Λ₀ .tc) α} :
    pv c f ⊢ iprop((pv c f -∗ wp frame (wpE defs₀ 𝒱₀ (c : Thread nD τ) none) Set.univ (k (blk f e h b)) Q)
      -∗ wp frame (wpE defs₀ 𝒱₀ (c : Thread nD τ) none) Set.univ
        (.op (.load vM (Rect.unit (s := S64x2x256x64) off S1x1x256x64.size inb).toLoadRect hl) k) Q) := by
  rw [← blk_read (inb := inb) ho f]
  unfold pv
  exact wp_load 𝒱₀ (c : Thread nD τ) none Set.univ (m := vM) (S := Finset.univ) (f := f) (Finset.subset_univ _)

theorem loadX {α : Type} (Q : α → sProp 𝕄) (c : Dev nD) {inb : ∀ a, (![0, 0, 0] : Fin _ → ℕ) a + S2x256x512.size a ≤ S2x256x512.size a} {f : S2x256x512.Idx → Elt F .bf16}
    {hl : xM.view.LoadsAt (Rect.unit (s := S2x256x512) ![0, 0, 0] S2x256x512.size inb).toLoadRect}
    {k : (S2x256x512.Idx → Elt F .bf16) → Prog (TpuEff nD τ sig (Elt F) Λ₀ .tc) α} :
    px c f ⊢ iprop((px c f -∗ wp frame (wpE defs₀ 𝒱₀ (c : Thread nD τ) none) Set.univ (k f) Q)
      -∗ wp frame (wpE defs₀ 𝒱₀ (c : Thread nD τ) none) Set.univ
        (.op (.load xM (Rect.unit (s := S2x256x512) ![0, 0, 0] S2x256x512.size inb).toLoadRect hl) k) Q) := by
  have hz : (![0, 0, 0] : Fin _ → ℕ) = 0 := by decide
  have key : ∀ g, xM.view.readAt (Elt F) (Rect.unit (s := S2x256x512) ![0, 0, 0] S2x256x512.size inb).toLoadRect f = g →
      (px c f ⊢ iprop((px c f -∗ wp frame (wpE defs₀ 𝒱₀ (c : Thread nD τ) none) Set.univ (k g) Q)
      -∗ wp frame (wpE defs₀ 𝒱₀ (c : Thread nD τ) none) Set.univ
        (.op (.load xM (Rect.unit (s := S2x256x512) ![0, 0, 0] S2x256x512.size inb).toLoadRect hl) k) Q)) := by
    rintro _ rfl
    unfold px
    exact wp_load 𝒱₀ (c : Thread nD τ) none Set.univ (m := xM) (S := Finset.univ) (f := f) (Finset.subset_univ _)
  exact key f (Memref.readAt_unit_zero (Elt F) cc0_stg0_0 hz inb f)

theorem loadWq {α : Type} (Q : α → sProp 𝕄) (c : Dev nD) {inb : ∀ a, (![0, 0] : Fin _ → ℕ) a + S512x256.size a ≤ S512x256.size a} {f : S512x256.Idx → Elt F .bf16}
    {hl : qM.view.LoadsAt (Rect.unit (s := S512x256) ![0, 0] S512x256.size inb).toLoadRect}
    {k : (S512x256.Idx → Elt F .bf16) → Prog (TpuEff nD τ sig (Elt F) Λ₀ .tc) α} :
    pq c f ⊢ iprop((pq c f -∗ wp frame (wpE defs₀ 𝒱₀ (c : Thread nD τ) none) Set.univ (k f) Q)
      -∗ wp frame (wpE defs₀ 𝒱₀ (c : Thread nD τ) none) Set.univ
        (.op (.load qM (Rect.unit (s := S512x256) ![0, 0] S512x256.size inb).toLoadRect hl) k) Q) := by
  have hz : (![0, 0] : Fin _ → ℕ) = 0 := by decide
  have key : ∀ g, qM.view.readAt (Elt F) (Rect.unit (s := S512x256) ![0, 0] S512x256.size inb).toLoadRect f = g →
      (pq c f ⊢ iprop((pq c f -∗ wp frame (wpE defs₀ 𝒱₀ (c : Thread nD τ) none) Set.univ (k g) Q)
      -∗ wp frame (wpE defs₀ 𝒱₀ (c : Thread nD τ) none) Set.univ
        (.op (.load qM (Rect.unit (s := S512x256) ![0, 0] S512x256.size inb).toLoadRect hl) k) Q)) := by
    rintro _ rfl
    unfold pq
    exact wp_load 𝒱₀ (c : Thread nD τ) none Set.univ (m := qM) (S := Finset.univ) (f := f) (Finset.subset_univ _)
  exact key f (Memref.readAt_unit_zero (Elt F) cc0_stg1_0 hz inb f)

theorem loadWo {α : Type} (Q : α → sProp 𝕄) (c : Dev nD) {inb : ∀ a, (![0, 0] : Fin _ → ℕ) a + S256x512.size a ≤ S256x512.size a} {f : S256x512.Idx → Elt F .bf16}
    {hl : oM.view.LoadsAt (Rect.unit (s := S256x512) ![0, 0] S256x512.size inb).toLoadRect}
    {k : (S256x512.Idx → Elt F .bf16) → Prog (TpuEff nD τ sig (Elt F) Λ₀ .tc) α} :
    po c f ⊢ iprop((po c f -∗ wp frame (wpE defs₀ 𝒱₀ (c : Thread nD τ) none) Set.univ (k f) Q)
      -∗ wp frame (wpE defs₀ 𝒱₀ (c : Thread nD τ) none) Set.univ
        (.op (.load oM (Rect.unit (s := S256x512) ![0, 0] S256x512.size inb).toLoadRect hl) k) Q) := by
  have hz : (![0, 0] : Fin _ → ℕ) = 0 := by decide
  have key : ∀ g, oM.view.readAt (Elt F) (Rect.unit (s := S256x512) ![0, 0] S256x512.size inb).toLoadRect f = g →
      (po c f ⊢ iprop((po c f -∗ wp frame (wpE defs₀ 𝒱₀ (c : Thread nD τ) none) Set.univ (k g) Q)
      -∗ wp frame (wpE defs₀ 𝒱₀ (c : Thread nD τ) none) Set.univ
        (.op (.load oM (Rect.unit (s := S256x512) ![0, 0] S256x512.size inb).toLoadRect hl) k) Q)) := by
    rintro _ rfl
    unfold po
    exact wp_load 𝒱₀ (c : Thread nD τ) none Set.univ (m := oM) (S := Finset.univ) (f := f) (Finset.subset_univ _)
  exact key f (Memref.readAt_unit_zero (Elt F) cc0_stg2_0 hz inb f)

theorem loadY {α : Type} (Q : α → sProp 𝕄) (c : Dev nD) {inb : ∀ a, (![0, 0, 0] : Fin _ → ℕ) a + S2x256x512.size a ≤ S2x256x512.size a} {f : S2x256x512.Idx → Elt F .f32}
    {hl : yM.view.LoadsAt (Rect.unit (s := S2x256x512) ![0, 0, 0] S2x256x512.size inb).toLoadRect}
    {k : (S2x256x512.Idx → Elt F .f32) → Prog (TpuEff nD τ sig (Elt F) Λ₀ .tc) α} :
    py c f ⊢ iprop((py c f -∗ wp frame (wpE defs₀ 𝒱₀ (c : Thread nD τ) none) Set.univ (k f) Q)
      -∗ wp frame (wpE defs₀ 𝒱₀ (c : Thread nD τ) none) Set.univ
        (.op (.load yM (Rect.unit (s := S2x256x512) ![0, 0, 0] S2x256x512.size inb).toLoadRect hl) k) Q) := by
  have hz : (![0, 0, 0] : Fin _ → ℕ) = 0 := by decide
  have key : ∀ g, yM.view.readAt (Elt F) (Rect.unit (s := S2x256x512) ![0, 0, 0] S2x256x512.size inb).toLoadRect f = g →
      (py c f ⊢ iprop((py c f -∗ wp frame (wpE defs₀ 𝒱₀ (c : Thread nD τ) none) Set.univ (k g) Q)
      -∗ wp frame (wpE defs₀ 𝒱₀ (c : Thread nD τ) none) Set.univ
        (.op (.load yM (Rect.unit (s := S2x256x512) ![0, 0, 0] S2x256x512.size inb).toLoadRect hl) k) Q)) := by
    rintro _ rfl
    unfold py
    exact wp_load 𝒱₀ (c : Thread nD τ) none Set.univ (m := yM) (S := Finset.univ) (f := f) (Finset.subset_univ _)
  exact key f (Memref.readAt_unit_zero (Elt F) cc0_stg5_0 hz inb f)

theorem storeY {α : Type} (Q : α → sProp 𝕄) (c : Dev nD) {inb : ∀ a, (![0, 0, 0] : Fin _ → ℕ) a + S2x256x512.size a ≤ S2x256x512.size a}
    {f w : S2x256x512.Idx → Elt F .f32}
    {hx : (yM.access (Rect.unit (s := S2x256x512) ![0, 0, 0] S2x256x512.size inb)).Stores Finset.univ} {hm}
    {k : PUnit → Prog (TpuEff nD τ sig (Elt F) Λ₀ .tc) α} :
    py c f ⊢ iprop((py c w -∗ wp frame (wpE defs₀ 𝒱₀ (c : Thread nD τ) none) Set.univ (k ⟨⟩) Q)
      -∗ wp frame (wpE defs₀ 𝒱₀ (c : Thread nD τ) none) Set.univ
        (.op (.store yM (Rect.unit (s := S2x256x512) ![0, 0, 0] S2x256x512.size inb) w Finset.univ hx hm) k) Q) := by
  have hz : (![0, 0, 0] : Fin _ → ℕ) = 0 := by decide
  have key : ∀ g, (yM.access (Rect.unit (s := S2x256x512) ![0, 0, 0] S2x256x512.size inb)).write (Elt F) f w Finset.univ = g →
      (py c f ⊢ iprop((py c g -∗ wp frame (wpE defs₀ 𝒱₀ (c : Thread nD τ) none) Set.univ (k ⟨⟩) Q)
      -∗ wp frame (wpE defs₀ 𝒱₀ (c : Thread nD τ) none) Set.univ
        (.op (.store yM (Rect.unit (s := S2x256x512) ![0, 0, 0] S2x256x512.size inb) w Finset.univ hx hm) k) Q)) := by
    rintro _ rfl
    unfold py
    exact wp_store 𝒱₀ (c : Thread nD τ) none Set.univ (m := yM) (S := (Finset.univ : Finset S2x256x512.Idx)) (f := f) (hx := hx) (fun i _ => Finset.mem_univ (α := S2x256x512.Idx) i)
  exact key w (Memref.write_access_unit_zero_univ (Elt F) cc0_stg5_0 hz inb f w)

/-- A load of slot `j` of the query weights, at any share. -/
theorem loadA {α : Type} (Q : α → sProp 𝕄) (Wq : Dev nD → S1x512x256.Idx → Elt F .bf16) (c : Dev nD) {off : Fin 3 → ℕ} {inb : ∀ a, off a + S1x512x256.size a ≤ S16x512x256.size a} {j : ℕ}
    (ho : off = ![j, 0, 0]) {q : PosShare TreeShare}
    {hl : aM.view.LoadsAt (Rect.unit (s := S16x512x256) off S1x512x256.size inb).toLoadRect}
    {k : (S1x512x256.Idx → Elt F .bf16) → Prog (TpuEff nD τ sig (Elt F) Λ₀ .tc) α} :
    pts c false j q (allA Wq c) ⊢ iprop((pts c false j q (allA Wq c) -∗ wp frame (wpE defs₀ 𝒱₀ (c : Thread nD τ) none) Set.univ (k (Wq (org c j))) Q)
      -∗ wp frame (wpE defs₀ 𝒱₀ (c : Thread nD τ) none) Set.univ
        (.op (.load aM (Rect.unit (s := S16x512x256) off S1x512x256.size inb).toLoadRect hl) k) Q) := by
  rw [← readA Wq (inb := inb) ho c]
  unfold pts
  exact wp_load 𝒱₀ (c : Thread nD τ) none Set.univ (m := aM) (S := setA j) (f := allA Wq c)
    ((setOnA_sub _).trans (le_of_eq (rectA_set ho)))

/-- A load of a slot whose contents do not matter. -/
theorem peekA {α : Type} (Q : α → sProp 𝕄) (c : Dev nD) {off : Fin 3 → ℕ} {inb : ∀ a, off a + S1x512x256.size a ≤ S16x512x256.size a} {j : ℕ}
    (ho : off = ![j, 0, 0]) {q : PosShare TreeShare} {f : S16x512x256.Idx → Elt F .bf16}
    {hl : aM.view.LoadsAt (Rect.unit (s := S16x512x256) off S1x512x256.size inb).toLoadRect}
    {k : (S1x512x256.Idx → Elt F .bf16) → Prog (TpuEff nD τ sig (Elt F) Λ₀ .tc) α} :
    pts c false j q f ⊢ iprop((pts c false j q f -∗ wp frame (wpE defs₀ 𝒱₀ (c : Thread nD τ) none) Set.univ
        (k (aM.view.readAt (Elt F) (Rect.unit (s := S16x512x256) off S1x512x256.size inb).toLoadRect f)) Q)
      -∗ wp frame (wpE defs₀ 𝒱₀ (c : Thread nD τ) none) Set.univ
        (.op (.load aM (Rect.unit (s := S16x512x256) off S1x512x256.size inb).toLoadRect hl) k) Q) := by
  unfold pts
  exact wp_load 𝒱₀ (c : Thread nD τ) none Set.univ (m := aM) (S := setA j) (f := f)
    ((setOnA_sub _).trans (le_of_eq (rectA_set ho)))

/-- The store of a device's own weights in slot `j`. -/
theorem putA {α : Type} (Q : α → sProp 𝕄) (Wq : Dev nD → S1x512x256.Idx → Elt F .bf16) (c : Dev nD) {off : Fin 3 → ℕ} {inb : ∀ a, off a + S1x512x256.size a ≤ S16x512x256.size a} {j : ℕ}
    (ho : off = ![j, 0, 0]) {f : S16x512x256.Idx → Elt F .bf16} {w : S1x512x256.Idx → Elt F .bf16} (hw : w = Wq (org c j))
    {hx : (aM.access (Rect.unit (s := S16x512x256) off S1x512x256.size inb)).Stores Finset.univ} {hm}
    {k : PUnit → Prog (TpuEff nD τ sig (Elt F) Λ₀ .tc) α} :
    pts c false j fullShare f ⊢ iprop((pts c false j fullShare (allA Wq c) -∗ wp frame (wpE defs₀ 𝒱₀ (c : Thread nD τ) none) Set.univ (k ⟨⟩) Q)
      -∗ wp frame (wpE defs₀ 𝒱₀ (c : Thread nD τ) none) Set.univ
        (.op (.store aM (Rect.unit (s := S16x512x256) off S1x512x256.size inb) w Finset.univ hx hm) k) Q) := by
  have key : ∀ X : sProp 𝕄, (((c : Thread nD τ).loc (scr false)) ↦[setA j]{fullShare} (aM.access (Rect.unit (s := S16x512x256) off S1x512x256.size inb)).write (Elt F) f w Finset.univ : sProp 𝕄) = X →
      (pts c false j fullShare f ⊢ iprop((X -∗ wp frame (wpE defs₀ 𝒱₀ (c : Thread nD τ) none) Set.univ (k ⟨⟩) Q)
      -∗ wp frame (wpE defs₀ 𝒱₀ (c : Thread nD τ) none) Set.univ
        (.op (.store aM (Rect.unit (s := S16x512x256) off S1x512x256.size inb) w Finset.univ hx hm) k) Q)) := by
    rintro _ rfl
    exact wp_store 𝒱₀ (c : Thread nD τ) none Set.univ (m := aM) (S := setA j) (f := f) (hx := hx)
      (le_of_eq ((View.setOn_univ _).trans (accA_set ho)))
  exact key _ (pointsTo_congr (storeA Wq (inb := inb) ho c f w hw))

/-- A load of slot `j` of the output weights, at any share. -/
theorem loadB {α : Type} (Q : α → sProp 𝕄) (Wo : Dev nD → S1x256x512.Idx → Elt F .bf16) (c : Dev nD) {off : Fin 3 → ℕ} {inb : ∀ a, off a + S1x256x512.size a ≤ S16x256x512.size a} {j : ℕ}
    (ho : off = ![j, 0, 0]) {q : PosShare TreeShare}
    {hl : bM.view.LoadsAt (Rect.unit (s := S16x256x512) off S1x256x512.size inb).toLoadRect}
    {k : (S1x256x512.Idx → Elt F .bf16) → Prog (TpuEff nD τ sig (Elt F) Λ₀ .tc) α} :
    pts c true j q (allB Wo c) ⊢ iprop((pts c true j q (allB Wo c) -∗ wp frame (wpE defs₀ 𝒱₀ (c : Thread nD τ) none) Set.univ (k (Wo (org c j))) Q)
      -∗ wp frame (wpE defs₀ 𝒱₀ (c : Thread nD τ) none) Set.univ
        (.op (.load bM (Rect.unit (s := S16x256x512) off S1x256x512.size inb).toLoadRect hl) k) Q) := by
  rw [← readB Wo (inb := inb) ho c]
  unfold pts
  exact wp_load 𝒱₀ (c : Thread nD τ) none Set.univ (m := bM) (S := setB j) (f := allB Wo c)
    ((setOnB_sub _).trans (le_of_eq (rectB_set ho)))

/-- A load of a slot whose contents do not matter. -/
theorem peekB {α : Type} (Q : α → sProp 𝕄) (c : Dev nD) {off : Fin 3 → ℕ} {inb : ∀ a, off a + S1x256x512.size a ≤ S16x256x512.size a} {j : ℕ}
    (ho : off = ![j, 0, 0]) {q : PosShare TreeShare} {f : S16x256x512.Idx → Elt F .bf16}
    {hl : bM.view.LoadsAt (Rect.unit (s := S16x256x512) off S1x256x512.size inb).toLoadRect}
    {k : (S1x256x512.Idx → Elt F .bf16) → Prog (TpuEff nD τ sig (Elt F) Λ₀ .tc) α} :
    pts c true j q f ⊢ iprop((pts c true j q f -∗ wp frame (wpE defs₀ 𝒱₀ (c : Thread nD τ) none) Set.univ
        (k (bM.view.readAt (Elt F) (Rect.unit (s := S16x256x512) off S1x256x512.size inb).toLoadRect f)) Q)
      -∗ wp frame (wpE defs₀ 𝒱₀ (c : Thread nD τ) none) Set.univ
        (.op (.load bM (Rect.unit (s := S16x256x512) off S1x256x512.size inb).toLoadRect hl) k) Q) := by
  unfold pts
  exact wp_load 𝒱₀ (c : Thread nD τ) none Set.univ (m := bM) (S := setB j) (f := f)
    ((setOnB_sub _).trans (le_of_eq (rectB_set ho)))

/-- The store of a device's own weights in slot `j`. -/
theorem putB {α : Type} (Q : α → sProp 𝕄) (Wo : Dev nD → S1x256x512.Idx → Elt F .bf16) (c : Dev nD) {off : Fin 3 → ℕ} {inb : ∀ a, off a + S1x256x512.size a ≤ S16x256x512.size a} {j : ℕ}
    (ho : off = ![j, 0, 0]) {f : S16x256x512.Idx → Elt F .bf16} {w : S1x256x512.Idx → Elt F .bf16} (hw : w = Wo (org c j))
    {hx : (bM.access (Rect.unit (s := S16x256x512) off S1x256x512.size inb)).Stores Finset.univ} {hm}
    {k : PUnit → Prog (TpuEff nD τ sig (Elt F) Λ₀ .tc) α} :
    pts c true j fullShare f ⊢ iprop((pts c true j fullShare (allB Wo c) -∗ wp frame (wpE defs₀ 𝒱₀ (c : Thread nD τ) none) Set.univ (k ⟨⟩) Q)
      -∗ wp frame (wpE defs₀ 𝒱₀ (c : Thread nD τ) none) Set.univ
        (.op (.store bM (Rect.unit (s := S16x256x512) off S1x256x512.size inb) w Finset.univ hx hm) k) Q) := by
  have key : ∀ X : sProp 𝕄, (((c : Thread nD τ).loc (scr true)) ↦[setB j]{fullShare} (bM.access (Rect.unit (s := S16x256x512) off S1x256x512.size inb)).write (Elt F) f w Finset.univ : sProp 𝕄) = X →
      (pts c true j fullShare f ⊢ iprop((X -∗ wp frame (wpE defs₀ 𝒱₀ (c : Thread nD τ) none) Set.univ (k ⟨⟩) Q)
      -∗ wp frame (wpE defs₀ 𝒱₀ (c : Thread nD τ) none) Set.univ
        (.op (.store bM (Rect.unit (s := S16x256x512) off S1x256x512.size inb) w Finset.univ hx hm) k) Q)) := by
    rintro _ rfl
    exact wp_store 𝒱₀ (c : Thread nD τ) none Set.univ (m := bM) (S := setB j) (f := f) (hx := hx)
      (le_of_eq ((View.setOn_univ _).trans (accB_set ho)))
  exact key _ (pointsTo_congr (storeB Wo (inb := inb) ho c f w hw))

end Cert.KernelIdeal.Ring

end
-- ==== Proof.KI.Val.lean ====
/- What one step of the kernel computes: the attention of a device's queries over one shard of heads, projected and
   added to the output; and that each of the body's three spellings of it is this. -/
module

public import proofs.«01_k».proof.Proof.KI.Loads

@[expose] public section

noncomputable section

namespace Cert.KernelIdeal.Ring

open Cert.KernelIdeal Cert.KernelIdeal.Gen
open Idealize.ShloMosaic

variable {F : FTy → Type} [FloatOps F] [Named F]

/-- The mask as a bias: zero where the block pattern keeps a pair, the named constant where it does not. -/
def bias : FVec F S256x256 .f32 := k0_pay40 k0_pay38 k0_pay39

/-- A head's exponentials: of its scores plus the bias. -/
def expo (q : FVec F S256x64 .bf16) (k : Vec F S1x1x256x64 .bf16) : FVec F S256x256 .f32 :=
  exp (addf (matmul dot_S256x64_S256x64_S256x256_1_1_0_0_n_n none q (shapeCast S256x64 k shapeCasts_S1x1x256x64_S256x64)
    (constant S256x256 .f32 0x00000000#32)) bias)

/-- The reciprocals of the exponentials' row sums. -/
def recip (u : FVec F S256x256 .f32) : FVec F S256x1 .f32 :=
  divf (broadcast S256x1 (Scalar.ofBits .f32 0x3F800000#32))
    (shapeCast S256x1 (multiReduction .add [1] S256 u 0x00000000#32 reduces_S256x256_S256 (.inl rfl) rfl) shapeCasts_S256_S256x1)

/-- A head's values averaged with its exponentials as weights. -/
def ctx (q : FVec F S256x64 .bf16) (k v : Vec F S1x1x256x64 .bf16) : FVec F S256x64 .bf16 :=
  truncf .bf16 (mulf
    (matmul dot_S256x256_S256x64_S256x64_1_0_0_1_n_n none (truncf .bf16 (expo q k) bitsLt_bf16_f32)
      (shapeCast S256x64 v shapeCasts_S1x1x256x64_S256x64) (constant S256x64 .f32 0x00000000#32))
    (broadcastTo S256x64 (recip (expo q k)) broadcasts_S256x1_S256x64)) bitsLt_bf16_f32

/-- The queries of both batches for one shard of heads. -/
def qry (x : Vec F S2x256x512 .bf16) (wq : Vec F S1x512x256 .bf16) : FVec F S512x256 .bf16 :=
  truncf .bf16 (matmul dot_S512x512_S512x256_S512x256_1_0_0_1_n_n none
    (shapeCast S512x512 (shapeCast S2x256x512 x shapeCasts_S2x256x512_S2x256x512) shapeCasts_S2x256x512_S512x512)
    (shapeCast S512x256 wq shapeCasts_S1x512x256_S512x256) (constant S512x256 .f32 0x00000000#32)) bitsLt_bf16_f32

/-- The four heads of one batch side by side. -/
def row (q : FVec F S256x256 .bf16) (k v : Fin 4 → Vec F S1x1x256x64 .bf16) : FVec F S256x256 .bf16 :=
  concatenate S256x256 1
    [⟨S256x64, ctx (extractStridedSlice S256x64 ![0, 0] q slices_S256x256_o0_0_S256x64) (k 0) (v 0)⟩,
     ⟨S256x64, ctx (extractStridedSlice S256x64 ![0, 64] q slices_S256x256_o0_64_S256x64) (k 1) (v 1)⟩,
     ⟨S256x64, ctx (extractStridedSlice S256x64 ![0, 128] q slices_S256x256_o0_128_S256x64) (k 2) (v 2)⟩,
     ⟨S256x64, ctx (extractStridedSlice S256x64 ![0, 192] q slices_S256x256_o0_192_S256x64) (k 3) (v 3)⟩]
    concatenates_S256x64_S256x64_S256x64_S256x64_S256x256_d1

/-- Both batches' rows, one above the other. -/
def rows (x : Vec F S2x256x512 .bf16) (wq : Vec F S1x512x256 .bf16) (k v : Fin 4 → Fin 2 → Vec F S1x1x256x64 .bf16) :
    FVec F S512x256 .bf16 :=
  concatenate S512x256 0
    [⟨S256x256, row (extractStridedSlice S256x256 ![0, 0] (qry x wq) slices_S512x256_o0_0_S256x256) (fun h => k h 0) (fun h => v h 0)⟩,
     ⟨S256x256, row (extractStridedSlice S256x256 ![256, 0] (qry x wq) slices_S512x256_o256_0_S256x256) (fun h => k h 1) (fun h => v h 1)⟩]
    concatenates_S256x256_S256x256_S512x256_d0

/-- One step: the output with one shard's projected attention added. -/
def comp (x : Vec F S2x256x512 .bf16) (wq : Vec F S1x512x256 .bf16) (wo : Vec F S1x256x512 .bf16)
    (k v : Fin 4 → Fin 2 → Vec F S1x1x256x64 .bf16) (acc : Vec F S2x256x512 .f32) : FVec F S2x256x512 .f32 :=
  addf (shapeCast S2x256x512 acc shapeCasts_S2x256x512_S2x256x512)
    (shapeCast S2x256x512 (matmul dot_S512x256_S256x512_S512x512_1_0_0_1_n_n none (rows x wq k v)
      (shapeCast S256x512 wo shapeCasts_S1x256x512_S256x512) (constant S512x512 .f32 0x00000000#32)) shapeCasts_S512x512_S2x256x512)

/-- The body's spelling of the step before the loop. -/
theorem comp_first (x : Vec F S2x256x512 .bf16) (wq : Vec F S1x512x256 .bf16) (wo : Vec F S1x256x512 .bf16)
    (k v : Fin 4 → Fin 2 → Vec F S1x1x256x64 .bf16) (acc : Vec F S2x256x512 .f32) :
    k0_pay61 bias (k0_pay45 wo) (k0_pay53 bias (k0_pay48 bias (k0_pay44 wq) x (k 0 0) (v 0 0)) (k0_pay50 (k0_pay49 bias (k0_pay44 wq) x (k 1 0)) (v 1 0)) (k0_pay51 bias (k0_pay47 (k0_pay44 wq) x) (k 2 0) (v 2 0)) (k0_pay52 (k0_pay47 (k0_pay44 wq) x)) ((k 3 0)) (v 3 0)) (k0_pay54 (k0_pay46 (k0_pay44 wq) x)) (k0_pay55 bias (k0_pay46 (k0_pay44 wq) x) (k 0 1) (v 0 1)) (k0_pay56 bias (k0_pay54 (k0_pay46 (k0_pay44 wq) x)) (k 1 1) (v 1 1)) (k0_pay58 bias (k0_pay54 (k0_pay46 (k0_pay44 wq) x)) (k 2 1)) (k0_pay59 bias (k0_pay54 (k0_pay46 (k0_pay44 wq) x)) (k 2 1)) (k0_pay60 (v 2 1)) ((constant S256x64 .f32 0x00000000#32)) (k 3 1) (v 3 1) acc = comp x wq wo k v acc := rfl

/-- The body's spelling of the step of the slot that came from the left. -/
theorem comp_right (x : Vec F S2x256x512 .bf16) (wq : Vec F S1x512x256 .bf16) (wo : Vec F S1x256x512 .bf16)
    (k v : Fin 4 → Fin 2 → Vec F S1x1x256x64 .bf16) (acc : Vec F S2x256x512 .f32) :
    k0_pay62 (k0_pay19 wo) (k0_pay29 bias (k0_pay21 wq x) (k0_pay25 (k0_pay23 bias wq x (k 0 0)) (k0_pay24 bias wq x (k 0 0)) (v 0 0)) (k0_pay26 bias (k0_pay21 wq x) (k 1 0) (v 1 0)) (k0_pay27 bias (k0_pay21 wq x) (k 2 0)) (k0_pay28 bias (k0_pay21 wq x) (k 2 0)) (v 2 0) (k 3 0) (v 3 0)) (k0_pay32 bias (k0_pay31 (k0_pay20 wq x)) (k 0 1) (v 0 1)) (k0_pay33 bias (k0_pay30 (k0_pay20 wq x)) (k 1 1) (v 1 1)) (k0_pay34 bias (k0_pay30 (k0_pay20 wq x)) (k 2 1) (v 2 1)) (k0_pay36 bias (k0_pay30 (k0_pay20 wq x)) (k 3 1)) (k0_pay37 bias (k0_pay30 (k0_pay20 wq x)) (k 3 1) (v 3 1)) acc = comp x wq wo k v acc := rfl

/-- The body's spelling of the step of the slot that came from the right. -/
theorem comp_left (x : Vec F S2x256x512 .bf16) (wq : Vec F S1x512x256 .bf16) (wo : Vec F S1x256x512 .bf16)
    (k v : Fin 4 → Fin 2 → Vec F S1x1x256x64 .bf16) (acc : Vec F S2x256x512 .f32) :
    k0_pay63 (k0_pay17 bias (k0_pay1 wo) (k0_pay10 bias (k0_pay3 wq x) (k0_pay4 bias wq x (k 0 0) (v 0 0)) (k0_pay5 bias (k0_pay3 wq x) (k 1 0) (v 1 0)) (k0_pay7 bias (k0_pay3 wq x) (k 2 0)) (k0_pay8 bias (k0_pay3 wq x) (k 2 0)) (k0_pay9 (v 2 0)) ((constant S256x64 .f32 0x00000000#32)) (k 3 0) (v 3 0)) (k0_pay11 (k0_pay2 wq x)) (k0_pay14 (k0_pay12 bias (k0_pay2 wq x) (k 0 1)) (k0_pay13 bias (k0_pay2 wq x) (k 0 1)) (v 0 1)) (k0_pay15 bias (k0_pay11 (k0_pay2 wq x)) (k 1 1) (v 1 1)) (k0_pay16 bias (k0_pay11 (k0_pay2 wq x)) (k 2 1)) (v 2 1) (k 3 1) (v 3 1)) (k0_pay18 acc) = comp x wq wo k v acc := rfl

end Cert.KernelIdeal.Ring

end
-- ==== Proof.KI.Parts.lean ====
/- The parts of the body that only load and compute: what each reads and what it hands on. -/
module

public import proofs.«01_k».proof.Proof.KI.Val

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The staged operands a step reads: the activations, the keys, the values. -/
def ins (c : Dev nD) (x : S2x256x512.Idx → Elt F .bf16) (K V : S64x2x256x64.Idx → Elt F .bf16) : sProp 𝕄 :=
  iprop(px c x ∗ pk c K ∗ pv c V)

set_option maxHeartbeats 1000000 in
theorem run_part17 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v2 : BitVec 32) (v75 : FVec F S256x256 .f32) (v131 : FVec F S512x256 .bf16) (v132 : Vec F S1x256x512 .bf16)
    (Q : ((Σ' (v133 : FVec F S256x512 .bf16) (v138 : FVec F S512x256 .bf16) (v139 : FVec F S256x256 .bf16) (v160 : FVec F S256x64 .bf16) (v162 : BitVec 32), FVec F S256x256 .f32)) → sProp 𝕄) :
    iprop(ins c x K V) ⊢ iprop((ins c x K V -∗ Q ⟨k0_pay45 v132, k0_pay46 v131 x, k0_pay47 v131 x, k0_pay48 v75 v131 x (blk K c 0 0) (blk V c 0 0), (Scalar.addi (Scalar.muli v2 4#32) 1#32), k0_pay49 v75 v131 x (blk K c 1 0)⟩)
      -∗ wp frame (wpE defs₀ 𝒱₀ (c : Thread nD τ) none) Set.univ (k0_part17 xM h0 qM h1 oM h2 kM h3 vM h4 yM h5 aM h6 bM h7 cc0_scratch2 cc0_scratch3 cc0_scratch4 cc0_scratch5 c v2 v75 v131 v132) Q) := by
  rw [k0_part17_eq_skeleton]
  unfold k0_part17_skel ins
  simp only [Prog.lift, Prog.bind_op, Prog.bind_ret, Prog.pure_eq_ret]
  iintro ⟨Hx, Hk, Hv⟩ HQ
  iapply (loadX Q c) $$ Hx; iintro Hx
  iapply (loadK Q c (e := c) (h := 0) (b := 0) (off1_eq c 0)) $$ Hk; iintro Hk
  iapply (loadV Q c (e := c) (h := 0) (b := 0) (off1_eq c 0)) $$ Hv; iintro Hv
  iapply (loadK Q c (e := c) (h := 1) (b := 0) (off1_eq c 1)) $$ Hk; iintro Hk
  rw [wp_ret]; imodintro; iapply HQ
  isplitl [Hx]; · iexact Hx
  isplitl [Hk]; · iexact Hk
  iexact Hv

set_option maxHeartbeats 1000000 in
theorem run_part18 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v2 : BitVec 32) (v75 : FVec F S256x256 .f32) (v139 : FVec F S256x256 .bf16) (v162 : BitVec 32) (v169 : FVec F S256x256 .f32)
    (Q : ((Σ' (v181 : FVec F S256x64 .bf16) (v202 : FVec F S256x64 .bf16) (v204 : BitVec 32) (v205 : FVec F S256x64 .bf16), Vec F S1x1x256x64 .bf16)) → sProp 𝕄) :
    iprop(ins c x K V) ⊢ iprop((ins c x K V -∗ Q ⟨k0_pay50 v169 (blk V c 1 0), k0_pay51 v75 v139 (blk K c 2 0) (blk V c 2 0), (Scalar.addi (Scalar.muli v2 4#32) 3#32), k0_pay52 v139, (blk K c 3 0)⟩)
      -∗ wp frame (wpE defs₀ 𝒱₀ (c : Thread nD τ) none) Set.univ (k0_part18 xM h0 qM h1 oM h2 kM h3 vM h4 yM h5 aM h6 bM h7 cc0_scratch2 cc0_scratch3 cc0_scratch4 cc0_scratch5 c v2 v75 v139 v162 v169) Q) := by
  rw [k0_part18_eq_skeleton]
  unfold k0_part18_skel ins
  simp only [Prog.lift, Prog.bind_op, Prog.bind_ret, Prog.pure_eq_ret]
  iintro ⟨Hx, Hk, Hv⟩ HQ
  iapply (loadV Q c (e := c) (h := 1) (b := 0) (off1_eq c 1)) $$ Hv; iintro Hv
  iapply (loadK Q c (e := c) (h := 2) (b := 0) (off1_eq c 2)) $$ Hk; iintro Hk
  iapply (loadV Q c (e := c) (h := 2) (b := 0) (off1_eq c 2)) $$ Hv; iintro Hv
  iapply (loadK Q c (e := c) (h := 3) (b := 0) (off1_eq c 3)) $$ Hk; iintro Hk
  rw [wp_ret]; imodintro; iapply HQ
  isplitl [Hx]; · iexact Hx
  isplitl [Hk]; · iexact Hk
  iexact Hv

set_option maxHeartbeats 1000000 in
theorem run_part19 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v2 : BitVec 32) (v75 : FVec F S256x256 .f32) (v138 : FVec F S512x256 .bf16) (v160 : FVec F S256x64 .bf16) (v181 : FVec F S256x64 .bf16) (v202 : FVec F S256x64 .bf16) (v204 : BitVec 32) (v205 : FVec F S256x64 .bf16) (v207 : Vec F S1x1x256x64 .bf16)
    (Q : ((Σ' (v224 : FVec F S256x256 .bf16) (v225 : FVec F S256x256 .bf16) (v246 : FVec F S256x64 .bf16), BitVec 32)) → sProp 𝕄) :
    iprop(ins c x K V) ⊢ iprop((ins c x K V -∗ Q ⟨k0_pay53 v75 v160 v181 v202 v205 v207 (blk V c 3 0), k0_pay54 v138, k0_pay55 v75 v138 (blk K c 0 1) (blk V c 0 1), (Scalar.muli v2 4#32)⟩)
      -∗ wp frame (wpE defs₀ 𝒱₀ (c : Thread nD τ) none) Set.univ (k0_part19 xM h0 qM h1 oM h2 kM h3 vM h4 yM h5 aM h6 bM h7 cc0_scratch2 cc0_scratch3 cc0_scratch4 cc0_scratch5 c v2 v75 v138 v160 v181 v202 v204 v205 v207) Q) := by
  rw [k0_part19_eq_skeleton]
  unfold k0_part19_skel ins
  simp only [Prog.lift, Prog.bind_op, Prog.bind_ret, Prog.pure_eq_ret]
  iintro ⟨Hx, Hk, Hv⟩ HQ
  iapply (loadV Q c (e := c) (h := 3) (b := 0) (off1_eq c 3)) $$ Hv; iintro Hv
  iapply (loadK Q c (e := c) (h := 0) (b := 1) (off2_eq c 0)) $$ Hk; iintro Hk
  iapply (loadV Q c (e := c) (h := 0) (b := 1) (off2_eq c 0)) $$ Hv; iintro Hv
  rw [wp_ret]; imodintro; iapply HQ
  isplitl [Hx]; · iexact Hx
  isplitl [Hk]; · iexact Hk
  iexact Hv

set_option maxHeartbeats 1000000 in
theorem run_part20 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v2 : BitVec 32) (v75 : FVec F S256x256 .f32) (v225 : FVec F S256x256 .bf16) (v247 : BitVec 32)
    (Q : ((Σ' (v267 : FVec F S256x64 .bf16) (v280 : FVec F S256x1 .f32) (v281 : FVec F S256x256 .bf16) (v284 : FVec F S256x64 .bf16), FVec F S256x64 .f32)) → sProp 𝕄) :
    iprop(ins c x K V) ⊢ iprop((ins c x K V -∗ Q ⟨k0_pay56 v75 v225 (blk K c 1 1) (blk V c 1 1), k0_pay58 v75 v225 (blk K c 2 1), k0_pay59 v75 v225 (blk K c 2 1), k0_pay60 (blk V c 2 1), (constant S256x64 .f32 0x00000000#32)⟩)
      -∗ wp frame (wpE defs₀ 𝒱₀ (c : Thread nD τ) none) Set.univ (k0_part20 xM h0 qM h1 oM h2 kM h3 vM h4 yM h5 aM h6 bM h7 cc0_scratch2 cc0_scratch3 cc0_scratch4 cc0_scratch5 c v2 v75 v225 v247) Q) := by
  rw [k0_part20_eq_skeleton]
  unfold k0_part20_skel ins
  simp only [Prog.lift, Prog.bind_op, Prog.bind_ret, Prog.pure_eq_ret]
  iintro ⟨Hx, Hk, Hv⟩ HQ
  iapply (loadK Q c (e := c) (h := 1) (b := 1) (off2_eq c 1)) $$ Hk; iintro Hk
  iapply (loadV Q c (e := c) (h := 1) (b := 1) (off2_eq c 1)) $$ Hv; iintro Hv
  iapply (loadK Q c (e := c) (h := 2) (b := 1) (off2_eq c 2)) $$ Hk; iintro Hk
  iapply (loadV Q c (e := c) (h := 2) (b := 1) (off2_eq c 2)) $$ Hv; iintro Hv
  rw [wp_ret]; imodintro; iapply HQ
  isplitl [Hx]; · iexact Hx
  isplitl [Hk]; · iexact Hk
  iexact Hv

set_option maxHeartbeats 1000000 in
theorem run_part9 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v75 : FVec F S256x256 .f32) (k0_t1 : Fin k0_t1_loop.trips) (v358 : BitVec 32) (v370 : FVec F S256x256 .bf16) (v383 : FVec F S256x1 .f32) (v384 : FVec F S256x256 .bf16)
    (Q : ((Σ' (v391 : FVec F S256x64 .bf16) (v412 : FVec F S256x64 .bf16) (v414 : BitVec 32) (v421 : FVec F S256x256 .f32), FVec F S256 .f32)) → sProp 𝕄) :
    iprop(ins c x K V) ⊢ iprop((ins c x K V -∗ Q ⟨k0_pay25 v383 v384 (blk V (org c (k0_t1.val + 1)) 0 0), k0_pay26 v75 v370 (blk K (org c (k0_t1.val + 1)) 1 0) (blk V (org c (k0_t1.val + 1)) 1 0), (Scalar.addi (Scalar.muli v358 4#32) 2#32), k0_pay27 v75 v370 (blk K (org c (k0_t1.val + 1)) 2 0), k0_pay28 v75 v370 (blk K (org c (k0_t1.val + 1)) 2 0)⟩)
      -∗ wp frame (wpE defs₀ 𝒱₀ (c : Thread nD τ) none) Set.univ (k0_part9 xM h0 qM h1 oM h2 kM h3 vM h4 yM h5 aM h6 bM h7 cc0_scratch2 cc0_scratch3 cc0_scratch4 cc0_scratch5 c v75 k0_t1 v358 v370 v383 v384) Q) := by
  rw [k0_part9_eq_skeleton]
  unfold k0_part9_skel ins
  simp only [Prog.lift, Prog.bind_op, Prog.bind_ret, Prog.pure_eq_ret]
  iintro ⟨Hx, Hk, Hv⟩ HQ
  iapply (loadV Q c (e := (org c (k0_t1.val + 1))) (h := 0) (b := 0) (off29_eq c k0_t1 0)) $$ Hv; iintro Hv
  iapply (loadK Q c (e := (org c (k0_t1.val + 1))) (h := 1) (b := 0) (off29_eq c k0_t1 1)) $$ Hk; iintro Hk
  iapply (loadV Q c (e := (org c (k0_t1.val + 1))) (h := 1) (b := 0) (off29_eq c k0_t1 1)) $$ Hv; iintro Hv
  iapply (loadK Q c (e := (org c (k0_t1.val + 1))) (h := 2) (b := 0) (off29_eq c k0_t1 2)) $$ Hk; iintro Hk
  rw [wp_ret]; imodintro; iapply HQ
  isplitl [Hx]; · iexact Hx
  isplitl [Hk]; · iexact Hk
  iexact Hv

set_option maxHeartbeats 1000000 in
theorem run_part10 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v75 : FVec F S256x256 .f32) (k0_t1 : Fin k0_t1_loop.trips) (v358 : BitVec 32) (v369 : FVec F S512x256 .bf16) (v370 : FVec F S256x256 .bf16) (v391 : FVec F S256x64 .bf16) (v412 : FVec F S256x64 .bf16) (v414 : BitVec 32) (v421 : FVec F S256x256 .f32) (v422 : FVec F S256 .f32)
    (Q : ((Σ' (v455 : FVec F S256x256 .bf16) (v456 : FVec F S256x256 .bf16) (v458 : BitVec 32), FVec F S256x64 .bf16)) → sProp 𝕄) :
    iprop(ins c x K V) ⊢ iprop((ins c x K V -∗ Q ⟨k0_pay29 v75 v370 v391 v412 v421 v422 (blk V (org c (k0_t1.val + 1)) 2 0) (blk K (org c (k0_t1.val + 1)) 3 0) (blk V (org c (k0_t1.val + 1)) 3 0), k0_pay30 v369, (Scalar.addi (Scalar.muli v358 4#32) 0#32), k0_pay31 v369⟩)
      -∗ wp frame (wpE defs₀ 𝒱₀ (c : Thread nD τ) none) Set.univ (k0_part10 xM h0 qM h1 oM h2 kM h3 vM h4 yM h5 aM h6 bM h7 cc0_scratch2 cc0_scratch3 cc0_scratch4 cc0_scratch5 c v75 k0_t1 v358 v369 v370 v391 v412 v414 v421 v422) Q) := by
  rw [k0_part10_eq_skeleton]
  unfold k0_part10_skel ins
  simp only [Prog.lift, Prog.bind_op, Prog.bind_ret, Prog.pure_eq_ret]
  iintro ⟨Hx, Hk, Hv⟩ HQ
  iapply (loadV Q c (e := (org c (k0_t1.val + 1))) (h := 2) (b := 0) (off29_eq c k0_t1 2)) $$ Hv; iintro Hv
  iapply (loadK Q c (e := (org c (k0_t1.val + 1))) (h := 3) (b := 0) (off29_eq c k0_t1 3)) $$ Hk; iintro Hk
  iapply (loadV Q c (e := (org c (k0_t1.val + 1))) (h := 3) (b := 0) (off29_eq c k0_t1 3)) $$ Hv; iintro Hv
  rw [wp_ret]; imodintro; iapply HQ
  isplitl [Hx]; · iexact Hx
  isplitl [Hk]; · iexact Hk
  iexact Hv

set_option maxHeartbeats 1000000 in
theorem run_part11 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v75 : FVec F S256x256 .f32) (k0_t1 : Fin k0_t1_loop.trips) (v358 : BitVec 32) (v456 : FVec F S256x256 .bf16) (v458 : BitVec 32) (v459 : FVec F S256x64 .bf16)
    (Q : ((Σ' (v477 : FVec F S256x64 .bf16) (v498 : FVec F S256x64 .bf16) (v499 : BitVec 32), BitVec 32)) → sProp 𝕄) :
    iprop(ins c x K V) ⊢ iprop((ins c x K V -∗ Q ⟨k0_pay32 v75 v459 (blk K (org c (k0_t1.val + 1)) 0 1) (blk V (org c (k0_t1.val + 1)) 0 1), k0_pay33 v75 v456 (blk K (org c (k0_t1.val + 1)) 1 1) (blk V (org c (k0_t1.val + 1)) 1 1), (Scalar.muli v358 4#32), 2#32⟩)
      -∗ wp frame (wpE defs₀ 𝒱₀ (c : Thread nD τ) none) Set.univ (k0_part11 xM h0 qM h1 oM h2 kM h3 vM h4 yM h5 aM h6 bM h7 cc0_scratch2 cc0_scratch3 cc0_scratch4 cc0_scratch5 c v75 k0_t1 v358 v456 v458 v459) Q) := by
  rw [k0_part11_eq_skeleton]
  unfold k0_part11_skel ins
  simp only [Prog.lift, Prog.bind_op, Prog.bind_ret, Prog.pure_eq_ret]
  iintro ⟨Hx, Hk, Hv⟩ HQ
  iapply (loadK Q c (e := (org c (k0_t1.val + 1))) (h := 0) (b := 1) (off30_eq c k0_t1 0)) $$ Hk; iintro Hk
  iapply (loadV Q c (e := (org c (k0_t1.val + 1))) (h := 0) (b := 1) (off30_eq c k0_t1 0)) $$ Hv; iintro Hv
  iapply (loadK Q c (e := (org c (k0_t1.val + 1))) (h := 1) (b := 1) (off30_eq c k0_t1 1)) $$ Hk; iintro Hk
  iapply (loadV Q c (e := (org c (k0_t1.val + 1))) (h := 1) (b := 1) (off30_eq c k0_t1 1)) $$ Hv; iintro Hv
  rw [wp_ret]; imodintro; iapply HQ
  isplitl [Hx]; · iexact Hx
  isplitl [Hk]; · iexact Hk
  iexact Hv

set_option maxHeartbeats 1000000 in
theorem run_part12 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v75 : FVec F S256x256 .f32) (k0_t1 : Fin k0_t1_loop.trips) (v358 : BitVec 32) (v456 : FVec F S256x256 .bf16) (v499 : BitVec 32) (c2_i32_305 : BitVec 32)
    (Q : ((Σ' (v519 : FVec F S256x64 .bf16) (v532 : FVec F S256x1 .f32), FVec F S256x64 .f32)) → sProp 𝕄) :
    iprop(ins c x K V) ⊢ iprop((ins c x K V -∗ Q ⟨k0_pay34 v75 v456 (blk K (org c (k0_t1.val + 1)) 2 1) (blk V (org c (k0_t1.val + 1)) 2 1), k0_pay36 v75 v456 (blk K (org c (k0_t1.val + 1)) 3 1), k0_pay37 v75 v456 (blk K (org c (k0_t1.val + 1)) 3 1) (blk V (org c (k0_t1.val + 1)) 3 1)⟩)
      -∗ wp frame (wpE defs₀ 𝒱₀ (c : Thread nD τ) none) Set.univ (k0_part12 xM h0 qM h1 oM h2 kM h3 vM h4 yM h5 aM h6 bM h7 cc0_scratch2 cc0_scratch3 cc0_scratch4 cc0_scratch5 c v75 k0_t1 v358 v456 v499 c2_i32_305) Q) := by
  rw [k0_part12_eq_skeleton]
  unfold k0_part12_skel ins
  simp only [Prog.lift, Prog.bind_op, Prog.bind_ret, Prog.pure_eq_ret]
  iintro ⟨Hx, Hk, Hv⟩ HQ
  iapply (loadK Q c (e := (org c (k0_t1.val + 1))) (h := 2) (b := 1) (off30_eq c k0_t1 2)) $$ Hk; iintro Hk
  iapply (loadV Q c (e := (org c (k0_t1.val + 1))) (h := 2) (b := 1) (off30_eq c k0_t1 2)) $$ Hv; iintro Hv
  iapply (loadK Q c (e := (org c (k0_t1.val + 1))) (h := 3) (b := 1) (off30_eq c k0_t1 3)) $$ Hk; iintro Hk
  iapply (loadV Q c (e := (org c (k0_t1.val + 1))) (h := 3) (b := 1) (off30_eq c k0_t1 3)) $$ Hv; iintro Hv
  rw [wp_ret]; imodintro; iapply HQ
  isplitl [Hx]; · iexact Hx
  isplitl [Hk]; · iexact Hk
  iexact Hv

set_option maxHeartbeats 1000000 in
theorem run_part2 (c : Dev nD) (x : S2x256x512.Idx → Elt F .bf16) (K V : S64x2x256x64.Idx → Elt F .bf16) (Wq : Dev nD → S1x512x256.Idx → Elt F .bf16) (qa : PosShare TreeShare) (Wo : Dev nD → S1x256x512.Idx → Elt F .bf16) (qb : PosShare TreeShare) {h0 : xM.IsWhole} {h1 : qM.IsWhole} {h2 : oM.IsWhole} {h3 : kM.IsWhole} {h4 : vM.IsWhole} {h5 : yM.IsWhole} {h6 : aM.IsWhole} {h7 : bM.IsWhole}
    (v2 : BitVec 32) (v75 : FVec F S256x256 .f32) (k0_t1 : Fin k0_t1_loop.trips) (arg12 : BitVec 32) (k0_h4 : k0_cond4 k0_t1 = 1#1)
    (Q : ((Σ' (v554 : BitVec 32) (v560 : FVec F S256x512 .bf16) (v565 : FVec F S512x256 .bf16) (v566 : FVec F S256x256 .bf16) (v587 : FVec F S256x64 .bf16), BitVec 32)) → sProp 𝕄) :
    iprop(ins c x K V ∗ pts c false (k0_t1.val + 9) qa (allA Wq c) ∗ pts c true (k0_t1.val + 9) qb (allB Wo c)) ⊢ iprop((ins c x K V ∗ pts c false (k0_t1.val + 9) qa (allA Wq c) ∗ pts c true (k0_t1.val + 9) qb (allB Wo c) -∗ Q ⟨(Scalar.remsi (Scalar.addi v2 arg12) 16#32), k0_pay1 (Wo (org c (k0_t1.val + 9))), k0_pay2 (Wq (org c (k0_t1.val + 9))) x, k0_pay3 (Wq (org c (k0_t1.val + 9))) x, k0_pay4 v75 (Wq (org c (k0_t1.val + 9))) x (blk K (org c (k0_t1.val + 9)) 0 0) (blk V (org c (k0_t1.val + 9)) 0 0), (Scalar.muli (Scalar.remsi (Scalar.addi v2 arg12) 16#32) 4#32)⟩)
      -∗ wp frame (wpE defs₀ 𝒱₀ (c : Thread nD τ) none) Set.univ (k0_part2 xM h0 qM h1 oM h2 kM h3 vM h4 yM h5 aM h6 bM h7 cc0_scratch2 cc0_scratch3 cc0_scratch4 cc0_scratch5 c v2 v75 k0_t1 arg12 k0_h4) Q) := by
  rw [k0_part2_eq_skeleton]
  unfold k0_part2_skel ins
  simp only [Prog.lift, Prog.bind_op, Prog.bind_ret, Prog.pure_eq_ret]
  iintro ⟨⟨Hx, Hk, Hv⟩, HA, HB⟩ HQ
  iapply (loadA Q Wq c (off31_eq k0_t1)) $$ HA; iintro HA
  iapply (loadB Q Wo c (off32_eq k0_t1)) $$ HB; iintro HB
  iapply (loadX Q c) $$ Hx; iintro Hx
  iapply (loadK Q c (e := (org c (k0_t1.val + 9))) (h := 0) (b := 0) (off33_eq c k0_t1 0 ((cond4_iff k0_t1).mp k0_h4))) $$ Hk; iintro Hk
  iapply (loadV Q c (e := (org c (k0_t1.val + 9))) (h := 0) (b := 0) (off33_eq c k0_t1 0 ((cond4_iff k0_t1).mp k0_h4))) $$ Hv; iintro Hv
  rw [wp_ret]; imodintro; iapply HQ
  isplitl [Hx Hk Hv]
  · isplitl [Hx]; · iexact Hx
    isplitl [Hk]; · iexact Hk
    iexact Hv
  isplitl [HA]; · iexact HA
  iexact HB

set_option maxHeartbeats 1000000 in
theorem run_part3 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v75 : FVec F S256x256 .f32) (k0_t1 : Fin k0_t1_loop.trips) (k0_h4 : k0_cond4 k0_t1 = 1#1) (v554 : BitVec 32) (v566 : FVec F S256x256 .bf16) (v588 : BitVec 32)
    (Q : ((Σ' (v608 : FVec F S256x64 .bf16) (v621 : FVec F S256x1 .f32) (v622 : FVec F S256x256 .bf16) (v625 : FVec F S256x64 .bf16), FVec F S256x64 .f32)) → sProp 𝕄) :
    iprop(ins c x K V) ⊢ iprop((ins c x K V -∗ Q ⟨k0_pay5 v75 v566 (blk K (org c (k0_t1.val + 9)) 1 0) (blk V (org c (k0_t1.val + 9)) 1 0), k0_pay7 v75 v566 (blk K (org c (k0_t1.val + 9)) 2 0), k0_pay8 v75 v566 (blk K (org c (k0_t1.val + 9)) 2 0), k0_pay9 (blk V (org c (k0_t1.val + 9)) 2 0), (constant S256x64 .f32 0x00000000#32)⟩)
      -∗ wp frame (wpE defs₀ 𝒱₀ (c : Thread nD τ) none) Set.univ (k0_part3 xM h0 qM h1 oM h2 kM h3 vM h4 yM h5 aM h6 bM h7 cc0_scratch2 cc0_scratch3 cc0_scratch4 cc0_scratch5 c v75 k0_t1 k0_h4 v554 v566 v588) Q) := by
  rw [k0_part3_eq_skeleton]
  unfold k0_part3_skel ins
  simp only [Prog.lift, Prog.bind_op, Prog.bind_ret, Prog.pure_eq_ret]
  iintro ⟨Hx, Hk, Hv⟩ HQ
  iapply (loadK Q c (e := (org c (k0_t1.val + 9))) (h := 1) (b := 0) (off33_eq c k0_t1 1 ((cond4_iff k0_t1).mp k0_h4))) $$ Hk; iintro Hk
  iapply (loadV Q c (e := (org c (k0_t1.val + 9))) (h := 1) (b := 0) (off33_eq c k0_t1 1 ((cond4_iff k0_t1).mp k0_h4))) $$ Hv; iintro Hv
  iapply (loadK Q c (e := (org c (k0_t1.val + 9))) (h := 2) (b := 0) (off33_eq c k0_t1 2 ((cond4_iff k0_t1).mp k0_h4))) $$ Hk; iintro Hk
  iapply (loadV Q c (e := (org c (k0_t1.val + 9))) (h := 2) (b := 0) (off33_eq c k0_t1 2 ((cond4_iff k0_t1).mp k0_h4))) $$ Hv; iintro Hv
  rw [wp_ret]; imodintro; iapply HQ
  isplitl [Hx]; · iexact Hx
  isplitl [Hk]; · iexact Hk
  iexact Hv

set_option maxHeartbeats 1000000 in
theorem run_part4 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v75 : FVec F S256x256 .f32) (k0_t1 : Fin k0_t1_loop.trips) (k0_h4 : k0_cond4 k0_t1 = 1#1) (v554 : BitVec 32) (v565 : FVec F S512x256 .bf16) (v566 : FVec F S256x256 .bf16) (v587 : FVec F S256x64 .bf16) (v608 : FVec F S256x64 .bf16) (v621 : FVec F S256x1 .f32) (v622 : FVec F S256x256 .bf16) (v625 : FVec F S256x64 .bf16) (cst_382 : FVec F S256x64 .f32)
    (Q : ((Σ' (v651 : FVec F S256x256 .bf16) (v652 : FVec F S256x256 .bf16) (v654 : BitVec 32) (v661 : FVec F S256x256 .f32), FVec F S256x1 .f32)) → sProp 𝕄) :
    iprop(ins c x K V) ⊢ iprop((ins c x K V -∗ Q ⟨k0_pay10 v75 v566 v587 v608 v621 v622 v625 cst_382 (blk K (org c (k0_t1.val + 9)) 3 0) (blk V (org c (k0_t1.val + 9)) 3 0), k0_pay11 v565, (Scalar.addi (Scalar.muli v554 4#32) 0#32), k0_pay12 v75 v565 (blk K (org c (k0_t1.val + 9)) 0 1), k0_pay13 v75 v565 (blk K (org c (k0_t1.val + 9)) 0 1)⟩)
      -∗ wp frame (wpE defs₀ 𝒱₀ (c : Thread nD τ) none) Set.univ (k0_part4 xM h0 qM h1 oM h2 kM h3 vM h4 yM h5 aM h6 bM h7 cc0_scratch2 cc0_scratch3 cc0_scratch4 cc0_scratch5 c v75 k0_t1 k0_h4 v554 v565 v566 v587 v608 v621 v622 v625 cst_382) Q) := by
  rw [k0_part4_eq_skeleton]
  unfold k0_part4_skel ins
  simp only [Prog.lift, Prog.bind_op, Prog.bind_ret, Prog.pure_eq_ret]
  iintro ⟨Hx, Hk, Hv⟩ HQ
  iapply (loadK Q c (e := (org c (k0_t1.val + 9))) (h := 3) (b := 0) (off33_eq c k0_t1 3 ((cond4_iff k0_t1).mp k0_h4))) $$ Hk; iintro Hk
  iapply (loadV Q c (e := (org c (k0_t1.val + 9))) (h := 3) (b := 0) (off33_eq c k0_t1 3 ((cond4_iff k0_t1).mp k0_h4))) $$ Hv; iintro Hv
  iapply (loadK Q c (e := (org c (k0_t1.val + 9))) (h := 0) (b := 1) (off34_eq c k0_t1 0 ((cond4_iff k0_t1).mp k0_h4))) $$ Hk; iintro Hk
  rw [wp_ret]; imodintro; iapply HQ
  isplitl [Hx]; · iexact Hx
  isplitl [Hk]; · iexact Hk
  iexact Hv

set_option maxHeartbeats 1000000 in
theorem run_part5 (c : Dev nD) (x : S2x256x512.Idx → Elt F .bf16) (K V : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v75 : FVec F S256x256 .f32) (k0_t1 : Fin k0_t1_loop.trips) (k0_h4 : k0_cond4 k0_t1 = 1#1) (v554 : BitVec 32) (v652 : FVec F S256x256 .bf16) (v654 : BitVec 32) (v661 : FVec F S256x256 .f32) (v665 : FVec F S256x1 .f32)
    (Q : ((Σ' (v673 : FVec F S256x64 .bf16) (v694 : FVec F S256x64 .bf16) (v696 : BitVec 32), FVec F S256x256 .f32)) → sProp 𝕄) :
    iprop(ins c x K V) ⊢ iprop((ins c x K V -∗ Q ⟨k0_pay14 v661 v665 (blk V (org c (k0_t1.val + 9)) 0 1), k0_pay15 v75 v652 (blk K (org c (k0_t1.val + 9)) 1 1) (blk V (org c (k0_t1.val + 9)) 1 1), (Scalar.addi (Scalar.muli v554 4#32) 2#32), k0_pay16 v75 v652 (blk K (org c (k0_t1.val + 9)) 2 1)⟩)
      -∗ wp frame (wpE defs₀ 𝒱₀ (c : Thread nD τ) none) Set.univ (k0_part5 xM h0 qM h1 oM h2 kM h3 vM h4 yM h5 aM h6 bM h7 cc0_scratch2 cc0_scratch3 cc0_scratch4 cc0_scratch5 c v75 k0_t1 k0_h4 v554 v652 v654 v661 v665) Q) := by
  rw [k0_part5_eq_skeleton]
  unfold k0_part5_skel ins
  simp only [Prog.lift, Prog.bind_op, Prog.bind_ret, Prog.pure_eq_ret]
  iintro ⟨Hx, Hk, Hv⟩ HQ
  iapply (loadV Q c (e := (org c (k0_t1.val + 9))) (h := 0) (b := 1) (off34_eq c k0_t1 0 ((cond4_iff k0_t1).mp k0_h4))) $$ Hv; iintro Hv
  iapply (loadK Q c (e := (org c (k0_t1.val + 9))) (h := 1) (b := 1) (off34_eq c k0_t1 1 ((cond4_iff k0_t1).mp k0_h4))) $$ Hk; iintro Hk
  iapply (loadV Q c (e := (org c (k0_t1.val + 9))) (h := 1) (b := 1) (off34_eq c k0_t1 1 ((cond4_iff k0_t1).mp k0_h4))) $$ Hv; iintro Hv
  iapply (loadK Q c (e := (org c (k0_t1.val + 9))) (h := 2) (b := 1) (off34_eq c k0_t1 2 ((cond4_iff k0_t1).mp k0_h4))) $$ Hk; iintro Hk
  rw [wp_ret]; imodintro; iapply HQ
  isplitl [Hx]; · iexact Hx
  isplitl [Hk]; · iexact Hk
  iexact Hv

set_option maxHeartbeats 1000000 in
theorem run_part6 (c : Dev nD) (x : S2x256x512.Idx → Elt F .bf16) (K V : S64x2x256x64.Idx → Elt F .bf16) (y : S2x256x512.Idx → Elt F .f32) {h0 : xM.IsWhole} {h1 : qM.IsWhole} {h2 : oM.IsWhole} {h3 : kM.IsWhole} {h4 : vM.IsWhole} {h5 : yM.IsWhole} {h6 : aM.IsWhole} {h7 : bM.IsWhole}
    (v75 : FVec F S256x256 .f32) (k0_t1 : Fin k0_t1_loop.trips) (k0_h4 : k0_cond4 k0_t1 = 1#1) (v554 : BitVec 32) (v560 : FVec F S256x512 .bf16) (v651 : FVec F S256x256 .bf16) (v652 : FVec F S256x256 .bf16) (v673 : FVec F S256x64 .bf16) (v694 : FVec F S256x64 .bf16) (v696 : BitVec 32) (v703 : FVec F S256x256 .f32)
    (Q : ((Σ' (v739 : FVec F S512x512 .f32), FVec F S2x256x512 .f32)) → sProp 𝕄) :
    iprop(ins c x K V ∗ py c y) ⊢ iprop((ins c x K V ∗ py c y -∗ Q ⟨k0_pay17 v75 v560 v651 v652 v673 v694 v703 (blk V (org c (k0_t1.val + 9)) 2 1) (blk K (org c (k0_t1.val + 9)) 3 1) (blk V (org c (k0_t1.val + 9)) 3 1), k0_pay18 y⟩)
      -∗ wp frame (wpE defs₀ 𝒱₀ (c : Thread nD τ) none) Set.univ (k0_part6 xM h0 qM h1 oM h2 kM h3 vM h4 yM h5 aM h6 bM h7 cc0_scratch2 cc0_scratch3 cc0_scratch4 cc0_scratch5 c v75 k0_t1 k0_h4 v554 v560 v651 v652 v673 v694 v696 v703) Q) := by
  rw [k0_part6_eq_skeleton]
  unfold k0_part6_skel ins
  simp only [Prog.lift, Prog.bind_op, Prog.bind_ret, Prog.pure_eq_ret]
  iintro ⟨⟨Hx, Hk, Hv⟩, Hy⟩ HQ
  iapply (loadV Q c (e := (org c (k0_t1.val + 9))) (h := 2) (b := 1) (off34_eq c k0_t1 2 ((cond4_iff k0_t1).mp k0_h4))) $$ Hv; iintro Hv
  iapply (loadK Q c (e := (org c (k0_t1.val + 9))) (h := 3) (b := 1) (off34_eq c k0_t1 3 ((cond4_iff k0_t1).mp k0_h4))) $$ Hk; iintro Hk
  iapply (loadV Q c (e := (org c (k0_t1.val + 9))) (h := 3) (b := 1) (off34_eq c k0_t1 3 ((cond4_iff k0_t1).mp k0_h4))) $$ Hv; iintro Hv
  iapply (loadY Q c) $$ Hy; iintro Hy
  rw [wp_ret]; imodintro; iapply HQ
  isplitl [Hx Hk Hv]
  · isplitl [Hx]; · iexact Hx
    isplitl [Hk]; · iexact Hk
    iexact Hv
  iexact Hy

end Cert.KernelIdeal.Ring

end
-- ==== Proof.KI.Barrier.lean ====
/- The entry barrier: a device hands its vacant slots to its two neighbours and receives theirs. -/
module

public import proofs.«01_k».proof.Proof.KI.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Wq : Dev nD → S1x512x256.Idx → Elt F .bf16) (Wo : Dev nD → S1x256x512.Idx → Elt F .bf16)

omit [FloatOps F] [Named F] in
/-- A device's own landing slots are what it pays: to the left those that transfers to the right land in, to the right the others. -/
theorem own_vacant (c : Dev nD) :
    (bigSep live fun p => vacant (F := F) c p : sProp 𝕄) = iprop(barPay (F := F) (lf c) true ∗ barPay (F := F) (rt c) false) := by
  unfold barPay
  rw [show live = dir true ∪ dir false from by decide +kernel, bigSep_union (by decide +kernel)]
  congr 1
  · refine bigSep_congr fun p hp => ?_
    have h : p.2 ≠ 0 ∧ p.2.val ≤ 8 := (Finset.mem_filter.mp hp).2
    rw [show dst p.2.val (lf c) = c from by unfold dst; rw [if_pos h.2, rt_lf]]
  · refine bigSep_congr fun p hp => ?_
    have h : p.2 ≠ 0 ∧ ¬ p.2.val ≤ 8 := (Finset.mem_filter.mp hp).2
    rw [show dst p.2.val (rt c) = c from by unfold dst; rw [if_neg h.2, lf_rt]]

theorem run_part13 (K : GSem nD τ sig → ℕ) (c : Dev nD) (W : Waits sig Unit) {h0 : xM.IsWhole} {h1 : qM.IsWhole} {h2 : oM.IsWhole} {h3 : kM.IsWhole} {h4 : vM.IsWhole} {h5 : yM.IsWhole} {h6 : aM.IsWhole} {h7 : bM.IsWhole}
    (Q : (Σ' (d0 : Dev nD) (v2 : BitVec 32) (v4 : BitVec 32) (v7 : BitVec 32) (v15 : IVec S256x256 32), IVec S256x256 1) → sProp 𝕄) :
    iprop(records Wq Wo K ∗ levAts L lv ∗ dutyTok ER (barC (lf c)) 0 true ∗ dutyTok ER (barC (rt c)) 0 false
        ∗ (bigSep live fun p => vacant (F := F) c p) ∗ atPos ER (barC c) 0 ∅ 0 ∗ cred (tallyAt (barC c) () 2) ∗ owes (c : Thread nD τ) (O₀ c) W)
      ⊢ iprop((∀ v2 v4 v7, (∃ W', owes (c : Thread nD τ) (OW c live) W') ∗ atPos ER (barC c) 1 ∅ 0
            ∗ (bigSep live fun p => vacant (F := F) (dst p.2.val c) p) -∗ Q ⟨c, v2, v4, v7, k0_pay38, k0_pay39⟩)
        -∗ wp frame (wpE defs₀ 𝒱₀ (c : Thread nD τ) none) Set.univ
          (k0_part13 xM h0 qM h1 oM h2 kM h3 vM h4 yM h5 aM h6 bM h7 cc0_scratch2 cc0_scratch3 cc0_scratch4 cc0_scratch5) Q) := by
  rw [k0_part13_eq_skeleton]
  unfold k0_part13_skel
  simp only [semSignalWord, semWaitWord, Prog.lift, Prog.bind_op, Prog.bind_ret, Prog.pure_eq_ret, Prog.bind_assoc, wp_deviceId]
  iintro ⟨#HI, #Hlev, Ht1, Ht2, Hv, Hat, Hc, HO⟩ Hk
  ihave Hv := (Entails.of_eq (own_vacant (F := F) c)) $$ Hv
  icases Hv with ⟨Hv1, Hv2⟩
  ihave #HI1 := (inv_at Wq Wo K (bar_mem (lf c))) $$ HI
  ihave #HI2 := (inv_at Wq Wo K (bar_mem (rt c))) $$ HI
  ihave #HI0 := (inv_at Wq Wo K (bar_mem c)) $$ HI
  ihave #HR1 := (reached_at Wq Wo K (lf c)) $$ HI
  ihave #HR2 := (reached_at Wq Wo K (rt c)) $$ HI
  have e1 : (⟨k0_dev1 c, k0_dev1_lt c⟩ : Dev nD) = lf c := Fin.ext (dev1_eq c)
  have e2 : (⟨k0_dev2 c, k0_dev2_lt c⟩ : Dev nD) = rt c := Fin.ext (dev2_eq c)
  rw [e1, e2]
  iapply (Rounds.wp_signal 𝒱₀ ER (Rd Wq Wo) (c : Thread nD τ) none (dst := (lf c : Thread nD τ)) (sem := barS) (r := 0) (d := true) (κ := K (barC (lf c)))
      (by rw [duties_bar]; exact Finset.mem_univ _) (amount_bar Wq Wo (lf c) true) () (OW c live + tallyAt (barC (rt c)) () 1) rfl)
    $$ [HO Ht1 Hv1]
  · isplitr; · iexact HI1
    isplitl [HO]; · iexact HO
    isplitl [Ht1]; · iexact Ht1
    isplitl [Hv1]; · rw [payload_bar]; iexact Hv1
    iexact HR1
  iintro HO
  iapply (Rounds.wp_signal 𝒱₀ ER (Rd Wq Wo) (c : Thread nD τ) none (dst := (rt c : Thread nD τ)) (sem := barS) (r := 0) (d := false) (κ := K (barC (rt c)))
      (by rw [duties_bar]; exact Finset.mem_univ _) (amount_bar Wq Wo (rt c) false) () (OW c live) rfl)
    $$ [HO Ht2 Hv2]
  · isplitr; · iexact HI2
    isplitl [HO]; · iexact HO
    isplitl [Ht2]; · iexact Ht2
    isplitl [Hv2]; · rw [payload_bar]; iexact Hv2
    iexact HR2
  iintro HO
  iapply (Rounds.wp_wait_rest_token 𝒱₀ ER (Rd Wq Wo) (c : Thread nD τ) none (κ := K (barC c))
      (wpE_semWait_eq 𝒱₀ (c : Thread nD τ) none Set.univ) (Set.mem_univ _) () (O := OW c live) (W := W) (R := 0) (m := 0) (T := ∅)
      ((Nat.zero_add 2).trans (expect_bar Wq Wo c).symm)) $$ [Hc HO Hat]
  · isplitr; · iexact HI0
    isplitl [Hc]; · iexact Hc
    isplitl [HO]; · iexact HO
    isplitr
    · iapply (mayWait c (.reg barS) live (fun p _ => by show 1 < _; omega)); iexact Hlev
    iexact Hat
  iintro ⟨HO, Hat, -, Hpay⟩
  ihave Hp := (Entails.of_eq (rest_bar Wq Wo c)) $$ Hpay
  rw [wp_ret]; imodintro
  iapply Hk
  isplitl [HO]; · iexists _; iexact HO
  isplitl [Hat]; · iexact Hat
  iexact Hp

end Cert.KernelIdeal.Ring

end
-- ==== Proof.KI.Comm.lean ====
/- The communication of one trip of the loop: the waits for the transfers of hop `t`, the starts of those of hop `t + 1`. -/
module

public import proofs.«01_k».proof.Proof.KI.Barrier

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The trip count. -/
theorem trips : k0_t1_loop.trips = 8 := by decide +kernel

/-- Slot `t + k`. -/
def sl (t : Fin k0_t1_loop.trips) (k : ℕ) (h : t.val + k < 16) : Fin 16 := ⟨t.val + k, h⟩
theorem sl_ne (t : Fin k0_t1_loop.trips) (k : ℕ) (h : t.val + (k + 1) < 16) : sl t (k + 1) h ≠ 0 := fun e => by
  have e' : t.val + (k + 1) = 0 := congrArg Fin.val e
  omega

theorem dst_rt (c : Dev nD) (j : Fin 16) (h : j.val ≤ 8) : dst j.val c = rt c := if_pos h
theorem dst_lf (c : Dev nD) (j : Fin 16) (h : ¬ j.val ≤ 8) : dst j.val c = lf c := if_neg h
theorem src_rt (t : Fin k0_t1_loop.trips) (h : t.val < 7) : (![t.val + 1, 0, 0] : Fin 3 → ℕ) = ![src (t.val + 2), 0, 0] := by
  rw [show src (t.val + 2) = t.val + 1 from by unfold src; rw [if_neg (by omega)]; rfl]
theorem src_lf (t : Fin k0_t1_loop.trips) (h : t.val < 6) : (![t.val + 9, 0, 0] : Fin 3 → ℕ) = ![src (t.val + 10), 0, 0] := by
  rw [show src (t.val + 10) = t.val + 9 from by unfold src; rw [if_neg (by omega)]; rfl]

/-- The transfers not started before trip `t`'s waits. -/
def TT (t : ℕ) : Finset Tr := live.filter fun p => t < hop p.2.val

theorem TT_hop1 (t : Fin k0_t1_loop.trips) (h : t.val + 1 < 16) : ∀ q ∈ TT t.val, hop (sl t 1 h).val < hop q.2.val := fun q hq => by
  have e : hop (t.val + 1) = t.val := by unfold hop; have := t.isLt; have := trips; rw [if_pos (by omega)]; rfl
  show hop (t.val + 1) < _
  rw [e]; exact (Finset.mem_filter.mp hq).2
theorem TT_hop9 (t : Fin k0_t1_loop.trips) (h : t.val + 9 < 16) : ∀ q ∈ TT t.val, hop (sl t 9 h).val < hop q.2.val := fun q hq => by
  have e : hop (t.val + 9) = t.val := by unfold hop; rw [if_neg (by omega)]; rfl
  show hop (t.val + 9) < _
  rw [e]; exact (Finset.mem_filter.mp hq).2

theorem hop_right : ∀ t : Fin 7, ∀ b : Bool, ((b, ⟨t.val + 2, by omega⟩) : Tr) ∈ TT t.val := by decide +kernel
theorem hop_left : ∀ t : Fin 6, ∀ b : Bool, ((b, ⟨t.val + 10, by omega⟩) : Tr) ∈ TT t.val := by decide +kernel
theorem TT_next : ∀ t : Fin 6, (((((TT t.val).erase (false, ⟨t.val + 2, by omega⟩)).erase (true, ⟨t.val + 2, by omega⟩)).erase
    (false, ⟨t.val + 10, by omega⟩)).erase (true, ⟨t.val + 10, by omega⟩)) = TT (t.val + 1) := by decide +kernel
theorem TT_six : (((TT 6).erase (false, 8)).erase (true, 8)) = TT 7 := by decide +kernel
theorem TT_seven : TT 7 = TT 8 := by decide +kernel

/-- Both of a transfer's waits done: the lent share back, the landed slot in full. -/
def landed (Wq : Dev nD → S1x512x256.Idx → Elt F .bf16) (Wo : Dev nD → S1x256x512.Idx → Elt F .bf16) (c : Dev nD) (p : Tr) : sProp 𝕄 :=
  iprop(atPos ER (sendC c p) 1 ∅ 0 ∗ atPos ER (recvC c p) 1 ∅ 0 ∗ sendPay Wq Wo c p ∗ recvPay Wq Wo c p)

/-- A family at the two transfers into one slot. -/
def pair (Φ : Tr → sProp 𝕄) (j : Fin 16) : sProp 𝕄 := iprop(Φ (false, j) ∗ Φ (true, j))

variable (Wq : Dev nD → S1x512x256.Idx → Elt F .bf16) (Wo : Dev nD → S1x256x512.Idx → Elt F .bf16)

omit [FloatOps F] [Named F] in
/-- A landed slot that is forwarded: the half its forwarding transfer lends, and what a done transfer keeps. -/
theorem landed_fwd (c : Dev nD) (b : Bool) (j j' : Fin 16) (hs : src j'.val = j.val) (hl : j'.val ≠ 9) (hj : ¬ (j.val = 8 ∨ j.val = 15)) :
    landed Wq Wo c (b, j) ⊢ iprop(sendPay Wq Wo c (b, j') ∗ Done Wq Wo c (b, j)) := by
  unfold landed Done recvPay
  iintro ⟨H1, H2, H3, H4⟩
  ihave H4 := (pts_halves c b j.val fullShare _ : _ ⊣⊢ _).1 $$ H4
  icases H4 with ⟨Hl, Hr⟩
  isplitl [Hl]
  · unfold sendPay lent; rw [if_neg hl, hs]; iexact Hl
  · isplitl [H1]; · iexact H1
    isplitl [H2]; · iexact H2
    isplitl [H3]; · iexact H3
    unfold keep; rw [if_neg hj]; iexact Hr
omit [FloatOps F] [Named F] in
/-- A landed slot that is not forwarded. -/
theorem landed_end (c : Dev nD) (b : Bool) (j : Fin 16) (hj : j.val = 8 ∨ j.val = 15) :
    landed Wq Wo c (b, j) ⊢ Done Wq Wo c (b, j) := by
  unfold landed Done recvPay keep; rw [if_pos hj]

omit [FloatOps F] [Named F] in
/-- A done transfer's slot, lent out for a load and taken back. -/
theorem doneA_out (c : Dev nD) (j : Fin 16) (k : ℕ) (h : j.val = k) :
    Done Wq Wo c (false, j) ⊢ iprop(pts c false k (keep k) (allA Wq c) ∗ (pts c false k (keep k) (allA Wq c) -∗ Done Wq Wo c (false, j))) := by
  subst h
  unfold Done
  iintro ⟨H1, H2, H3, H4⟩
  isplitl [H4]; · iexact H4
  iintro H4
  isplitl [H1]; · iexact H1
  isplitl [H2]; · iexact H2
  isplitl [H3]; · iexact H3
  iexact H4

omit [FloatOps F] [Named F] in
/-- A done transfer's slot, lent out for a load and taken back. -/
theorem doneB_out (c : Dev nD) (j : Fin 16) (k : ℕ) (h : j.val = k) :
    Done Wq Wo c (true, j) ⊢ iprop(pts c true k (keep k) (allB Wo c) ∗ (pts c true k (keep k) (allB Wo c) -∗ Done Wq Wo c (true, j))) := by
  subst h
  unfold Done
  iintro ⟨H1, H2, H3, H4⟩
  isplitl [H4]; · iexact H4
  iintro H4
  isplitl [H1]; · iexact H1
  isplitl [H2]; · iexact H2
  isplitl [H3]; · iexact H3
  iexact H4

/-- `wait_send` at the printed wait, on the weights of the query. -/
theorem wait_sendA {W : Waits sig Unit} {α : Type} (Q : α → sProp 𝕄) (k : PUnit → Prog (TpuEff nD τ sig (Elt F) Λ₀ .tc) α) (K : GSem nD τ sig → ℕ) (c : Dev nD)
    (j : Fin 16) (hp : j ≠ 0) (T : Finset Tr)  {sS : DmaSem sig} (hS : sS = sendI (false, j))
    {off off' : Fin 3 → ℕ} {inb : ∀ a, off a + S1x512x256.size a ≤ S16x512x256.size a} {inb' : ∀ a, off' a + S1x512x256.size a ≤ S16x512x256.size a}
    {hs : (slotA off inb).view.WordExact} {hd : (slotA off' inb').view.WordExact} :
    iprop(records Wq Wo K ∗ levAts L lv ∗ flyS (F := F) c (false, j) ∗ owes (c : Thread nD τ) (OW c T) W)
      ⊢ iprop(((∃ W', owes (c : Thread nD τ) (OW c T) W') ∗ atPos ER (sendC c (false, j)) 1 ∅ 0 ∗ sendPay Wq Wo c (false, j)
            -∗ wp frame (wpE defs₀ 𝒱₀ (c : Thread nD τ) none) Set.univ (k ⟨⟩) Q)
          -∗ wp frame (wpE defs₀ 𝒱₀ (c : Thread nD τ) none) Set.univ (.op (.waitDma2 sS (slotA off inb) (slotA off' inb') hs hd) k) Q) :=
  wait_send Wq Wo Q k K c (false, j) hp T hS (fun K' => wpE_waitDma2_eq 𝒱₀ (c : Thread nD τ) none Set.univ K')

/-- `wait_send` at the printed wait, on the output weights. -/
theorem wait_sendB {W : Waits sig Unit} {α : Type} (Q : α → sProp 𝕄) (k : PUnit → Prog (TpuEff nD τ sig (Elt F) Λ₀ .tc) α) (K : GSem nD τ sig → ℕ) (c : Dev nD)
    (j : Fin 16) (hp : j ≠ 0) (T : Finset Tr)  {sS : DmaSem sig} (hS : sS = sendI (true, j))
    {off off' : Fin 3 → ℕ} {inb : ∀ a, off a + S1x256x512.size a ≤ S16x256x512.size a} {inb' : ∀ a, off' a + S1x256x512.size a ≤ S16x256x512.size a}
    {hs : (slotB off inb).view.WordExact} {hd : (slotB off' inb').view.WordExact} :
    iprop(records Wq Wo K ∗ levAts L lv ∗ flyS (F := F) c (true, j) ∗ owes (c : Thread nD τ) (OW c T) W)
      ⊢ iprop(((∃ W', owes (c : Thread nD τ) (OW c T) W') ∗ atPos ER (sendC c (true, j)) 1 ∅ 0 ∗ sendPay Wq Wo c (true, j)
            -∗ wp frame (wpE defs₀ 𝒱₀ (c : Thread nD τ) none) Set.univ (k ⟨⟩) Q)
          -∗ wp frame (wpE defs₀ 𝒱₀ (c : Thread nD τ) none) Set.univ (.op (.waitDma2 sS (slotB off inb) (slotB off' inb') hs hd) k) Q) :=
  wait_send Wq Wo Q k K c (true, j) hp T hS (fun K' => wpE_waitDma2_eq 𝒱₀ (c : Thread nD τ) none Set.univ K')

/-- `wait_recv` at the printed wait, on the weights of the query. -/
theorem wait_recvA {W : Waits sig Unit} {α : Type} (Q : α → sProp 𝕄) (k : PUnit → Prog (TpuEff nD τ sig (Elt F) Λ₀ .tc) α) (K : GSem nD τ sig → ℕ) (c : Dev nD)
    (j : Fin 16) (hp : j ≠ 0) (T : Finset Tr) (hT : ∀ q ∈ T, hop j.val < hop q.2.val) {sS : DmaSem sig} (hS : sS = recvI (false, j))
    {off off' : Fin 3 → ℕ} {inb : ∀ a, off a + S1x512x256.size a ≤ S16x512x256.size a} {inb' : ∀ a, off' a + S1x512x256.size a ≤ S16x512x256.size a}
    {hs : (slotA off inb).view.WordExact} {hd : (slotA off' inb').view.WordExact} :
    iprop(records Wq Wo K ∗ levAts L lv ∗ rcv (F := F) c (false, j) ∗ owes (c : Thread nD τ) (OW c T) W)
      ⊢ iprop(((∃ W', owes (c : Thread nD τ) (OW c T) W') ∗ atPos ER (recvC c (false, j)) 1 ∅ 0 ∗ recvPay Wq Wo c (false, j)
            -∗ wp frame (wpE defs₀ 𝒱₀ (c : Thread nD τ) none) Set.univ (k ⟨⟩) Q)
          -∗ wp frame (wpE defs₀ 𝒱₀ (c : Thread nD τ) none) Set.univ (.op (.waitDma2 sS (slotA off inb) (slotA off' inb') hs hd) k) Q) :=
  wait_recv Wq Wo Q k K c (false, j) hp T hT hS (fun K' => wpE_waitDma2_eq 𝒱₀ (c : Thread nD τ) none Set.univ K')

/-- `wait_recv` at the printed wait, on the output weights. -/
theorem wait_recvB {W : Waits sig Unit} {α : Type} (Q : α → sProp 𝕄) (k : PUnit → Prog (TpuEff nD τ sig (Elt F) Λ₀ .tc) α) (K : GSem nD τ sig → ℕ) (c : Dev nD)
    (j : Fin 16) (hp : j ≠ 0) (T : Finset Tr) (hT : ∀ q ∈ T, hop j.val < hop q.2.val) {sS : DmaSem sig} (hS : sS = recvI (true, j))
    {off off' : Fin 3 → ℕ} {inb : ∀ a, off a + S1x256x512.size a ≤ S16x256x512.size a} {inb' : ∀ a, off' a + S1x256x512.size a ≤ S16x256x512.size a}
    {hs : (slotB off inb).view.WordExact} {hd : (slotB off' inb').view.WordExact} :
    iprop(records Wq Wo K ∗ levAts L lv ∗ rcv (F := F) c (true, j) ∗ owes (c : Thread nD τ) (OW c T) W)
      ⊢ iprop(((∃ W', owes (c : Thread nD τ) (OW c T) W') ∗ atPos ER (recvC c (true, j)) 1 ∅ 0 ∗ recvPay Wq Wo c (true, j)
            -∗ wp frame (wpE defs₀ 𝒱₀ (c : Thread nD τ) none) Set.univ (k ⟨⟩) Q)
          -∗ wp frame (wpE defs₀ 𝒱₀ (c : Thread nD τ) none) Set.univ (.op (.waitDma2 sS (slotB off inb) (slotB off' inb') hs hd) k) Q) :=
  wait_recv Wq Wo Q k K c (true, j) hp T hT hS (fun K' => wpE_waitDma2_eq 𝒱₀ (c : Thread nD τ) none Set.univ K')

theorem run_part7 (K : GSem nD τ sig → ℕ) (c : Dev nD) (W : Waits sig Unit) {h0 : xM.IsWhole} {h1 : qM.IsWhole} {h2 : oM.IsWhole} {h3 : kM.IsWhole} {h4 : vM.IsWhole} {h5 : yM.IsWhole} {h6 : aM.IsWhole} {h7 : bM.IsWhole} (v4 v7 : BitVec 32) (k0_t1 : Fin k0_t1_loop.trips)
    (hk1 : k0_t1.val + 1 < 16) (Q : BitVec 32 → sProp 𝕄) :
    iprop(records Wq Wo K ∗ levAts L lv ∗ pair (Fly (F := F) c) (sl k0_t1 1 hk1) ∗ owes (c : Thread nD τ) (OW c (TT k0_t1.val)) W)
      ⊢ iprop(((∃ W', owes (c : Thread nD τ) (OW c (TT k0_t1.val)) W') ∗ pair (landed Wq Wo c) (sl k0_t1 1 hk1) -∗ Q (Scf.iv 1#32 1#32 k0_t1))
        -∗ wp frame (wpE defs₀ 𝒱₀ (c : Thread nD τ) none) Set.univ (k0_part7 xM h0 qM h1 oM h2 kM h3 vM h4 yM h5 aM h6 bM h7 cc0_scratch2 cc0_scratch3 cc0_scratch4 cc0_scratch5 v4 v7 1#1 1#32 1#32 k0_t1) Q) := by
  rw [k0_part7_eq_skeleton]
  unfold k0_part7_skel pair Fly landed
  simp only [Prog.lift, Prog.bind_op, Prog.bind_ret, Prog.pure_eq_ret]
  have hn1 := sl_ne k0_t1 0 hk1
  iintro ⟨#HI, #Hlev, ⟨⟨HfA, HrA⟩, ⟨HfB, HrB⟩⟩, HO⟩ HQ
  iapply (wait_sendA Wq Wo Q _ K c (sl k0_t1 1 hk1) hn1 (TT k0_t1.val) (semA_send (sl k0_t1 1 hk1) hn1 (off3_eq k0_t1))) $$ [HfA HO]
  · isplitr; · iexact HI
    isplitr; · iexact Hlev
    isplitl [HfA]; · iexact HfA
    iexact HO
  iintro ⟨⟨%W1, HO⟩, HpA, HsA⟩
  iapply (wait_recvA Wq Wo Q _ K c (sl k0_t1 1 hk1) hn1 (TT k0_t1.val) (TT_hop1 k0_t1 hk1) (semA_recv (sl k0_t1 1 hk1) (off6_eq k0_t1))) $$ [HrA HO]
  · isplitr; · iexact HI
    isplitr; · iexact Hlev
    isplitl [HrA]; · iexact HrA
    iexact HO
  iintro ⟨⟨%W2, HO⟩, HqA, HvA⟩
  iapply (wait_sendB Wq Wo Q _ K c (sl k0_t1 1 hk1) hn1 (TT k0_t1.val) (semB_send (sl k0_t1 1 hk1) hn1 (off3_eq k0_t1))) $$ [HfB HO]
  · isplitr; · iexact HI
    isplitr; · iexact Hlev
    isplitl [HfB]; · iexact HfB
    iexact HO
  iintro ⟨⟨%W3, HO⟩, HpB, HsB⟩
  iapply (wait_recvB Wq Wo Q _ K c (sl k0_t1 1 hk1) hn1 (TT k0_t1.val) (TT_hop1 k0_t1 hk1) (semB_recv (sl k0_t1 1 hk1) (off6_eq k0_t1))) $$ [HrB HO]
  · isplitr; · iexact HI
    isplitr; · iexact Hlev
    isplitl [HrB]; · iexact HrB
    iexact HO
  iintro ⟨⟨%W4, HO⟩, HqB, HvB⟩
  rw [wp_ret]; imodintro; iapply HQ
  isplitl [HO]; · iexists _; iexact HO
  isplitl [HpA HqA HsA HvA]
  · isplitl [HpA]; · iexact HpA
    isplitl [HqA]; · iexact HqA
    isplitl [HsA]; · iexact HsA
    iexact HvA
  · isplitl [HpB]; · iexact HpB
    isplitl [HqB]; · iexact HqB
    isplitl [HsB]; · iexact HsB
    iexact HvB

theorem run_part1 (K : GSem nD τ sig → ℕ) (c : Dev nD) (W : Waits sig Unit) {h0 : xM.IsWhole} {h1 : qM.IsWhole} {h2 : oM.IsWhole} {h3 : kM.IsWhole} {h4 : vM.IsWhole} {h5 : yM.IsWhole} {h6 : aM.IsWhole} {h7 : bM.IsWhole} (v4 v7 : BitVec 32) (fl : BitVec 1) (k0_t1 : Fin k0_t1_loop.trips)
    (arg12 : BitVec 32) (k0_h2 : k0_cond2 k0_t1 = 1#1) (hk9 : k0_t1.val + 9 < 16) (T : Finset Tr) (hT : T ⊆ TT k0_t1.val) (Q : PUnit → sProp 𝕄) :
    iprop(records Wq Wo K ∗ levAts L lv ∗ Fly (F := F) c (false, sl k0_t1 9 hk9) ∗ flyS (F := F) c (true, sl k0_t1 9 hk9) ∗ owes (c : Thread nD τ) (OW c T) W)
      ⊢ iprop(((∃ W', owes (c : Thread nD τ) (OW c T) W') ∗ landed Wq Wo c (false, sl k0_t1 9 hk9)
            ∗ (atPos ER (sendC c (true, sl k0_t1 9 hk9)) 1 ∅ 0 ∗ sendPay Wq Wo c (true, sl k0_t1 9 hk9)) -∗ Q ⟨⟩)
        -∗ wp frame (wpE defs₀ 𝒱₀ (c : Thread nD τ) none) Set.univ (k0_part1 xM h0 qM h1 oM h2 kM h3 vM h4 yM h5 aM h6 bM h7 cc0_scratch2 cc0_scratch3 cc0_scratch4 cc0_scratch5 v4 v7 fl k0_t1 arg12 k0_h2) Q) := by
  rw [k0_part1_eq_skeleton]
  unfold k0_part1_skel Fly landed
  simp only [Prog.lift, Prog.bind_op, Prog.bind_ret, Prog.pure_eq_ret]
  have hn9 := sl_ne k0_t1 8 hk9
  iintro ⟨#HI, #Hlev, ⟨HfA, HrA⟩, HfB, HO⟩ HQ
  iapply (wait_sendA Wq Wo Q _ K c (sl k0_t1 9 hk9) hn9 T (semA_send (sl k0_t1 9 hk9) hn9 (off15_eq k0_t1))) $$ [HfA HO]
  · isplitr; · iexact HI
    isplitr; · iexact Hlev
    isplitl [HfA]; · iexact HfA
    iexact HO
  iintro ⟨⟨%W1, HO⟩, HpA, HsA⟩
  iapply (wait_recvA Wq Wo Q _ K c (sl k0_t1 9 hk9) hn9 T (fun q hq => TT_hop9 k0_t1 hk9 q (hT hq)) (semA_recv (sl k0_t1 9 hk9) (off18_eq k0_t1))) $$ [HrA HO]
  · isplitr; · iexact HI
    isplitr; · iexact Hlev
    isplitl [HrA]; · iexact HrA
    iexact HO
  iintro ⟨⟨%W2, HO⟩, HqA, HvA⟩
  iapply (wait_sendB Wq Wo Q _ K c (sl k0_t1 9 hk9) hn9 T (semB_send (sl k0_t1 9 hk9) hn9 (off15_eq k0_t1))) $$ [HfB HO]
  · isplitr; · iexact HI
    isplitr; · iexact Hlev
    isplitl [HfB]; · iexact HfB
    iexact HO
  iintro ⟨⟨%W3, HO⟩, HpB, HsB⟩
  rw [wp_ret]; imodintro; iapply HQ
  isplitl [HO]; · iexists _; iexact HO
  isplitl [HpA HqA HsA HvA]
  · isplitl [HpA]; · iexact HpA
    isplitl [HqA]; · iexact HqA
    isplitl [HsA]; · iexact HsA
    iexact HvA
  · isplitl [HpB]; · iexact HpB
    iexact HsB

end Cert.KernelIdeal.Ring

end
-- ==== Proof.KI.Trip8.lean ====
/- The eighth part of the body: the waits and starts that a trip's position allows, then the first loads of its right-hand slot. -/
module

public import proofs.«01_k».proof.Proof.KI.Comm
public import proofs.«01_k».proof.Proof.KI.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Wq : Dev nD → S1x512x256.Idx → Elt F .bf16) (Wo : Dev nD → S1x256x512.Idx → Elt F .bf16)

set_option maxHeartbeats 2000000 in
theorem run_part8a (K : GSem nD τ sig → ℕ) (c : Dev nD) (W : Waits sig Unit) (x : S2x256x512.Idx → Elt F .bf16) (Kx Vx : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v2 v4 v7 : BitVec 32) (v75 : FVec F S256x256 .f32) (b1 b0 : BitVec 1) (k0_t1 : Fin k0_t1_loop.trips) (hlt6 : k0_t1.val < 6) (hk1 : k0_t1.val + 1 < 16) (hk9 : k0_t1.val + 9 < 16) (hk2 : k0_t1.val + 2 < 16) (hk10 : k0_t1.val + 10 < 16) (arg12 : BitVec 32)
    (Q : (Σ' (v358 : BitVec 32) (v364 : FVec F S256x512 .bf16) (v369 : FVec F S512x256 .bf16) (v370 : FVec F S256x256 .bf16) (v383 : FVec F S256x1 .f32), FVec F S256x256 .bf16) → sProp 𝕄) :
    iprop(records Wq Wo K ∗ levAts L lv ∗ ins c x Kx Vx ∗ pair (landed Wq Wo c) (sl k0_t1 1 hk1) ∗ owes (c : Thread nD τ) (OW c (TT k0_t1.val)) W ∗ pair (Fly (F := F) c) (sl k0_t1 9 hk9) ∗ pair (Todo (F := F) c) (sl k0_t1 2 hk2) ∗ pair (Todo (F := F) c) (sl k0_t1 10 hk10))
      ⊢ iprop(((∃ W', owes (c : Thread nD τ) (OW c (TT (k0_t1.val + 1))) W') ∗ ins c x Kx Vx ∗ pair (Done Wq Wo c) (sl k0_t1 1 hk1) ∗ pair (Done Wq Wo c) (sl k0_t1 9 hk9) ∗ pair (Fly (F := F) c) (sl k0_t1 2 hk2) ∗ pair (Fly (F := F) c) (sl k0_t1 10 hk10)
            -∗ Q ⟨(Scalar.remsi (Scalar.addi (Scalar.subi v2 arg12) 16#32) 16#32), k0_pay19 (Wo (org c (k0_t1.val + 1))), k0_pay20 (Wq (org c (k0_t1.val + 1))) x, k0_pay21 (Wq (org c (k0_t1.val + 1))) x, k0_pay23 v75 (Wq (org c (k0_t1.val + 1))) x (blk Kx (org c (k0_t1.val + 1)) 0 0), k0_pay24 v75 (Wq (org c (k0_t1.val + 1))) x (blk Kx (org c (k0_t1.val + 1)) 0 0)⟩)
        -∗ wp frame (wpE defs₀ 𝒱₀ (c : Thread nD τ) none) Set.univ (k0_part8 xM h0 qM h1 oM h2 kM h3 vM h4 yM h5 aM h6 bM h7 cc0_scratch2 cc0_scratch3 cc0_scratch4 cc0_scratch5 c v2 v4 v7 v75 b1 b0 k0_t1 arg12) Q) := by
  have hlt7 : k0_t1.val < 7 := by omega
  have hn1 := sl_ne k0_t1 0 hk1
  have hn9 := sl_ne k0_t1 8 hk9
  have hn2 := sl_ne k0_t1 1 hk2
  have hn10 := sl_ne k0_t1 9 hk10
  have h1 := (cond1_iff k0_t1).mpr hlt7
  have h2 := (cond2_iff k0_t1).mpr hlt7
  have hd2 : (sl k0_t1 2 hk2).val ≤ 8 := by show k0_t1.val + 2 ≤ 8; omega
  have h3 := (cond3_iff k0_t1).mpr hlt6
  have hd10 : ¬ (sl k0_t1 10 hk10).val ≤ 8 := by show ¬ k0_t1.val + 10 ≤ 8; omega
  have hm2 := hop_right ⟨k0_t1.val, hlt7⟩
  have hsub : (((TT k0_t1.val).erase (false, (sl k0_t1 2 hk2))).erase (true, (sl k0_t1 2 hk2))) ⊆ TT k0_t1.val := (Finset.erase_subset _ _).trans (Finset.erase_subset _ _)
  have hm10 := hop_left ⟨k0_t1.val, hlt6⟩
  have hend : (((((TT k0_t1.val).erase (false, (sl k0_t1 2 hk2))).erase (true, (sl k0_t1 2 hk2))).erase (false, (sl k0_t1 10 hk10))).erase (true, (sl k0_t1 10 hk10))) = TT (k0_t1.val + 1) := TT_next ⟨k0_t1.val, hlt6⟩
  rw [k0_part8_eq_skeleton]
  unfold k0_part8_skel pair
  simp only [dif_pos h1, dif_pos h2, dif_pos h3, Prog.lift, Prog.bind_op, Prog.bind_ret, Prog.pure_eq_ret, Prog.bind_assoc]
  iintro ⟨#HI, #Hlev, Hins, ⟨HlA, HlB⟩, HO, ⟨H9A, H9B⟩, ⟨H2A, H2B⟩, ⟨H10A, H10B⟩⟩ HQ
  ihave HfA := (landed_fwd Wq Wo c false (sl k0_t1 1 hk1) (sl k0_t1 2 hk2) (by show src (k0_t1.val + 2) = k0_t1.val + 1; unfold src; rw [if_neg (by omega)]; rfl) (by show ¬ k0_t1.val + 2 = 9; omega) (by show ¬ (k0_t1.val + 1 = 8 ∨ k0_t1.val + 1 = 15); omega)) $$ HlA
  icases HfA with ⟨HsA, Hd1A⟩
  unfold Todo; icases H2A with ⟨Ht2A, Hr2A⟩
  ihave HfB := (landed_fwd Wq Wo c true (sl k0_t1 1 hk1) (sl k0_t1 2 hk2) (by show src (k0_t1.val + 2) = k0_t1.val + 1; unfold src; rw [if_neg (by omega)]; rfl) (by show ¬ k0_t1.val + 2 = 9; omega) (by show ¬ (k0_t1.val + 1 = 8 ∨ k0_t1.val + 1 = 15); omega)) $$ HlB
  icases HfB with ⟨HsB, Hd1B⟩
  icases H2B with ⟨Ht2B, Hr2B⟩
  iapply (startA Wq Wo Q _ K c (sl k0_t1 2 hk2) hn2 (T := (TT k0_t1.val)) (hm2 false) (semA_send (sl k0_t1 2 hk2) hn2 (off9_eq k0_t1)) (semA_recv (sl k0_t1 2 hk2) (off10_eq k0_t1))
      (d := ⟨k0_dev7 c, _⟩) (Fin.ext ((dev7_eq c).trans (congrArg Fin.val (dst_rt c (sl k0_t1 2 hk2) hd2).symm)))
      ((off12_eq k0_t1).trans (src_rt k0_t1 hlt7)) (off11_eq k0_t1)) $$ [Ht2A HsA HO]
  · isplitr; · iexact HI
    isplitl [Ht2A]; · iexact Ht2A
    isplitl [HsA]; · iexact HsA
    iexact HO
  iintro ⟨Hf2A, HO⟩
  iapply (startB Wq Wo Q _ K c (sl k0_t1 2 hk2) hn2 (T := ((TT k0_t1.val).erase (false, (sl k0_t1 2 hk2)))) (Finset.mem_erase.mpr ⟨fun e => Bool.noConfusion (congrArg Prod.fst e), hm2 true⟩) (semB_send (sl k0_t1 2 hk2) hn2 (off9_eq k0_t1)) (semB_recv (sl k0_t1 2 hk2) (off10_eq k0_t1))
      (d := ⟨k0_dev8 c, _⟩) (Fin.ext ((dev8_eq c).trans (congrArg Fin.val (dst_rt c (sl k0_t1 2 hk2) hd2).symm)))
      ((off14_eq k0_t1).trans (src_rt k0_t1 hlt7)) (off13_eq k0_t1)) $$ [Ht2B HsB HO]
  · isplitr; · iexact HI
    isplitl [Ht2B]; · iexact Ht2B
    isplitl [HsB]; · iexact HsB
    iexact HO
  iintro ⟨Hf2B, HO⟩
  unfold Fly; icases H9B with ⟨Hf9B, Hr9B⟩
  rw [wp_bind]
  iapply (run_part1 Wq Wo K c W v4 v7 _ k0_t1 arg12 h2 hk9 (((TT k0_t1.val).erase (false, (sl k0_t1 2 hk2))).erase (true, (sl k0_t1 2 hk2))) hsub) $$ [H9A Hf9B HO]
  · isplitr; · iexact HI
    isplitr; · iexact Hlev
    isplitl [H9A]; · unfold Fly; iexact H9A
    isplitl [Hf9B]; · iexact Hf9B
    iexact HO
  iintro ⟨⟨%W0, HO⟩, Hl9A, ⟨HpB, HsB⟩⟩
  iapply (wait_recvB Wq Wo Q _ K c (sl k0_t1 9 hk9) hn9 (((TT k0_t1.val).erase (false, (sl k0_t1 2 hk2))).erase (true, (sl k0_t1 2 hk2))) (fun q hq => TT_hop9 k0_t1 hk9 q (hsub hq)) (semB_recv (sl k0_t1 9 hk9) (off18_eq k0_t1))) $$ [Hr9B HO]
  · isplitr; · iexact HI
    isplitr; · iexact Hlev
    isplitl [Hr9B]; · iexact Hr9B
    iexact HO
  iintro ⟨⟨%W1, HO⟩, HqB, HvB⟩
  ihave Hl9B : iprop(landed Wq Wo c (true, sl k0_t1 9 hk9)) $$ [HpB HqB HsB HvB]
  · unfold landed
    isplitl [HpB]; · iexact HpB
    isplitl [HqB]; · iexact HqB
    isplitl [HsB]; · iexact HsB
    iexact HvB
  ihave Hf9A := (landed_fwd Wq Wo c false (sl k0_t1 9 hk9) (sl k0_t1 10 hk10) (by show src (k0_t1.val + 10) = k0_t1.val + 9; unfold src; rw [if_neg (by omega)]; rfl) (by show ¬ k0_t1.val + 10 = 9; omega) (by show ¬ (k0_t1.val + 9 = 8 ∨ k0_t1.val + 9 = 15); omega)) $$ Hl9A
  icases Hf9A with ⟨Hs9A, Hd9A⟩
  icases H10A with ⟨Ht10A, Hr10A⟩
  ihave Hf9B := (landed_fwd Wq Wo c true (sl k0_t1 9 hk9) (sl k0_t1 10 hk10) (by show src (k0_t1.val + 10) = k0_t1.val + 9; unfold src; rw [if_neg (by omega)]; rfl) (by show ¬ k0_t1.val + 10 = 9; omega) (by show ¬ (k0_t1.val + 9 = 8 ∨ k0_t1.val + 9 = 15); omega)) $$ Hl9B
  icases Hf9B with ⟨Hs9B, Hd9B⟩
  icases H10B with ⟨Ht10B, Hr10B⟩
  iapply (startA Wq Wo Q _ K c (sl k0_t1 10 hk10) hn10 (T := (((TT k0_t1.val).erase (false, (sl k0_t1 2 hk2))).erase (true, (sl k0_t1 2 hk2)))) (Finset.mem_erase.mpr ⟨fun e => Bool.noConfusion (congrArg Prod.fst e), Finset.mem_erase.mpr ⟨fun e => by have e2 : k0_t1.val + 10 = k0_t1.val + 2 := congrArg (fun p : Tr => p.2.val) e; omega, hm10 false⟩⟩) (semA_send (sl k0_t1 10 hk10) hn10 (off21_eq k0_t1)) (semA_recv (sl k0_t1 10 hk10) (off22_eq k0_t1))
      (d := ⟨k0_dev9 c, _⟩) (Fin.ext ((dev9_eq c).trans (congrArg Fin.val (dst_lf c (sl k0_t1 10 hk10) hd10).symm)))
      ((off24_eq k0_t1).trans (src_lf k0_t1 hlt6)) (off23_eq k0_t1)) $$ [Ht10A Hs9A HO]
  · isplitr; · iexact HI
    isplitl [Ht10A]; · iexact Ht10A
    isplitl [Hs9A]; · iexact Hs9A
    iexact HO
  iintro ⟨Hf10A, HO⟩
  iapply (startB Wq Wo Q _ K c (sl k0_t1 10 hk10) hn10 (T := ((((TT k0_t1.val).erase (false, (sl k0_t1 2 hk2))).erase (true, (sl k0_t1 2 hk2))).erase (false, (sl k0_t1 10 hk10)))) (Finset.mem_erase.mpr ⟨fun e => Bool.noConfusion (congrArg Prod.fst e), Finset.mem_erase.mpr ⟨fun e => by have e2 : k0_t1.val + 10 = k0_t1.val + 2 := congrArg (fun p : Tr => p.2.val) e; omega, Finset.mem_erase.mpr ⟨fun e => Bool.noConfusion (congrArg Prod.fst e), hm10 true⟩⟩⟩) (semB_send (sl k0_t1 10 hk10) hn10 (off21_eq k0_t1)) (semB_recv (sl k0_t1 10 hk10) (off22_eq k0_t1))
      (d := ⟨k0_dev10 c, _⟩) (Fin.ext ((dev10_eq c).trans (congrArg Fin.val (dst_lf c (sl k0_t1 10 hk10) hd10).symm)))
      ((off26_eq k0_t1).trans (src_lf k0_t1 hlt6)) (off25_eq k0_t1)) $$ [Ht10B Hs9B HO]
  · isplitr; · iexact HI
    isplitl [Ht10B]; · iexact Ht10B
    isplitl [Hs9B]; · iexact Hs9B
    iexact HO
  iintro ⟨Hf10B, HO⟩
  rw [hend]
  unfold ins
  ihave Hd1A := (doneA_out Wq Wo c (sl k0_t1 1 hk1) (k0_t1.val + 1) rfl) $$ Hd1A
  icases Hd1A with ⟨HA, HkA⟩
  ihave Hd1B := (doneB_out Wq Wo c (sl k0_t1 1 hk1) (k0_t1.val + 1) rfl) $$ Hd1B
  icases Hd1B with ⟨HB, HkB⟩
  icases Hins with ⟨Hx, Hk, Hv⟩
  iapply (loadA Q Wq c (j := k0_t1.val + 1) (off27_eq k0_t1)) $$ HA; iintro HA
  iapply (loadB Q Wo c (j := k0_t1.val + 1) (off28_eq k0_t1)) $$ HB; iintro HB
  iapply (loadX Q c) $$ Hx; iintro Hx
  iapply (loadK Q c (e := (org c (k0_t1.val + 1))) (h := 0) (b := 0) (off29_eq c k0_t1 0)) $$ Hk; iintro Hk
  rw [wp_ret]; imodintro; iapply HQ
  isplitl [HO]; · iexists _; iexact HO
  isplitl [Hx Hk Hv]
  · isplitl [Hx]; · iexact Hx
    isplitl [Hk]; · iexact Hk
    iexact Hv
  isplitl [HA HkA HB HkB]
  · isplitl [HA HkA]
    · iapply HkA; iexact HA
    iapply HkB; iexact HB
  isplitl [Hd9A Hd9B]
  · isplitl [Hd9A]; · iexact Hd9A
    iexact Hd9B
  isplitl [Hf2A Hr2A Hf2B Hr2B]
  · isplitl [Hf2A Hr2A]
    · isplitl [Hf2A]; · iexact Hf2A
      iexact Hr2A
    isplitl [Hf2B]; · iexact Hf2B
    iexact Hr2B
  isplitl [Hf10A Hr10A]
  · isplitl [Hf10A]; · iexact Hf10A
    iexact Hr10A
  isplitl [Hf10B]; · iexact Hf10B
  iexact Hr10B

set_option maxHeartbeats 2000000 in
theorem run_part8b (K : GSem nD τ sig → ℕ) (c : Dev nD) (W : Waits sig Unit) (x : S2x256x512.Idx → Elt F .bf16) (Kx Vx : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v2 v4 v7 : BitVec 32) (v75 : FVec F S256x256 .f32) (b1 b0 : BitVec 1) (k0_t1 : Fin k0_t1_loop.trips) (he : k0_t1.val = 6) (hk1 : k0_t1.val + 1 < 16) (hk9 : k0_t1.val + 9 < 16) (hk2 : k0_t1.val + 2 < 16) (arg12 : BitVec 32)
    (Q : (Σ' (v358 : BitVec 32) (v364 : FVec F S256x512 .bf16) (v369 : FVec F S512x256 .bf16) (v370 : FVec F S256x256 .bf16) (v383 : FVec F S256x1 .f32), FVec F S256x256 .bf16) → sProp 𝕄) :
    iprop(records Wq Wo K ∗ levAts L lv ∗ ins c x Kx Vx ∗ pair (landed Wq Wo c) (sl k0_t1 1 hk1) ∗ owes (c : Thread nD τ) (OW c (TT k0_t1.val)) W ∗ pair (Fly (F := F) c) (sl k0_t1 9 hk9) ∗ pair (Todo (F := F) c) (sl k0_t1 2 hk2))
      ⊢ iprop(((∃ W', owes (c : Thread nD τ) (OW c (TT (k0_t1.val + 1))) W') ∗ ins c x Kx Vx ∗ pair (Done Wq Wo c) (sl k0_t1 1 hk1) ∗ pair (Done Wq Wo c) (sl k0_t1 9 hk9) ∗ pair (Fly (F := F) c) (sl k0_t1 2 hk2)
            -∗ Q ⟨(Scalar.remsi (Scalar.addi (Scalar.subi v2 arg12) 16#32) 16#32), k0_pay19 (Wo (org c (k0_t1.val + 1))), k0_pay20 (Wq (org c (k0_t1.val + 1))) x, k0_pay21 (Wq (org c (k0_t1.val + 1))) x, k0_pay23 v75 (Wq (org c (k0_t1.val + 1))) x (blk Kx (org c (k0_t1.val + 1)) 0 0), k0_pay24 v75 (Wq (org c (k0_t1.val + 1))) x (blk Kx (org c (k0_t1.val + 1)) 0 0)⟩)
        -∗ wp frame (wpE defs₀ 𝒱₀ (c : Thread nD τ) none) Set.univ (k0_part8 xM h0 qM h1 oM h2 kM h3 vM h4 yM h5 aM h6 bM h7 cc0_scratch2 cc0_scratch3 cc0_scratch4 cc0_scratch5 c v2 v4 v7 v75 b1 b0 k0_t1 arg12) Q) := by
  have hlt7 : k0_t1.val < 7 := by omega
  have hn1 := sl_ne k0_t1 0 hk1
  have hn9 := sl_ne k0_t1 8 hk9
  have hn2 := sl_ne k0_t1 1 hk2
  have h1 := (cond1_iff k0_t1).mpr hlt7
  have h2 := (cond2_iff k0_t1).mpr hlt7
  have hd2 : (sl k0_t1 2 hk2).val ≤ 8 := by show k0_t1.val + 2 ≤ 8; omega
  have h3 : ¬ k0_cond3 k0_t1 = 1#1 := fun h => by have := (cond3_iff k0_t1).mp h; omega
  have hm2 := hop_right ⟨k0_t1.val, hlt7⟩
  have hsub : (((TT k0_t1.val).erase (false, (sl k0_t1 2 hk2))).erase (true, (sl k0_t1 2 hk2))) ⊆ TT k0_t1.val := (Finset.erase_subset _ _).trans (Finset.erase_subset _ _)
  have hend : (((TT k0_t1.val).erase (false, (sl k0_t1 2 hk2))).erase (true, (sl k0_t1 2 hk2))) = TT (k0_t1.val + 1) := by
    obtain ⟨t, ht⟩ := k0_t1; obtain rfl : t = 6 := he; exact TT_six
  rw [k0_part8_eq_skeleton]
  unfold k0_part8_skel pair
  simp only [dif_pos h1, dif_pos h2, dif_neg h3, Prog.lift, Prog.bind_op, Prog.bind_ret, Prog.pure_eq_ret, Prog.bind_assoc]
  iintro ⟨#HI, #Hlev, Hins, ⟨HlA, HlB⟩, HO, ⟨H9A, H9B⟩, ⟨H2A, H2B⟩⟩ HQ
  ihave HfA := (landed_fwd Wq Wo c false (sl k0_t1 1 hk1) (sl k0_t1 2 hk2) (by show src (k0_t1.val + 2) = k0_t1.val + 1; unfold src; rw [if_neg (by omega)]; rfl) (by show ¬ k0_t1.val + 2 = 9; omega) (by show ¬ (k0_t1.val + 1 = 8 ∨ k0_t1.val + 1 = 15); omega)) $$ HlA
  icases HfA with ⟨HsA, Hd1A⟩
  unfold Todo; icases H2A with ⟨Ht2A, Hr2A⟩
  ihave HfB := (landed_fwd Wq Wo c true (sl k0_t1 1 hk1) (sl k0_t1 2 hk2) (by show src (k0_t1.val + 2) = k0_t1.val + 1; unfold src; rw [if_neg (by omega)]; rfl) (by show ¬ k0_t1.val + 2 = 9; omega) (by show ¬ (k0_t1.val + 1 = 8 ∨ k0_t1.val + 1 = 15); omega)) $$ HlB
  icases HfB with ⟨HsB, Hd1B⟩
  icases H2B with ⟨Ht2B, Hr2B⟩
  iapply (startA Wq Wo Q _ K c (sl k0_t1 2 hk2) hn2 (T := (TT k0_t1.val)) (hm2 false) (semA_send (sl k0_t1 2 hk2) hn2 (off9_eq k0_t1)) (semA_recv (sl k0_t1 2 hk2) (off10_eq k0_t1))
      (d := ⟨k0_dev7 c, _⟩) (Fin.ext ((dev7_eq c).trans (congrArg Fin.val (dst_rt c (sl k0_t1 2 hk2) hd2).symm)))
      ((off12_eq k0_t1).trans (src_rt k0_t1 hlt7)) (off11_eq k0_t1)) $$ [Ht2A HsA HO]
  · isplitr; · iexact HI
    isplitl [Ht2A]; · iexact Ht2A
    isplitl [HsA]; · iexact HsA
    iexact HO
  iintro ⟨Hf2A, HO⟩
  iapply (startB Wq Wo Q _ K c (sl k0_t1 2 hk2) hn2 (T := ((TT k0_t1.val).erase (false, (sl k0_t1 2 hk2)))) (Finset.mem_erase.mpr ⟨fun e => Bool.noConfusion (congrArg Prod.fst e), hm2 true⟩) (semB_send (sl k0_t1 2 hk2) hn2 (off9_eq k0_t1)) (semB_recv (sl k0_t1 2 hk2) (off10_eq k0_t1))
      (d := ⟨k0_dev8 c, _⟩) (Fin.ext ((dev8_eq c).trans (congrArg Fin.val (dst_rt c (sl k0_t1 2 hk2) hd2).symm)))
      ((off14_eq k0_t1).trans (src_rt k0_t1 hlt7)) (off13_eq k0_t1)) $$ [Ht2B HsB HO]
  · isplitr; · iexact HI
    isplitl [Ht2B]; · iexact Ht2B
    isplitl [HsB]; · iexact HsB
    iexact HO
  iintro ⟨Hf2B, HO⟩
  unfold Fly; icases H9B with ⟨Hf9B, Hr9B⟩
  rw [wp_bind]
  iapply (run_part1 Wq Wo K c W v4 v7 _ k0_t1 arg12 h2 hk9 (((TT k0_t1.val).erase (false, (sl k0_t1 2 hk2))).erase (true, (sl k0_t1 2 hk2))) hsub) $$ [H9A Hf9B HO]
  · isplitr; · iexact HI
    isplitr; · iexact Hlev
    isplitl [H9A]; · unfold Fly; iexact H9A
    isplitl [Hf9B]; · iexact Hf9B
    iexact HO
  iintro ⟨⟨%W0, HO⟩, Hl9A, ⟨HpB, HsB⟩⟩
  iapply (wait_recvB Wq Wo Q _ K c (sl k0_t1 9 hk9) hn9 (((TT k0_t1.val).erase (false, (sl k0_t1 2 hk2))).erase (true, (sl k0_t1 2 hk2))) (fun q hq => TT_hop9 k0_t1 hk9 q (hsub hq)) (semB_recv (sl k0_t1 9 hk9) (off18_eq k0_t1))) $$ [Hr9B HO]
  · isplitr; · iexact HI
    isplitr; · iexact Hlev
    isplitl [Hr9B]; · iexact Hr9B
    iexact HO
  iintro ⟨⟨%W1, HO⟩, HqB, HvB⟩
  ihave Hl9B : iprop(landed Wq Wo c (true, sl k0_t1 9 hk9)) $$ [HpB HqB HsB HvB]
  · unfold landed
    isplitl [HpB]; · iexact HpB
    isplitl [HqB]; · iexact HqB
    isplitl [HsB]; · iexact HsB
    iexact HvB
  ihave Hd9A := (landed_end Wq Wo c false (sl k0_t1 9 hk9) (Or.inr (by show k0_t1.val + 9 = 15; omega))) $$ Hl9A
  ihave Hd9B := (landed_end Wq Wo c true (sl k0_t1 9 hk9) (Or.inr (by show k0_t1.val + 9 = 15; omega))) $$ Hl9B
  rw [hend]
  unfold ins
  ihave Hd1A := (doneA_out Wq Wo c (sl k0_t1 1 hk1) (k0_t1.val + 1) rfl) $$ Hd1A
  icases Hd1A with ⟨HA, HkA⟩
  ihave Hd1B := (doneB_out Wq Wo c (sl k0_t1 1 hk1) (k0_t1.val + 1) rfl) $$ Hd1B
  icases Hd1B with ⟨HB, HkB⟩
  icases Hins with ⟨Hx, Hk, Hv⟩
  iapply (loadA Q Wq c (j := k0_t1.val + 1) (off27_eq k0_t1)) $$ HA; iintro HA
  iapply (loadB Q Wo c (j := k0_t1.val + 1) (off28_eq k0_t1)) $$ HB; iintro HB
  iapply (loadX Q c) $$ Hx; iintro Hx
  iapply (loadK Q c (e := (org c (k0_t1.val + 1))) (h := 0) (b := 0) (off29_eq c k0_t1 0)) $$ Hk; iintro Hk
  rw [wp_ret]; imodintro; iapply HQ
  isplitl [HO]; · iexists _; iexact HO
  isplitl [Hx Hk Hv]
  · isplitl [Hx]; · iexact Hx
    isplitl [Hk]; · iexact Hk
    iexact Hv
  isplitl [HA HkA HB HkB]
  · isplitl [HA HkA]
    · iapply HkA; iexact HA
    iapply HkB; iexact HB
  isplitl [Hd9A Hd9B]
  · isplitl [Hd9A]; · iexact Hd9A
    iexact Hd9B
  isplitl [Hf2A Hr2A]
  · isplitl [Hf2A]; · iexact Hf2A
    iexact Hr2A
  isplitl [Hf2B]; · iexact Hf2B
  iexact Hr2B

set_option maxHeartbeats 2000000 in
theorem run_part8c (K : GSem nD τ sig → ℕ) (c : Dev nD) (W : Waits sig Unit) (x : S2x256x512.Idx → Elt F .bf16) (Kx Vx : S64x2x256x64.Idx → Elt F .bf16) {h0 : xM.IsWhole} {h1 : qM.IsWhole} {h2 : oM.IsWhole} {h3 : kM.IsWhole} {h4 : vM.IsWhole} {h5 : yM.IsWhole} {h6 : aM.IsWhole} {h7 : bM.IsWhole}
    (v2 v4 v7 : BitVec 32) (v75 : FVec F S256x256 .f32) (b1 b0 : BitVec 1) (k0_t1 : Fin k0_t1_loop.trips) (he : k0_t1.val = 7) (hk1 : k0_t1.val + 1 < 16) (arg12 : BitVec 32)
    (Q : (Σ' (v358 : BitVec 32) (v364 : FVec F S256x512 .bf16) (v369 : FVec F S512x256 .bf16) (v370 : FVec F S256x256 .bf16) (v383 : FVec F S256x1 .f32), FVec F S256x256 .bf16) → sProp 𝕄) :
    iprop(records Wq Wo K ∗ levAts L lv ∗ ins c x Kx Vx ∗ pair (landed Wq Wo c) (sl k0_t1 1 hk1) ∗ owes (c : Thread nD τ) (OW c (TT k0_t1.val)) W)
      ⊢ iprop(((∃ W', owes (c : Thread nD τ) (OW c (TT (k0_t1.val + 1))) W') ∗ ins c x Kx Vx ∗ pair (Done Wq Wo c) (sl k0_t1 1 hk1)
            -∗ Q ⟨(Scalar.remsi (Scalar.addi (Scalar.subi v2 arg12) 16#32) 16#32), k0_pay19 (Wo (org c (k0_t1.val + 1))), k0_pay20 (Wq (org c (k0_t1.val + 1))) x, k0_pay21 (Wq (org c (k0_t1.val + 1))) x, k0_pay23 v75 (Wq (org c (k0_t1.val + 1))) x (blk Kx (org c (k0_t1.val + 1)) 0 0), k0_pay24 v75 (Wq (org c (k0_t1.val + 1))) x (blk Kx (org c (k0_t1.val + 1)) 0 0)⟩)
        -∗ wp frame (wpE defs₀ 𝒱₀ (c : Thread nD τ) none) Set.univ (k0_part8 xM h0 qM h1 oM h2 kM h3 vM h4 yM h5 aM h6 bM h7 cc0_scratch2 cc0_scratch3 cc0_scratch4 cc0_scratch5 c v2 v4 v7 v75 b1 b0 k0_t1 arg12) Q) := by
  have hn1 := sl_ne k0_t1 0 hk1
  have h1 : ¬ k0_cond1 k0_t1 = 1#1 := fun h => by have := (cond1_iff k0_t1).mp h; omega
  have h2 : ¬ k0_cond2 k0_t1 = 1#1 := fun h => by have := (cond2_iff k0_t1).mp h; omega
  have hend : (TT k0_t1.val) = TT (k0_t1.val + 1) := by rw [he]; exact TT_seven
  rw [k0_part8_eq_skeleton]
  unfold k0_part8_skel pair
  simp only [dif_neg h1, dif_neg h2, Prog.lift, Prog.bind_op, Prog.bind_ret, Prog.pure_eq_ret, Prog.bind_assoc]
  iintro ⟨#HI, #Hlev, Hins, ⟨HlA, HlB⟩, HO⟩ HQ
  ihave Hd1A := (landed_end Wq Wo c false (sl k0_t1 1 hk1) (Or.inl (by show k0_t1.val + 1 = 8; omega))) $$ HlA
  ihave Hd1B := (landed_end Wq Wo c true (sl k0_t1 1 hk1) (Or.inl (by show k0_t1.val + 1 = 8; omega))) $$ HlB
  rw [hend]
  unfold ins
  ihave Hd1A := (doneA_out Wq Wo c (sl k0_t1 1 hk1) (k0_t1.val + 1) rfl) $$ Hd1A
  icases Hd1A with ⟨HA, HkA⟩
  ihave Hd1B := (doneB_out Wq Wo c (sl k0_t1 1 hk1) (k0_t1.val + 1) rfl) $$ Hd1B
  icases Hd1B with ⟨HB, HkB⟩
  icases Hins with ⟨Hx, Hk, Hv⟩
  iapply (loadA Q Wq c (j := k0_t1.val + 1) (off27_eq k0_t1)) $$ HA; iintro HA
  iapply (loadB Q Wo c (j := k0_t1.val + 1) (off28_eq k0_t1)) $$ HB; iintro HB
  iapply (loadX Q c) $$ Hx; iintro Hx
  iapply (loadK Q c (e := (org c (k0_t1.val + 1))) (h := 0) (b := 0) (off29_eq c k0_t1 0)) $$ Hk; iintro Hk
  rw [wp_ret]; imodintro; iapply HQ
  isplitl [HO]; · iexists _; iexact HO
  isplitl [Hx Hk Hv]
  · isplitl [Hx]; · iexact Hx
    isplitl [Hk]; · iexact Hk
    iexact Hv
  isplitl [HA HkA]
  · iapply HkA; iexact HA
  iapply HkB; iexact HB

end Cert.KernelIdeal.Ring

end
-- ==== Proof.KI.Trip.lean ====
/- One trip of the loop: the hop's waits, the next hop's starts, and the attention of the shards that have landed. -/
module

public import proofs.«01_k».proof.Proof.KI.Trip8
public import proofs.«01_k».proof.Proof.KI.Val

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Wq : Dev nD → S1x512x256.Idx → Elt F .bf16) (Wo : Dev nD → S1x256x512.Idx → Elt F .bf16)

/-- The output with the attention of device `e`'s shard added. -/
def stp (x : S2x256x512.Idx → Elt F .bf16) (K V : S64x2x256x64.Idx → Elt F .bf16) (e : Dev nD) (y : S2x256x512.Idx → Elt F .f32) :
    S2x256x512.Idx → Elt F .f32 :=
  comp x (Wq e) (Wo e) (blk K e) (blk V e) y

set_option maxHeartbeats 2000000 in
theorem trip_a (K : GSem nD τ sig → ℕ) (c : Dev nD) (x : S2x256x512.Idx → Elt F .bf16) (Kx Vx : S64x2x256x64.Idx → Elt F .bf16) (y : S2x256x512.Idx → Elt F .f32) {h0 : xM.IsWhole} {h1 : qM.IsWhole} {h2 : oM.IsWhole} {h3 : kM.IsWhole} {h4 : vM.IsWhole} {h5 : yM.IsWhole} {h6 : aM.IsWhole} {h7 : bM.IsWhole}
    (v2 v4 v7 : BitVec 32) (v133 : FVec F S256x512 .bf16) (v224 : FVec F S256x256 .bf16) (v225 : FVec F S256x256 .bf16) (v246 : FVec F S256x64 .bf16) (v267 : FVec F S256x64 .bf16) (v280 : FVec F S256x1 .f32) (v281 : FVec F S256x256 .bf16) (v284 : FVec F S256x64 .bf16) (cst : FVec F S256x64 .f32) (k0_t1 : Fin k0_t1_loop.trips) (hlt6 : k0_t1.val < 6) (hk1 : k0_t1.val + 1 < 16) (hk9 : k0_t1.val + 9 < 16) (hk2 : k0_t1.val + 2 < 16) (hk10 : k0_t1.val + 10 < 16) (Q : Unit → sProp 𝕄) :
    iprop(records Wq Wo K ∗ levAts L lv ∗ ins c x Kx Vx ∗ py c y ∗ (∃ W, owes (c : Thread nD τ) (OW c (TT k0_t1.val)) W) ∗ pair (Fly (F := F) c) (sl k0_t1 1 hk1) ∗ pair (Fly (F := F) c) (sl k0_t1 9 hk9) ∗ pair (Todo (F := F) c) (sl k0_t1 2 hk2) ∗ pair (Todo (F := F) c) (sl k0_t1 10 hk10))
      ⊢ iprop(((∃ W', owes (c : Thread nD τ) (OW c (TT (k0_t1.val + 1))) W') ∗ ins c x Kx Vx ∗ py c (stp Wq Wo x Kx Vx (org c (k0_t1.val + 9)) (stp Wq Wo x Kx Vx (org c (k0_t1.val + 1)) y)) ∗ pair (Done Wq Wo c) (sl k0_t1 1 hk1) ∗ pair (Done Wq Wo c) (sl k0_t1 9 hk9) ∗ pair (Fly (F := F) c) (sl k0_t1 2 hk2) ∗ pair (Fly (F := F) c) (sl k0_t1 10 hk10)
            -∗ Q ⟨⟩)
        -∗ wp frame (wpE defs₀ 𝒱₀ (c : Thread nD τ) none) Set.univ (k0_t1_body xM h0 qM h1 oM h2 kM h3 vM h4 yM h5 aM h6 bM h7 cc0_scratch2 cc0_scratch3 cc0_scratch4 cc0_scratch5 c v2 v4 v7 bias v133 v224 v225 v246 v267 v280 v281 v284 cst k0_t1 ⟨⟩) Q) := by
  have h4' := (cond4_iff k0_t1).mpr (by omega)
  unfold k0_t1_body
  simp only [dif_pos h4', Prog.lift, Prog.bind_op, Prog.bind_ret, Prog.pure_eq_ret, Prog.bind_assoc]
  iintro ⟨#HI, #Hlev, Hins, Hy, ⟨%W, HO⟩, Hf1, Hf9, Ht2, Ht10⟩ HQ
  rw [wp_bind]
  iapply (run_part7 Wq Wo K c W v4 v7 k0_t1 hk1) $$ [Hf1 HO]
  · isplitr; · iexact HI
    isplitr; · iexact Hlev
    isplitl [Hf1]; · iexact Hf1
    iexact HO
  iintro ⟨⟨%W1, HO⟩, Hl1⟩
  rw [wp_bind]
  iapply (run_part8a Wq Wo K c W1 x Kx Vx v2 v4 v7 bias _ _ k0_t1 hlt6 hk1 hk9 hk2 hk10) $$ [Hins Hl1 HO Hf9 Ht2 Ht10]
  · isplitr; · iexact HI
    isplitr; · iexact Hlev
    isplitl [Hins]; · iexact Hins
    isplitl [Hl1]; · iexact Hl1
    isplitl [HO]; · iexact HO
    isplitl [Hf9]; · iexact Hf9
    isplitl [Ht2]; · iexact Ht2
    iexact Ht10
  iintro ⟨⟨%W2, HO⟩, Hins, Hd1, Hd9, Hf2, Hf10⟩
  simp only []
  rw [wp_bind]
  iapply (run_part9 c x Kx Vx) $$ Hins
  iintro Hins
  simp only []
  rw [wp_bind]
  iapply (run_part10 c x Kx Vx) $$ Hins
  iintro Hins
  simp only []
  rw [wp_bind]
  iapply (run_part11 c x Kx Vx) $$ Hins
  iintro Hins
  simp only []
  rw [wp_bind]
  iapply (run_part12 c x Kx Vx) $$ Hins
  iintro Hins
  simp only []
  iapply (loadY _ c) $$ Hy; iintro Hy
  iapply (loadY _ c) $$ Hy; iintro Hy
  iapply (storeY _ c) $$ Hy; iintro Hy
  ihave Hy := (Entails.of_eq (congrArg (py c) (comp_right x (Wq (org c (k0_t1.val + 1))) (Wo (org c (k0_t1.val + 1))) (blk Kx (org c (k0_t1.val + 1))) (blk Vx (org c (k0_t1.val + 1))) y))) $$ Hy
  unfold pair
  icases Hd9 with ⟨Hd9A, Hd9B⟩
  ihave Hd9A := (doneA_out Wq Wo c (sl k0_t1 9 hk9) (k0_t1.val + 9) rfl) $$ Hd9A
  icases Hd9A with ⟨HA, HkA⟩
  ihave Hd9B := (doneB_out Wq Wo c (sl k0_t1 9 hk9) (k0_t1.val + 9) rfl) $$ Hd9B
  icases Hd9B with ⟨HB, HkB⟩
  rw [wp_bind]
  iapply (run_part2 c x Kx Vx Wq (keep (k0_t1.val + 9)) Wo (keep (k0_t1.val + 9))) $$ [Hins HA HB]
  · isplitl [Hins]; · iexact Hins
    isplitl [HA]; · iexact HA
    iexact HB
  iintro ⟨Hins, HA, HB⟩
  simp only []
  rw [wp_bind]
  iapply (run_part3 c x Kx Vx) $$ Hins
  iintro Hins
  simp only []
  rw [wp_bind]
  iapply (run_part4 c x Kx Vx) $$ Hins
  iintro Hins
  simp only []
  rw [wp_bind]
  iapply (run_part5 c x Kx Vx) $$ Hins
  iintro Hins
  simp only []
  rw [wp_bind]
  iapply (run_part6 c x Kx Vx (stp Wq Wo x Kx Vx (org c (k0_t1.val + 1)) y)) $$ [Hins Hy]
  · isplitl [Hins]; · iexact Hins
    iexact Hy
  iintro ⟨Hins, Hy⟩
  simp only []
  iapply (loadY _ c) $$ Hy; iintro Hy
  iapply (storeY _ c) $$ Hy; iintro Hy
  ihave Hy := (Entails.of_eq (congrArg (py c) (comp_left x (Wq (org c (k0_t1.val + 9))) (Wo (org c (k0_t1.val + 9))) (blk Kx (org c (k0_t1.val + 9))) (blk Vx (org c (k0_t1.val + 9))) (stp Wq Wo x Kx Vx (org c (k0_t1.val + 1)) y)))) $$ Hy
  rw [wp_ret]; imodintro; iapply HQ
  isplitl [HO]; · iexists _; iexact HO
  isplitl [Hins]; · iexact Hins
  isplitl [Hy]; · iexact Hy
  isplitl [Hd1]; · iexact Hd1
  isplitl [HA HkA HB HkB]
  · isplitl [HA HkA]
    · iapply HkA; iexact HA
    iapply HkB; iexact HB
  isplitl [Hf2]; · iexact Hf2
  iexact Hf10

set_option maxHeartbeats 2000000 in
theorem trip_b (K : GSem nD τ sig → ℕ) (c : Dev nD) (x : S2x256x512.Idx → Elt F .bf16) (Kx Vx : S64x2x256x64.Idx → Elt F .bf16) (y : S2x256x512.Idx → Elt F .f32) {h0 : xM.IsWhole} {h1 : qM.IsWhole} {h2 : oM.IsWhole} {h3 : kM.IsWhole} {h4 : vM.IsWhole} {h5 : yM.IsWhole} {h6 : aM.IsWhole} {h7 : bM.IsWhole}
    (v2 v4 v7 : BitVec 32) (v133 : FVec F S256x512 .bf16) (v224 : FVec F S256x256 .bf16) (v225 : FVec F S256x256 .bf16) (v246 : FVec F S256x64 .bf16) (v267 : FVec F S256x64 .bf16) (v280 : FVec F S256x1 .f32) (v281 : FVec F S256x256 .bf16) (v284 : FVec F S256x64 .bf16) (cst : FVec F S256x64 .f32) (k0_t1 : Fin k0_t1_loop.trips) (he : k0_t1.val = 6) (hk1 : k0_t1.val + 1 < 16) (hk9 : k0_t1.val + 9 < 16) (hk2 : k0_t1.val + 2 < 16) (Q : Unit → sProp 𝕄) :
    iprop(records Wq Wo K ∗ levAts L lv ∗ ins c x Kx Vx ∗ py c y ∗ (∃ W, owes (c : Thread nD τ) (OW c (TT k0_t1.val)) W) ∗ pair (Fly (F := F) c) (sl k0_t1 1 hk1) ∗ pair (Fly (F := F) c) (sl k0_t1 9 hk9) ∗ pair (Todo (F := F) c) (sl k0_t1 2 hk2))
      ⊢ iprop(((∃ W', owes (c : Thread nD τ) (OW c (TT (k0_t1.val + 1))) W') ∗ ins c x Kx Vx ∗ py c (stp Wq Wo x Kx Vx (org c (k0_t1.val + 9)) (stp Wq Wo x Kx Vx (org c (k0_t1.val + 1)) y)) ∗ pair (Done Wq Wo c) (sl k0_t1 1 hk1) ∗ pair (Done Wq Wo c) (sl k0_t1 9 hk9) ∗ pair (Fly (F := F) c) (sl k0_t1 2 hk2)
            -∗ Q ⟨⟩)
        -∗ wp frame (wpE defs₀ 𝒱₀ (c : Thread nD τ) none) Set.univ (k0_t1_body xM h0 qM h1 oM h2 kM h3 vM h4 yM h5 aM h6 bM h7 cc0_scratch2 cc0_scratch3 cc0_scratch4 cc0_scratch5 c v2 v4 v7 bias v133 v224 v225 v246 v267 v280 v281 v284 cst k0_t1 ⟨⟩) Q) := by
  have h4' := (cond4_iff k0_t1).mpr (by omega)
  unfold k0_t1_body
  simp only [dif_pos h4', Prog.lift, Prog.bind_op, Prog.bind_ret, Prog.pure_eq_ret, Prog.bind_assoc]
  iintro ⟨#HI, #Hlev, Hins, Hy, ⟨%W, HO⟩, Hf1, Hf9, Ht2⟩ HQ
  rw [wp_bind]
  iapply (run_part7 Wq Wo K c W v4 v7 k0_t1 hk1) $$ [Hf1 HO]
  · isplitr; · iexact HI
    isplitr; · iexact Hlev
    isplitl [Hf1]; · iexact Hf1
    iexact HO
  iintro ⟨⟨%W1, HO⟩, Hl1⟩
  rw [wp_bind]
  iapply (run_part8b Wq Wo K c W1 x Kx Vx v2 v4 v7 bias _ _ k0_t1 he hk1 hk9 hk2) $$ [Hins Hl1 HO Hf9 Ht2]
  · isplitr; · iexact HI
    isplitr; · iexact Hlev
    isplitl [Hins]; · iexact Hins
    isplitl [Hl1]; · iexact Hl1
    isplitl [HO]; · iexact HO
    isplitl [Hf9]; · iexact Hf9
    iexact Ht2
  iintro ⟨⟨%W2, HO⟩, Hins, Hd1, Hd9, Hf2⟩
  simp only []
  rw [wp_bind]
  iapply (run_part9 c x Kx Vx) $$ Hins
  iintro Hins
  simp only []
  rw [wp_bind]
  iapply (run_part10 c x Kx Vx) $$ Hins
  iintro Hins
  simp only []
  rw [wp_bind]
  iapply (run_part11 c x Kx Vx) $$ Hins
  iintro Hins
  simp only []
  rw [wp_bind]
  iapply (run_part12 c x Kx Vx) $$ Hins
  iintro Hins
  simp only []
  iapply (loadY _ c) $$ Hy; iintro Hy
  iapply (loadY _ c) $$ Hy; iintro Hy
  iapply (storeY _ c) $$ Hy; iintro Hy
  ihave Hy := (Entails.of_eq (congrArg (py c) (comp_right x (Wq (org c (k0_t1.val + 1))) (Wo (org c (k0_t1.val + 1))) (blk Kx (org c (k0_t1.val + 1))) (blk Vx (org c (k0_t1.val + 1))) y))) $$ Hy
  unfold pair
  icases Hd9 with ⟨Hd9A, Hd9B⟩
  ihave Hd9A := (doneA_out Wq Wo c (sl k0_t1 9 hk9) (k0_t1.val + 9) rfl) $$ Hd9A
  icases Hd9A with ⟨HA, HkA⟩
  ihave Hd9B := (doneB_out Wq Wo c (sl k0_t1 9 hk9) (k0_t1.val + 9) rfl) $$ Hd9B
  icases Hd9B with ⟨HB, HkB⟩
  rw [wp_bind]
  iapply (run_part2 c x Kx Vx Wq (keep (k0_t1.val + 9)) Wo (keep (k0_t1.val + 9))) $$ [Hins HA HB]
  · isplitl [Hins]; · iexact Hins
    isplitl [HA]; · iexact HA
    iexact HB
  iintro ⟨Hins, HA, HB⟩
  simp only []
  rw [wp_bind]
  iapply (run_part3 c x Kx Vx) $$ Hins
  iintro Hins
  simp only []
  rw [wp_bind]
  iapply (run_part4 c x Kx Vx) $$ Hins
  iintro Hins
  simp only []
  rw [wp_bind]
  iapply (run_part5 c x Kx Vx) $$ Hins
  iintro Hins
  simp only []
  rw [wp_bind]
  iapply (run_part6 c x Kx Vx (stp Wq Wo x Kx Vx (org c (k0_t1.val + 1)) y)) $$ [Hins Hy]
  · isplitl [Hins]; · iexact Hins
    iexact Hy
  iintro ⟨Hins, Hy⟩
  simp only []
  iapply (loadY _ c) $$ Hy; iintro Hy
  iapply (storeY _ c) $$ Hy; iintro Hy
  ihave Hy := (Entails.of_eq (congrArg (py c) (comp_left x (Wq (org c (k0_t1.val + 9))) (Wo (org c (k0_t1.val + 9))) (blk Kx (org c (k0_t1.val + 9))) (blk Vx (org c (k0_t1.val + 9))) (stp Wq Wo x Kx Vx (org c (k0_t1.val + 1)) y)))) $$ Hy
  rw [wp_ret]; imodintro; iapply HQ
  isplitl [HO]; · iexists _; iexact HO
  isplitl [Hins]; · iexact Hins
  isplitl [Hy]; · iexact Hy
  isplitl [Hd1]; · iexact Hd1
  isplitl [HA HkA HB HkB]
  · isplitl [HA HkA]
    · iapply HkA; iexact HA
    iapply HkB; iexact HB
  iexact Hf2

set_option maxHeartbeats 2000000 in
theorem trip_c (K : GSem nD τ sig → ℕ) (c : Dev nD) (x : S2x256x512.Idx → Elt F .bf16) (Kx Vx : S64x2x256x64.Idx → Elt F .bf16) (y : S2x256x512.Idx → Elt F .f32) {h0 : xM.IsWhole} {h1 : qM.IsWhole} {h2 : oM.IsWhole} {h3 : kM.IsWhole} {h4 : vM.IsWhole} {h5 : yM.IsWhole} {h6 : aM.IsWhole} {h7 : bM.IsWhole}
    (v2 v4 v7 : BitVec 32) (v133 : FVec F S256x512 .bf16) (v224 : FVec F S256x256 .bf16) (v225 : FVec F S256x256 .bf16) (v246 : FVec F S256x64 .bf16) (v267 : FVec F S256x64 .bf16) (v280 : FVec F S256x1 .f32) (v281 : FVec F S256x256 .bf16) (v284 : FVec F S256x64 .bf16) (cst : FVec F S256x64 .f32) (k0_t1 : Fin k0_t1_loop.trips) (he : k0_t1.val = 7) (hk1 : k0_t1.val + 1 < 16) (Q : Unit → sProp 𝕄) :
    iprop(records Wq Wo K ∗ levAts L lv ∗ ins c x Kx Vx ∗ py c y ∗ (∃ W, owes (c : Thread nD τ) (OW c (TT k0_t1.val)) W) ∗ pair (Fly (F := F) c) (sl k0_t1 1 hk1))
      ⊢ iprop(((∃ W', owes (c : Thread nD τ) (OW c (TT (k0_t1.val + 1))) W') ∗ ins c x Kx Vx ∗ py c (stp Wq Wo x Kx Vx (org c (k0_t1.val + 1)) y) ∗ pair (Done Wq Wo c) (sl k0_t1 1 hk1)
            -∗ Q ⟨⟩)
        -∗ wp frame (wpE defs₀ 𝒱₀ (c : Thread nD τ) none) Set.univ (k0_t1_body xM h0 qM h1 oM h2 kM h3 vM h4 yM h5 aM h6 bM h7 cc0_scratch2 cc0_scratch3 cc0_scratch4 cc0_scratch5 c v2 v4 v7 bias v133 v224 v225 v246 v267 v280 v281 v284 cst k0_t1 ⟨⟩) Q) := by
  have h4' : ¬ k0_cond4 k0_t1 = 1#1 := fun h => by have := (cond4_iff k0_t1).mp h; omega
  unfold k0_t1_body
  simp only [dif_neg h4', Prog.lift, Prog.bind_op, Prog.bind_ret, Prog.pure_eq_ret, Prog.bind_assoc]
  iintro ⟨#HI, #Hlev, Hins, Hy, ⟨%W, HO⟩, Hf1⟩ HQ
  rw [wp_bind]
  iapply (run_part7 Wq Wo K c W v4 v7 k0_t1 hk1) $$ [Hf1 HO]
  · isplitr; · iexact HI
    isplitr; · iexact Hlev
    isplitl [Hf1]; · iexact Hf1
    iexact HO
  iintro ⟨⟨%W1, HO⟩, Hl1⟩
  rw [wp_bind]
  iapply (run_part8c Wq Wo K c W1 x Kx Vx v2 v4 v7 bias _ _ k0_t1 he hk1) $$ [Hins Hl1 HO ]
  · isplitr; · iexact HI
    isplitr; · iexact Hlev
    isplitl [Hins]; · iexact Hins
    isplitl [Hl1]; · iexact Hl1
    iexact HO
  iintro ⟨⟨%W2, HO⟩, Hins, Hd1⟩
  simp only []
  rw [wp_bind]
  iapply (run_part9 c x Kx Vx) $$ Hins
  iintro Hins
  simp only []
  rw [wp_bind]
  iapply (run_part10 c x Kx Vx) $$ Hins
  iintro Hins
  simp only []
  rw [wp_bind]
  iapply (run_part11 c x Kx Vx) $$ Hins
  iintro Hins
  simp only []
  rw [wp_bind]
  iapply (run_part12 c x Kx Vx) $$ Hins
  iintro Hins
  simp only []
  iapply (loadY _ c) $$ Hy; iintro Hy
  iapply (loadY _ c) $$ Hy; iintro Hy
  iapply (storeY _ c) $$ Hy; iintro Hy
  ihave Hy := (Entails.of_eq (congrArg (py c) (comp_right x (Wq (org c (k0_t1.val + 1))) (Wo (org c (k0_t1.val + 1))) (blk Kx (org c (k0_t1.val + 1))) (blk Vx (org c (k0_t1.val + 1))) y))) $$ Hy
  rw [wp_ret]; imodintro; iapply HQ
  isplitl [HO]; · iexists _; iexact HO
  isplitl [Hins]; · iexact Hins
  isplitl [Hy]; · iexact Hy
  iexact Hd1

end Cert.KernelIdeal.Ring

end
-- ==== Proof.KI.Loop.lean ====
/- The loop: what stands of every transfer before each trip, and the output after it. -/
module

public import proofs.«01_k».proof.Proof.KI.Trip

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Wq : Dev nD → S1x512x256.Idx → Elt F .bf16) (Wo : Dev nD → S1x256x512.Idx → Elt F .bf16)

/-- The landing slots. -/
def J : Finset (Fin 16) := Finset.univ.erase 0
theorem J_mem (j : Fin 16) : j ∈ J ↔ ¬ j.val = 0 :=
  Finset.mem_erase.trans ⟨fun h e => h.1 (Fin.ext e), fun h => ⟨fun e => h (congrArg Fin.val e), Finset.mem_univ _⟩⟩

/-- The two transfers into slot `j` before trip `t`. -/
def St (c : Dev nD) (t : ℕ) (j : Fin 16) : sProp 𝕄 :=
  if hop j.val < t then pair (Done Wq Wo c) j else if hop j.val = t then pair (Fly (F := F) c) j else pair (Todo (F := F) c) j

theorem hop_one (t : Fin k0_t1_loop.trips) (h : t.val ≤ 7) : hop (t.val + 1) = t.val := by unfold hop; rw [if_pos (by omega)]; rfl
theorem hop_nine (t : Fin k0_t1_loop.trips) : hop (t.val + 9) = t.val := by unfold hop; rw [if_neg (by omega)]; rfl
theorem hop_two (t : Fin k0_t1_loop.trips) (h : t.val ≤ 6) : hop (t.val + 2) = t.val + 1 := by unfold hop; rw [if_pos (by omega)]; rfl
theorem hop_ten (t : Fin k0_t1_loop.trips) : hop (t.val + 10) = t.val + 1 := by unfold hop; rw [if_neg (by omega)]; rfl

omit [FloatOps F] [Named F] in
theorem St_done (c : Dev nD) (t : ℕ) (j : Fin 16) (h : hop j.val < t) : St Wq Wo c t j = pair (Done Wq Wo c) j := if_pos h
omit [FloatOps F] [Named F] in
theorem St_fly (c : Dev nD) (t : ℕ) (j : Fin 16) (h : hop j.val = t) : St Wq Wo c t j = pair (Fly (F := F) c) j := by
  unfold St; rw [if_neg (by omega), if_pos h]
omit [FloatOps F] [Named F] in
theorem St_todo (c : Dev nD) (t : ℕ) (j : Fin 16) (h : t < hop j.val) : St Wq Wo c t j = pair (Todo (F := F) c) j := by
  unfold St; rw [if_neg (by omega), if_neg (by omega)]
omit [FloatOps F] [Named F] in
theorem St_same (c : Dev nD) (t : ℕ) (j : Fin 16) (h : hop j.val ≠ t) (h' : hop j.val ≠ t + 1) : St Wq Wo c t j = St Wq Wo c (t + 1) j := by
  by_cases h1 : hop j.val < t
  · rw [St_done Wq Wo c t j h1, St_done Wq Wo c (t + 1) j (by omega)]
  · rw [St_todo Wq Wo c t j (by omega), St_todo Wq Wo c (t + 1) j (by omega)]

theorem st_open_a (c : Dev nD) (t : Fin k0_t1_loop.trips) (h : t.val < 6) (hk1 : t.val + 1 < 16) (hk9 : t.val + 9 < 16) (hk2 : t.val + 2 < 16) (hk10 : t.val + 10 < 16) :
    bigSep J (St Wq Wo c (t.val)) = iprop(pair (Fly (F := F) c) (sl t 1 hk1) ∗ pair (Fly (F := F) c) (sl t 9 hk9) ∗ pair (Todo (F := F) c) (sl t 2 hk2) ∗ pair (Todo (F := F) c) (sl t 10 hk10) ∗ bigSep ((((J.erase (sl t 1 hk1)).erase (sl t 9 hk9)).erase (sl t 2 hk2)).erase (sl t 10 hk10)) (St Wq Wo c (t.val))) := by
  rw [bigSep_erase (i := (sl t 1 hk1)) (by rw [J_mem]; show ¬ t.val + 1 = 0; omega), bigSep_erase (i := (sl t 9 hk9)) (Finset.mem_erase.mpr ⟨fun e => by have := congrArg Fin.val e; have : t.val + 9 = t.val + 1 := this; omega, (by rw [J_mem]; show ¬ t.val + 9 = 0; omega)⟩), bigSep_erase (i := (sl t 2 hk2)) (Finset.mem_erase.mpr ⟨fun e => by have := congrArg Fin.val e; have : t.val + 2 = t.val + 9 := this; omega, (Finset.mem_erase.mpr ⟨fun e => by have := congrArg Fin.val e; have : t.val + 2 = t.val + 1 := this; omega, (by rw [J_mem]; show ¬ t.val + 2 = 0; omega)⟩)⟩), bigSep_erase (i := (sl t 10 hk10)) (Finset.mem_erase.mpr ⟨fun e => by have := congrArg Fin.val e; have : t.val + 10 = t.val + 2 := this; omega, (Finset.mem_erase.mpr ⟨fun e => by have := congrArg Fin.val e; have : t.val + 10 = t.val + 9 := this; omega, (Finset.mem_erase.mpr ⟨fun e => by have := congrArg Fin.val e; have : t.val + 10 = t.val + 1 := this; omega, (by rw [J_mem]; show ¬ t.val + 10 = 0; omega)⟩)⟩)⟩)]
  rw [St_fly Wq Wo c (t.val) (sl t 1 hk1) (show hop (sl t 1 hk1).val = _ from hop_one t (by omega)), St_fly Wq Wo c (t.val) (sl t 9 hk9) (show hop (sl t 9 hk9).val = _ from hop_nine t), St_todo Wq Wo c (t.val) (sl t 2 hk2) (by rw [(show hop (sl t 2 hk2).val = _ from hop_two t (by omega))]; omega), St_todo Wq Wo c (t.val) (sl t 10 hk10) (by rw [(show hop (sl t 10 hk10).val = _ from hop_ten t)]; omega)]
  rfl

theorem st_close_a (c : Dev nD) (t : Fin k0_t1_loop.trips) (h : t.val < 6) (hk1 : t.val + 1 < 16) (hk9 : t.val + 9 < 16) (hk2 : t.val + 2 < 16) (hk10 : t.val + 10 < 16) :
    bigSep J (St Wq Wo c (t.val + 1)) = iprop(pair (Done Wq Wo c) (sl t 1 hk1) ∗ pair (Done Wq Wo c) (sl t 9 hk9) ∗ pair (Fly (F := F) c) (sl t 2 hk2) ∗ pair (Fly (F := F) c) (sl t 10 hk10) ∗ bigSep ((((J.erase (sl t 1 hk1)).erase (sl t 9 hk9)).erase (sl t 2 hk2)).erase (sl t 10 hk10)) (St Wq Wo c (t.val + 1))) := by
  rw [bigSep_erase (i := (sl t 1 hk1)) (by rw [J_mem]; show ¬ t.val + 1 = 0; omega), bigSep_erase (i := (sl t 9 hk9)) (Finset.mem_erase.mpr ⟨fun e => by have := congrArg Fin.val e; have : t.val + 9 = t.val + 1 := this; omega, (by rw [J_mem]; show ¬ t.val + 9 = 0; omega)⟩), bigSep_erase (i := (sl t 2 hk2)) (Finset.mem_erase.mpr ⟨fun e => by have := congrArg Fin.val e; have : t.val + 2 = t.val + 9 := this; omega, (Finset.mem_erase.mpr ⟨fun e => by have := congrArg Fin.val e; have : t.val + 2 = t.val + 1 := this; omega, (by rw [J_mem]; show ¬ t.val + 2 = 0; omega)⟩)⟩), bigSep_erase (i := (sl t 10 hk10)) (Finset.mem_erase.mpr ⟨fun e => by have := congrArg Fin.val e; have : t.val + 10 = t.val + 2 := this; omega, (Finset.mem_erase.mpr ⟨fun e => by have := congrArg Fin.val e; have : t.val + 10 = t.val + 9 := this; omega, (Finset.mem_erase.mpr ⟨fun e => by have := congrArg Fin.val e; have : t.val + 10 = t.val + 1 := this; omega, (by rw [J_mem]; show ¬ t.val + 10 = 0; omega)⟩)⟩)⟩)]
  rw [St_done Wq Wo c (t.val + 1) (sl t 1 hk1) (by rw [(show hop (sl t 1 hk1).val = _ from hop_one t (by omega))]; omega), St_done Wq Wo c (t.val + 1) (sl t 9 hk9) (by rw [(show hop (sl t 9 hk9).val = _ from hop_nine t)]; omega), St_fly Wq Wo c (t.val + 1) (sl t 2 hk2) (show hop (sl t 2 hk2).val = _ from hop_two t (by omega)), St_fly Wq Wo c (t.val + 1) (sl t 10 hk10) (show hop (sl t 10 hk10).val = _ from hop_ten t)]
  rfl

theorem rest_a : ∀ t : Fin 6, ∀ j ∈ ((((J.erase ⟨t.val + 1, by omega⟩).erase ⟨t.val + 9, by omega⟩).erase ⟨t.val + 2, by omega⟩).erase ⟨t.val + 10, by omega⟩), hop j.val ≠ t.val ∧ hop j.val ≠ t.val + 1 := by decide +kernel
theorem st_rest_a (c : Dev nD) (t : Fin k0_t1_loop.trips) (h : t.val < 6) (hk1 : t.val + 1 < 16) (hk9 : t.val + 9 < 16) (hk2 : t.val + 2 < 16) (hk10 : t.val + 10 < 16) :
    bigSep ((((J.erase (sl t 1 hk1)).erase (sl t 9 hk9)).erase (sl t 2 hk2)).erase (sl t 10 hk10)) (St Wq Wo c t.val) = bigSep ((((J.erase (sl t 1 hk1)).erase (sl t 9 hk9)).erase (sl t 2 hk2)).erase (sl t 10 hk10)) (St Wq Wo c (t.val + 1)) := bigSep_congr fun j hj =>
  have hj' : hop j.val ≠ t.val ∧ hop j.val ≠ t.val + 1 := rest_a ⟨t.val, h⟩ j hj
  St_same Wq Wo c t.val j hj'.1 hj'.2

theorem st_open_b (c : Dev nD) (t : Fin k0_t1_loop.trips) (h : t.val = 6) (hk1 : t.val + 1 < 16) (hk9 : t.val + 9 < 16) (hk2 : t.val + 2 < 16) :
    bigSep J (St Wq Wo c (t.val)) = iprop(pair (Fly (F := F) c) (sl t 1 hk1) ∗ pair (Fly (F := F) c) (sl t 9 hk9) ∗ pair (Todo (F := F) c) (sl t 2 hk2) ∗ bigSep (((J.erase (sl t 1 hk1)).erase (sl t 9 hk9)).erase (sl t 2 hk2)) (St Wq Wo c (t.val))) := by
  rw [bigSep_erase (i := (sl t 1 hk1)) (by rw [J_mem]; show ¬ t.val + 1 = 0; omega), bigSep_erase (i := (sl t 9 hk9)) (Finset.mem_erase.mpr ⟨fun e => by have := congrArg Fin.val e; have : t.val + 9 = t.val + 1 := this; omega, (by rw [J_mem]; show ¬ t.val + 9 = 0; omega)⟩), bigSep_erase (i := (sl t 2 hk2)) (Finset.mem_erase.mpr ⟨fun e => by have := congrArg Fin.val e; have : t.val + 2 = t.val + 9 := this; omega, (Finset.mem_erase.mpr ⟨fun e => by have := congrArg Fin.val e; have : t.val + 2 = t.val + 1 := this; omega, (by rw [J_mem]; show ¬ t.val + 2 = 0; omega)⟩)⟩)]
  rw [St_fly Wq Wo c (t.val) (sl t 1 hk1) (show hop (sl t 1 hk1).val = _ from hop_one t (by omega)), St_fly Wq Wo c (t.val) (sl t 9 hk9) (show hop (sl t 9 hk9).val = _ from hop_nine t), St_todo Wq Wo c (t.val) (sl t 2 hk2) (by rw [(show hop (sl t 2 hk2).val = _ from hop_two t (by omega))]; omega)]
  rfl

theorem st_close_b (c : Dev nD) (t : Fin k0_t1_loop.trips) (h : t.val = 6) (hk1 : t.val + 1 < 16) (hk9 : t.val + 9 < 16) (hk2 : t.val + 2 < 16) :
    bigSep J (St Wq Wo c (t.val + 1)) = iprop(pair (Done Wq Wo c) (sl t 1 hk1) ∗ pair (Done Wq Wo c) (sl t 9 hk9) ∗ pair (Fly (F := F) c) (sl t 2 hk2) ∗ bigSep (((J.erase (sl t 1 hk1)).erase (sl t 9 hk9)).erase (sl t 2 hk2)) (St Wq Wo c (t.val + 1))) := by
  rw [bigSep_erase (i := (sl t 1 hk1)) (by rw [J_mem]; show ¬ t.val + 1 = 0; omega), bigSep_erase (i := (sl t 9 hk9)) (Finset.mem_erase.mpr ⟨fun e => by have := congrArg Fin.val e; have : t.val + 9 = t.val + 1 := this; omega, (by rw [J_mem]; show ¬ t.val + 9 = 0; omega)⟩), bigSep_erase (i := (sl t 2 hk2)) (Finset.mem_erase.mpr ⟨fun e => by have := congrArg Fin.val e; have : t.val + 2 = t.val + 9 := this; omega, (Finset.mem_erase.mpr ⟨fun e => by have := congrArg Fin.val e; have : t.val + 2 = t.val + 1 := this; omega, (by rw [J_mem]; show ¬ t.val + 2 = 0; omega)⟩)⟩)]
  rw [St_done Wq Wo c (t.val + 1) (sl t 1 hk1) (by rw [(show hop (sl t 1 hk1).val = _ from hop_one t (by omega))]; omega), St_done Wq Wo c (t.val + 1) (sl t 9 hk9) (by rw [(show hop (sl t 9 hk9).val = _ from hop_nine t)]; omega), St_fly Wq Wo c (t.val + 1) (sl t 2 hk2) (show hop (sl t 2 hk2).val = _ from hop_two t (by omega))]
  rfl

theorem rest_b : ∀ j ∈ ((J.erase 7).erase 15).erase 8, hop j.val ≠ 6 ∧ hop j.val ≠ 7 := by decide +kernel
theorem st_rest_b (c : Dev nD) (t : Fin k0_t1_loop.trips) (h : t.val = 6) (hk1 : t.val + 1 < 16) (hk9 : t.val + 9 < 16) (hk2 : t.val + 2 < 16) :
    bigSep (((J.erase (sl t 1 hk1)).erase (sl t 9 hk9)).erase (sl t 2 hk2)) (St Wq Wo c t.val) = bigSep (((J.erase (sl t 1 hk1)).erase (sl t 9 hk9)).erase (sl t 2 hk2)) (St Wq Wo c (t.val + 1)) := bigSep_congr fun j hj =>
  have hj' : hop j.val ≠ t.val ∧ hop j.val ≠ t.val + 1 := by
    obtain ⟨t, ht⟩ := t; obtain rfl : t = 6 := h; exact rest_b j hj
  St_same Wq Wo c t.val j hj'.1 hj'.2

theorem st_open_c (c : Dev nD) (t : Fin k0_t1_loop.trips) (h : t.val = 7) (hk1 : t.val + 1 < 16) :
    bigSep J (St Wq Wo c (t.val)) = iprop(pair (Fly (F := F) c) (sl t 1 hk1) ∗ bigSep (J.erase (sl t 1 hk1)) (St Wq Wo c (t.val))) := by
  rw [bigSep_erase (i := (sl t 1 hk1)) (by rw [J_mem]; show ¬ t.val + 1 = 0; omega)]
  rw [St_fly Wq Wo c (t.val) (sl t 1 hk1) (show hop (sl t 1 hk1).val = _ from hop_one t (by omega))]
  rfl

theorem st_close_c (c : Dev nD) (t : Fin k0_t1_loop.trips) (h : t.val = 7) (hk1 : t.val + 1 < 16) :
    bigSep J (St Wq Wo c (t.val + 1)) = iprop(pair (Done Wq Wo c) (sl t 1 hk1) ∗ bigSep (J.erase (sl t 1 hk1)) (St Wq Wo c (t.val + 1))) := by
  rw [bigSep_erase (i := (sl t 1 hk1)) (by rw [J_mem]; show ¬ t.val + 1 = 0; omega)]
  rw [St_done Wq Wo c (t.val + 1) (sl t 1 hk1) (by rw [(show hop (sl t 1 hk1).val = _ from hop_one t (by omega))]; omega)]
  rfl

theorem rest_c : ∀ j ∈ J.erase 8, hop j.val ≠ 7 ∧ hop j.val ≠ 8 := by decide +kernel
theorem st_rest_c (c : Dev nD) (t : Fin k0_t1_loop.trips) (h : t.val = 7) (hk1 : t.val + 1 < 16) :
    bigSep (J.erase (sl t 1 hk1)) (St Wq Wo c t.val) = bigSep (J.erase (sl t 1 hk1)) (St Wq Wo c (t.val + 1)) := bigSep_congr fun j hj =>
  have hj' : hop j.val ≠ t.val ∧ hop j.val ≠ t.val + 1 := by
    obtain ⟨t, ht⟩ := t; obtain rfl : t = 7 := h; exact rest_c j hj
  St_same Wq Wo c t.val j hj'.1 hj'.2

/-- The output before trip `t`, from `y0` before the first. -/
def acc (x : S2x256x512.Idx → Elt F .bf16) (Kx Vx : S64x2x256x64.Idx → Elt F .bf16) (c : Dev nD) (y0 : S2x256x512.Idx → Elt F .f32) : ℕ → S2x256x512.Idx → Elt F .f32
  | 0 => y0
  | t + 1 =>
    if t < 7 then stp Wq Wo x Kx Vx (org c (t + 9)) (stp Wq Wo x Kx Vx (org c (t + 1)) (acc x Kx Vx c y0 t))
    else stp Wq Wo x Kx Vx (org c (t + 1)) (acc x Kx Vx c y0 t)

theorem acc_lt (x : S2x256x512.Idx → Elt F .bf16) (Kx Vx : S64x2x256x64.Idx → Elt F .bf16) (c : Dev nD) (y0 : S2x256x512.Idx → Elt F .f32) (t : ℕ) (h : t < 7) :
    acc Wq Wo x Kx Vx c y0 (t + 1) = stp Wq Wo x Kx Vx (org c (t + 9)) (stp Wq Wo x Kx Vx (org c (t + 1)) (acc Wq Wo x Kx Vx c y0 t)) := if_pos h
theorem acc_ge (x : S2x256x512.Idx → Elt F .bf16) (Kx Vx : S64x2x256x64.Idx → Elt F .bf16) (c : Dev nD) (y0 : S2x256x512.Idx → Elt F .f32) (t : ℕ) (h : ¬ t < 7) :
    acc Wq Wo x Kx Vx c y0 (t + 1) = stp Wq Wo x Kx Vx (org c (t + 1)) (acc Wq Wo x Kx Vx c y0 t) := if_neg h

/-- What stands before trip `t`. -/
def Inv (K : GSem nD τ sig → ℕ) (c : Dev nD) (x : S2x256x512.Idx → Elt F .bf16) (Kx Vx : S64x2x256x64.Idx → Elt F .bf16) (y0 : S2x256x512.Idx → Elt F .f32) (t : ℕ) (_ : Unit) : sProp 𝕄 :=
  iprop(records Wq Wo K ∗ levAts L lv ∗ ins c x Kx Vx ∗ py c (acc Wq Wo x Kx Vx c y0 t) ∗ (∃ W, owes (c : Thread nD τ) (OW c (TT t)) W) ∗ bigSep J (St Wq Wo c t))

set_option maxHeartbeats 1000000 in
theorem run_trip (K : GSem nD τ sig → ℕ) (c : Dev nD) (x : S2x256x512.Idx → Elt F .bf16) (Kx Vx : S64x2x256x64.Idx → Elt F .bf16) (y0 : S2x256x512.Idx → Elt F .f32) {h0 : xM.IsWhole} {h1 : qM.IsWhole} {h2 : oM.IsWhole} {h3 : kM.IsWhole} {h4 : vM.IsWhole} {h5 : yM.IsWhole} {h6 : aM.IsWhole} {h7 : bM.IsWhole}
    (v2 v4 v7 : BitVec 32) (v133 : FVec F S256x512 .bf16) (v224 : FVec F S256x256 .bf16) (v225 : FVec F S256x256 .bf16) (v246 : FVec F S256x64 .bf16) (v267 : FVec F S256x64 .bf16) (v280 : FVec F S256x1 .f32) (v281 : FVec F S256x256 .bf16) (v284 : FVec F S256x64 .bf16) (cst : FVec F S256x64 .f32) (t : Fin k0_t1_loop.trips) (u : Unit) :
    Inv Wq Wo K c x Kx Vx y0 t.val u
      ⊢ wp frame (wpE defs₀ 𝒱₀ (c : Thread nD τ) none) Set.univ (k0_t1_body xM h0 qM h1 oM h2 kM h3 vM h4 yM h5 aM h6 bM h7 cc0_scratch2 cc0_scratch3 cc0_scratch4 cc0_scratch5 c v2 v4 v7 bias v133 v224 v225 v246 v267 v280 v281 v284 cst t u) (Inv Wq Wo K c x Kx Vx y0 (t.val + 1)) := by
  have htr := trips
  have hlt := t.isLt
  have hk1 : t.val + 1 < 16 := by omega
  have hk2 : t.val + 2 < 16 := by omega
  have hk9 : t.val + 9 < 17 := by omega
  unfold Inv
  by_cases h6 : t.val < 6
  · have hk9 : t.val + 9 < 16 := by omega
    have hk10 : t.val + 10 < 16 := by omega
    rw [st_open_a Wq Wo c t h6 hk1 hk9 hk2 hk10, st_rest_a Wq Wo c t h6 hk1 hk9 hk2 hk10, st_close_a Wq Wo c t h6 hk1 hk9 hk2 hk10, acc_lt Wq Wo x Kx Vx c y0 t.val (by omega)]
    iintro ⟨#HI, #Hlev, Hins, Hy, HO, Hf1, Hf9, Hf2, Hf10, Hrest⟩
    iapply (trip_a Wq Wo K c x Kx Vx _ v2 v4 v7 v133 v224 v225 v246 v267 v280 v281 v284 cst t h6 hk1 hk9 hk2 hk10) $$ [Hins Hy HO Hf1 Hf9 Hf2 Hf10]
    · isplitr; · iexact HI
      isplitr; · iexact Hlev
      isplitl [Hins]; · iexact Hins
      isplitl [Hy]; · iexact Hy
      isplitl [HO]; · iexact HO
      isplitl [Hf1]; · iexact Hf1
      isplitl [Hf9]; · iexact Hf9
      isplitl [Hf2]; · iexact Hf2
      iexact Hf10
    iintro ⟨HO, Hins, Hy, Hf1, Hf9, Hf2, Hf10⟩
    isplitr; · iexact HI
    isplitr; · iexact Hlev
    isplitl [Hins]; · iexact Hins
    isplitl [Hy]; · iexact Hy
    isplitl [HO]; · iexact HO
    isplitl [Hf1]; · iexact Hf1
    isplitl [Hf9]; · iexact Hf9
    isplitl [Hf2]; · iexact Hf2
    isplitl [Hf10]; · iexact Hf10
    iexact Hrest
  by_cases he : t.val = 6
  · have hk9 : t.val + 9 < 16 := by omega
    rw [st_open_b Wq Wo c t he hk1 hk9 hk2, st_rest_b Wq Wo c t he hk1 hk9 hk2, st_close_b Wq Wo c t he hk1 hk9 hk2, acc_lt Wq Wo x Kx Vx c y0 t.val (by omega)]
    iintro ⟨#HI, #Hlev, Hins, Hy, HO, Hf1, Hf9, Hf2, Hrest⟩
    iapply (trip_b Wq Wo K c x Kx Vx _ v2 v4 v7 v133 v224 v225 v246 v267 v280 v281 v284 cst t he hk1 hk9 hk2) $$ [Hins Hy HO Hf1 Hf9 Hf2]
    · isplitr; · iexact HI
      isplitr; · iexact Hlev
      isplitl [Hins]; · iexact Hins
      isplitl [Hy]; · iexact Hy
      isplitl [HO]; · iexact HO
      isplitl [Hf1]; · iexact Hf1
      isplitl [Hf9]; · iexact Hf9
      iexact Hf2
    iintro ⟨HO, Hins, Hy, Hf1, Hf9, Hf2⟩
    isplitr; · iexact HI
    isplitr; · iexact Hlev
    isplitl [Hins]; · iexact Hins
    isplitl [Hy]; · iexact Hy
    isplitl [HO]; · iexact HO
    isplitl [Hf1]; · iexact Hf1
    isplitl [Hf9]; · iexact Hf9
    isplitl [Hf2]; · iexact Hf2
    iexact Hrest
  · replace he : t.val = 7 := by omega
    rw [st_open_c Wq Wo c t he hk1, st_rest_c Wq Wo c t he hk1, st_close_c Wq Wo c t he hk1, acc_ge Wq Wo x Kx Vx c y0 t.val (by omega)]
    iintro ⟨#HI, #Hlev, Hins, Hy, HO, Hf1, Hrest⟩
    iapply (trip_c Wq Wo K c x Kx Vx _ v2 v4 v7 v133 v224 v225 v246 v267 v280 v281 v284 cst t he hk1) $$ [Hins Hy HO Hf1]
    · isplitr; · iexact HI
      isplitr; · iexact Hlev
      isplitl [Hins]; · iexact Hins
      isplitl [Hy]; · iexact Hy
      isplitl [HO]; · iexact HO
      iexact Hf1
    iintro ⟨HO, Hins, Hy, Hf1⟩
    isplitr; · iexact HI
    isplitr; · iexact Hlev
    isplitl [Hins]; · iexact Hins
    isplitl [Hy]; · iexact Hy
    isplitl [HO]; · iexact HO
    isplitl [Hf1]; · iexact Hf1
    iexact Hrest

set_option maxHeartbeats 1000000 in
theorem run_part21 (K : GSem nD τ sig → ℕ) (c : Dev nD) (x : S2x256x512.Idx → Elt F .bf16) (Kx Vx : S64x2x256x64.Idx → Elt F .bf16) (y y0 : S2x256x512.Idx → Elt F .f32) {h0 : xM.IsWhole} {h1 : qM.IsWhole} {h2 : oM.IsWhole} {h3 : kM.IsWhole} {h4 : vM.IsWhole} {h5 : yM.IsWhole} {h6 : aM.IsWhole} {h7 : bM.IsWhole}
    (v2 v4 v7 : BitVec 32) (v133 : FVec F S256x512 .bf16) (v224 : FVec F S256x256 .bf16) (v225 : FVec F S256x256 .bf16) (v246 : FVec F S256x64 .bf16) (v267 : FVec F S256x64 .bf16) (v280 : FVec F S256x1 .f32) (v281 : FVec F S256x256 .bf16) (v284 : FVec F S256x64 .bf16) (cst : FVec F S256x64 .f32) (hy : k0_pay61 bias v133 v224 v225 v246 v267 v280 v281 v284 cst (blk Kx c 3 1) (blk Vx c 3 1) y = y0) (Q : PUnit → sProp 𝕄) :
    iprop(records Wq Wo K ∗ levAts L lv ∗ ins c x Kx Vx ∗ py c y ∗ (∃ W, owes (c : Thread nD τ) (OW c (TT 0)) W) ∗ bigSep J (St Wq Wo c 0))
      ⊢ iprop((ins c x Kx Vx ∗ py c (acc Wq Wo x Kx Vx c y0 8) ∗ (∃ W, owes (c : Thread nD τ) (OW c (TT 8)) W) ∗ bigSep J (St Wq Wo c 8) -∗ Q ⟨⟩)
        -∗ wp frame (wpE defs₀ 𝒱₀ (c : Thread nD τ) none) Set.univ (k0_part21 xM h0 qM h1 oM h2 kM h3 vM h4 yM h5 aM h6 bM h7 cc0_scratch2 cc0_scratch3 cc0_scratch4 cc0_scratch5 c v2 v4 v7 bias v133 v224 v225 v246 v267 v280 v281 v284 cst) Q) := by
  rw [k0_part21_eq_skeleton]
  unfold k0_part21_skel
  simp only [Prog.lift, Prog.bind_op, Prog.bind_ret, Prog.pure_eq_ret, Prog.bind_assoc]
  unfold ins
  iintro ⟨#HI, #Hlev, ⟨Hx, Hk, Hv⟩, Hy, HO, HS⟩ HQ
  iapply (loadK _ c (e := c) (h := 3) (b := 1) (off2_eq c 3)) $$ Hk; iintro Hk
  iapply (loadV _ c (e := c) (h := 3) (b := 1) (off2_eq c 3)) $$ Hv; iintro Hv
  iapply (loadY _ c) $$ Hy; iintro Hy
  iapply (loadY _ c) $$ Hy; iintro Hy
  iapply (storeY _ c) $$ Hy; iintro Hy
  rw [hy]
  rw [wp_bind]
  iapply (Scf.wp_for _ _ _ k0_t1_loop.lb k0_t1_loop.ub k0_t1_loop.st k0_t1_ok _ _ (Inv Wq Wo K c x Kx Vx y0)
    (fun t u => run_trip Wq Wo K c x Kx Vx y0 v2 v4 v7 v133 v224 v225 v246 v267 v280 v281 v284 cst t u))
  unfold Inv
  isplitl [Hx Hk Hv Hy HO HS]
  · isplitr; · iexact HI
    isplitr; · iexact Hlev
    isplitl [Hx Hk Hv]
    · unfold ins
      isplitl [Hx]; · iexact Hx
      isplitl [Hk]; · iexact Hk
      iexact Hv
    isplitl [Hy]; · iexact Hy
    isplitl [HO]; · iexact HO
    iexact HS
  iintro %u ⟨-, -, Hins, Hy, HO, HS⟩
  rw [wp_ret]; imodintro; iapply HQ
  rw [show Scf.trips k0_t1_loop.lb k0_t1_loop.ub k0_t1_loop.st = 8 from trips]
  unfold ins
  isplitl [Hins]; · iexact Hins
  isplitl [Hy]; · iexact Hy
  isplitl [HO]; · iexact HO
  iexact HS

end Cert.KernelIdeal.Ring

end
-- ==== Proof.KI.Close.lean ====
/- The two buffers split into slots and whole again; every transfer's resources, listed by transfer and by landing slot; the
   cells closed. -/
module

public import proofs.«01_k».proof.Proof.KI.Loop
public import Idealize.ShloMosaic.Lib.Rounds.Family

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Wq : Dev nD → S1x512x256.Idx → Elt F .bf16) (Wo : Dev nD → S1x256x512.Idx → Elt F .bf16)

/-! ## The transfers by landing slot -/

omit [FloatOps F] [Named F] in
theorem live_pair (Φ : Tr → sProp 𝕄) : bigSep live Φ = bigSep J (pair Φ) := by
  rw [show live = J.map ⟨fun j => ((false, j) : Tr), fun _ _ h => (Prod.mk.inj h).2⟩ ∪ J.map ⟨fun j => ((true, j) : Tr), fun _ _ h => (Prod.mk.inj h).2⟩ from by decide +kernel,
    bigSep_union (by decide +kernel), bigSep_map, bigSep_map]
  show iprop((bigSep J fun j => Φ (false, j)) ∗ bigSep J fun j => Φ (true, j)) = bigSep J fun j => iprop(Φ (false, j) ∗ Φ (true, j))
  rw [bigSep_sep']

/-- The transfers' names that stand for no transfer. -/
def dead : Finset Tr := Finset.univ.filter fun p => p.2 = 0

def inEmb (x : Bool) : Tr ↪ Bool × Tr := ⟨fun p => (x, p), fun _ _ h => (Prod.mk.inj h).2⟩

omit [FloatOps F] [Named F] in
/-- A family over both cells of every transfer's name. -/
theorem cells_split (Φ : Bool × Tr → sProp 𝕄) : bigSep Finset.univ Φ
    = iprop((bigSep live (fun p => Φ (false, p)) ∗ bigSep live (fun p => Φ (true, p)))
      ∗ (bigSep dead (fun p => Φ (false, p)) ∗ bigSep dead (fun p => Φ (true, p)))) := by
  rw [show (Finset.univ : Finset (Bool × Tr)) = (live.map (inEmb false) ∪ live.map (inEmb true)) ∪ (dead.map (inEmb false) ∪ dead.map (inEmb true)) from by decide +kernel,
    bigSep_union (by decide +kernel), bigSep_union (by decide +kernel), bigSep_union (by decide +kernel), bigSep_map, bigSep_map, bigSep_map, bigSep_map]
  rfl

/-! ## Before the first trip -/

omit [FloatOps F] [Named F] in
theorem st_first (c : Dev nD) : bigSep J (St Wq Wo c 0) = iprop(pair (Fly (F := F) c) 1 ∗ pair (Fly (F := F) c) 9 ∗ bigSep ((J.erase 1).erase 9) (pair (Todo (F := F) c))) := by
  rw [bigSep_erase (i := (1 : Fin 16)) (by decide), bigSep_erase (i := (9 : Fin 16)) (by decide),
    St_fly Wq Wo c 0 1 (by decide), St_fly Wq Wo c 0 9 (by decide),
    bigSep_congr (s := (J.erase 1).erase 9) fun j hj => St_todo Wq Wo c 0 j ((by decide : ∀ j ∈ (J.erase 1).erase 9, 0 < hop j.val) j hj)]
  rfl
omit [FloatOps F] [Named F] in
theorem todo_first (c : Dev nD) : bigSep live (Todo (F := F) c)
    = iprop(pair (Todo (F := F) c) 1 ∗ pair (Todo (F := F) c) 9 ∗ bigSep ((J.erase 1).erase 9) (pair (Todo (F := F) c))) := by
  rw [live_pair, bigSep_erase (i := (1 : Fin 16)) (by decide), bigSep_erase (i := (9 : Fin 16)) (by decide)]
  rfl

/-! ## Slots -/

theorem slotSet_disj (b : Bool) : ∀ k ∈ (Finset.univ : Finset (Fin 16)), ∀ k' ∈ (Finset.univ : Finset (Fin 16)), k ≠ k' → Disjoint (slotSet b k.val) (slotSet b k'.val) := by
  intro k _ k' _ h
  cases b
  · exact Finset.disjoint_filter.mpr fun i _ h1 h2 => h (Fin.ext (h1.symm.trans h2))
  · exact Finset.disjoint_filter.mpr fun i _ h1 h2 => h (Fin.ext (h1.symm.trans h2))
theorem slotSet_all (b : Bool) : ∀ i : (scr b).ty.Idx, ∃ k : Fin 16, i ∈ slotSet b k.val := by
  cases b
  · exact fun i => ⟨i 0, Finset.mem_filter.mpr ⟨Finset.mem_univ _, rfl⟩⟩
  · exact fun i => ⟨i 0, Finset.mem_filter.mpr ⟨Finset.mem_univ _, rfl⟩⟩

/-- A whole buffer. -/
def buf (c : Dev nD) (b : Bool) (f : (scr b).ty.Contents (Elt F)) : sProp 𝕄 := ((c : Thread nD τ).loc (scr b)) ↦[Finset.univ]{fullShare} f

omit [FloatOps F] [Named F] in
theorem parts_generic (ℓ : Loc nD τ sig) (S : Fin 16 → Finset (Idx ℓ))
    (h : ∀ k ∈ (Finset.univ : Finset (Fin 16)), ∀ k' ∈ (Finset.univ : Finset (Fin 16)), k ≠ k' → Disjoint (S k) (S k'))
    (hu : ∀ i, ∃ k, i ∈ S k) (f : Buf (Elt F) ℓ) :
    (ℓ ↦[Finset.univ]{fullShare} f : sProp 𝕄) = bigSep Finset.univ fun k => ℓ ↦[S k]{fullShare} f := by
  have e : (Finset.univ : Finset (Fin 16)).biUnion S = Finset.univ :=
    Finset.eq_univ_iff_forall.mpr fun i => (hu i).elim fun k hk => Finset.mem_biUnion.mpr ⟨k, Finset.mem_univ _, hk⟩
  rw [← e]; exact pointsTo_biUnion Finset.univ S h

omit [FloatOps F] [Named F] in
theorem buf_slots (c : Dev nD) (b : Bool) (f : (scr b).ty.Contents (Elt F)) :
    buf c b f = bigSep Finset.univ fun k : Fin 16 => pts c b k.val fullShare f := by
  unfold buf pts
  exact parts_generic ((c : Thread nD τ).loc (scr b)) (fun k : Fin 16 => slotSet b k.val) (slotSet_disj b) (slotSet_all b) f

omit [FloatOps F] [Named F] in
theorem buf_zero (c : Dev nD) (b : Bool) (f : (scr b).ty.Contents (Elt F)) :
    buf c b f = iprop(pts c b 0 fullShare f ∗ bigSep J fun k : Fin 16 => pts c b k.val fullShare f) := by
  rw [buf_slots, bigSep_erase (i := (0 : Fin 16)) (Finset.mem_univ _)]
  rfl

omit [FloatOps F] [Named F] in
theorem join (c : Dev nD) (b : Bool) (k : ℕ) (q : PosShare TreeShare) (f : (scr b).ty.Contents (Elt F)) :
    iprop(pts c b k q.left f ∗ pts c b k q.right f) ⊢ (pts c b k q f : sProp 𝕄) := ((pts_halves c b k q f) : _ ⊣⊢ _).2

omit [FloatOps F] [Named F] in
theorem lent_list (c : Dev nD) (b : Bool) (f : (scr b).ty.Contents (Elt F)) :
    (bigSep J (fun k => pts c b (src k.val) (lent k.val) f) : sProp 𝕄) = iprop(pts c b 0 fullShare.left f ∗ pts c b 1 fullShare.left f ∗ pts c b 2 fullShare.left f ∗ pts c b 3 fullShare.left f ∗ pts c b 4 fullShare.left f ∗ pts c b 5 fullShare.left f ∗ pts c b 6 fullShare.left f ∗ pts c b 7 fullShare.left f ∗ pts c b 0 fullShare.right.left f ∗ pts c b 9 fullShare.left f ∗ pts c b 10 fullShare.left f ∗ pts c b 11 fullShare.left f ∗ pts c b 12 fullShare.left f ∗ pts c b 13 fullShare.left f ∗ pts c b 14 fullShare.left f) := by
  rw [bigSep_eq_bigSepL_of_eq [1, 2, 3, 4, 5, 6, 7, 8, 9, 10, 11, 12, 13, 14, 15] (by decide) (by decide)]
  rfl
omit [FloatOps F] [Named F] in
theorem keep_list (c : Dev nD) (b : Bool) (f : (scr b).ty.Contents (Elt F)) :
    (bigSep J (fun k => pts c b k.val (keep k.val) f) : sProp 𝕄) = iprop(pts c b 1 fullShare.right f ∗ pts c b 2 fullShare.right f ∗ pts c b 3 fullShare.right f ∗ pts c b 4 fullShare.right f ∗ pts c b 5 fullShare.right f ∗ pts c b 6 fullShare.right f ∗ pts c b 7 fullShare.right f ∗ pts c b 8 fullShare f ∗ pts c b 9 fullShare.right f ∗ pts c b 10 fullShare.right f ∗ pts c b 11 fullShare.right f ∗ pts c b 12 fullShare.right f ∗ pts c b 13 fullShare.right f ∗ pts c b 14 fullShare.right f ∗ pts c b 15 fullShare f) := by
  rw [bigSep_eq_bigSepL_of_eq [1, 2, 3, 4, 5, 6, 7, 8, 9, 10, 11, 12, 13, 14, 15] (by decide) (by decide)]
  rfl
omit [FloatOps F] [Named F] in
theorem full_list (c : Dev nD) (b : Bool) (f : (scr b).ty.Contents (Elt F)) :
    (bigSep Finset.univ (fun k : Fin 16 => pts c b k.val fullShare f) : sProp 𝕄) = iprop(pts c b 0 fullShare f ∗ pts c b 1 fullShare f ∗ pts c b 2 fullShare f ∗ pts c b 3 fullShare f ∗ pts c b 4 fullShare f ∗ pts c b 5 fullShare f ∗ pts c b 6 fullShare f ∗ pts c b 7 fullShare f ∗ pts c b 8 fullShare f ∗ pts c b 9 fullShare f ∗ pts c b 10 fullShare f ∗ pts c b 11 fullShare f ∗ pts c b 12 fullShare f ∗ pts c b 13 fullShare f ∗ pts c b 14 fullShare f ∗ pts c b 15 fullShare f) := by
  rw [bigSep_eq_bigSepL_of_eq [0, 1, 2, 3, 4, 5, 6, 7, 8, 9, 10, 11, 12, 13, 14, 15] (by decide) (by decide)]
  rfl

omit [FloatOps F] [Named F] in
/-- At the end: what was lent, what was kept, and the quarter of slot 0 never lent, make the whole buffer. -/
theorem buf_again (c : Dev nD) (b : Bool) (f : (scr b).ty.Contents (Elt F)) :
    iprop((bigSep J fun k => pts c b (src k.val) (lent k.val) f) ∗ (bigSep J fun k => pts c b k.val (keep k.val) f) ∗ pts c b 0 fullShare.right.right f)
      ⊢ (buf c b f : sProp 𝕄) := by
  rw [lent_list, keep_list, buf_slots, full_list]
  iintro ⟨⟨L1, L2, L3, L4, L5, L6, L7, L8, L9, L10, L11, L12, L13, L14, L15⟩, ⟨K1, K2, K3, K4, K5, K6, K7, K8, K9, K10, K11, K12, K13, K14, K15⟩, H0⟩
  ihave Hq := (join c b 0 fullShare.right f) $$ [L9 H0]
  · isplitl [L9] <;> iassumption
  isplitl [L1 Hq]
  · iapply (join c b 0 fullShare f); isplitl [L1] <;> iassumption
  isplitl [L2 K1]
  · iapply (join c b 1 fullShare f); isplitl [L2] <;> iassumption
  isplitl [L3 K2]
  · iapply (join c b 2 fullShare f); isplitl [L3] <;> iassumption
  isplitl [L4 K3]
  · iapply (join c b 3 fullShare f); isplitl [L4] <;> iassumption
  isplitl [L5 K4]
  · iapply (join c b 4 fullShare f); isplitl [L5] <;> iassumption
  isplitl [L6 K5]
  · iapply (join c b 5 fullShare f); isplitl [L6] <;> iassumption
  isplitl [L7 K6]
  · iapply (join c b 6 fullShare f); isplitl [L7] <;> iassumption
  isplitl [L8 K7]
  · iapply (join c b 7 fullShare f); isplitl [L8] <;> iassumption
  isplitl [K8]; · iexact K8
  isplitl [L10 K9]
  · iapply (join c b 9 fullShare f); isplitl [L10] <;> iassumption
  isplitl [L11 K10]
  · iapply (join c b 10 fullShare f); isplitl [L11] <;> iassumption
  isplitl [L12 K11]
  · iapply (join c b 11 fullShare f); isplitl [L12] <;> iassumption
  isplitl [L13 K12]
  · iapply (join c b 12 fullShare f); isplitl [L13] <;> iassumption
  isplitl [L14 K13]
  · iapply (join c b 13 fullShare f); isplitl [L14] <;> iassumption
  isplitl [L15 K14]
  · iapply (join c b 14 fullShare f); isplitl [L15] <;> iassumption
  iexact K15

/-! ## Closing -/

/-- The round at which a device's cells end: the used ones past their round, the others at the start. -/
def endR (x : Bool × Tr) : ℕ := if x.2.2 = 0 then 0 else 1

abbrev cellAt (c : Dev nD) (x : Bool × Tr) : GSem nD τ sig := ((c : Thread nD τ), .dma (scI x))

theorem close_all (K : GSem nD τ sig → ℕ) (c : Dev nD) :
    iprop(records Wq Wo K ∗ bigSep Finset.univ fun x : Bool × Tr => atPos ER (cellAt c x) (endR x) ∅ 0)
      ⊢ (|={Set.univ}=> bigSep Finset.univ fun x : Bool × Tr => semVal (cellAt c x) 0 : sProp 𝕄) := by
  refine BIBase.Entails.trans ?_ (Rounds.cells_close ER (Rd Wq Wo) Finset.univ (fun x => cellAt c x) (fun x => K (cellAt c x)) (fun _ _ => Set.mem_univ _)
    (fun _ _ h => h) endR ?_)
  · rw [bigSep_sep']
    refine sep_mono ?_ .rfl
    refine bigSep_intro_persistent fun x _ => inv_at Wq Wo K (Finset.mem_union_right _ (Finset.mem_map_of_mem scEmb (Finset.mem_univ (c, x))))
  · rintro ⟨b, p⟩ -
    unfold endR
    by_cases hp : p.2 = 0
    · rw [if_pos hp]; cases b
      · exact duties_send0 Wq Wo c p hp
      · exact duties_recv0 Wq Wo c p hp
    · rw [if_neg hp]; exact duties_later Wq Wo _

theorem close_bar (K : GSem nD τ sig → ℕ) (c : Dev nD) :
    iprop(records Wq Wo K ∗ atPos ER (barC c) 1 ∅ 0) ⊢ (|={Set.univ}=> semVal (barC c) 0 : sProp 𝕄) :=
  (sep_mono (inv_at Wq Wo K (bar_mem c)) .rfl).trans
    (Rounds.cell_close ER (Rd Wq Wo) (Set.mem_univ _) (fun h => h) (duties_later Wq Wo _))

omit [FloatOps F] [Named F] in
theorem done_split (c : Dev nD) : bigSep live (Done Wq Wo c) =
    iprop((bigSep live fun p => atPos ER (sendC c p) 1 ∅ 0) ∗ (bigSep live fun p => atPos ER (recvC c p) 1 ∅ 0)
      ∗ (bigSep live fun p => sendPay Wq Wo c p) ∗ bigSep live fun p => pts c p.1 p.2.val (keep p.2.val) (all Wq Wo c p.1)) := by
  unfold Done
  rw [bigSep_sep', bigSep_sep', bigSep_sep']

/-- All a device has after the loop, but the output: every counter back at zero, both buffers whole. -/
theorem finish (K : GSem nD τ sig → ℕ) (c : Dev nD) :
    iprop(records Wq Wo K ∗ bigSep J (St Wq Wo c 8) ∗ (bigSep dead fun p => atPos ER (sendC c p) 0 ∅ 0) ∗ (bigSep dead fun p => atPos ER (recvC c p) 0 ∅ 0)
        ∗ atPos ER (barC c) 1 ∅ 0 ∗ pts c false 0 fullShare.right.right (allA Wq c) ∗ pts c true 0 fullShare.right.right (allB Wo c))
      ⊢ (|={Set.univ}=> iprop((bigSep Finset.univ fun x : Bool × Tr => semVal (cellAt c x) 0) ∗ semVal (barC c) 0
          ∗ buf c false (all Wq Wo c false) ∗ buf c true (all Wq Wo c true)) : sProp 𝕄) := by
  rw [show (pts c false 0 fullShare.right.right (allA Wq c) : sProp 𝕄) = pts c false 0 fullShare.right.right (all Wq Wo c false) from rfl,
    show (pts c true 0 fullShare.right.right (allB Wo c) : sProp 𝕄) = pts c true 0 fullShare.right.right (all Wq Wo c true) from rfl]
  rw [bigSep_congr (s := J) fun j _ => St_done Wq Wo c 8 j ((by decide : ∀ j : Fin 16, hop j.val < 8) j), ← live_pair, done_split]
  unfold sendPay
  rw [live_pair (fun p => pts c p.1 (src p.2.val) (lent p.2.val) (all Wq Wo c p.1)), live_pair (fun p => pts c p.1 p.2.val (keep p.2.val) (all Wq Wo c p.1))]
  unfold pair
  rw [bigSep_sep', bigSep_sep']
  iintro ⟨#HI, ⟨Hs, Hr, ⟨HlA, HlB⟩, ⟨HkA, HkB⟩⟩, Hds, Hdr, Hb, H0A, H0B⟩
  imod (close_bar Wq Wo K c) $$ [Hb] with Hb
  · isplitr; · iexact HI
    iexact Hb
  imod (close_all Wq Wo K c) $$ [Hs Hr Hds Hdr] with Hc
  · isplitr; · iexact HI
    rw [cells_split, bigSep_congr (s := live) fun p hp => show (atPos ER (cellAt c (false, p)) (endR (false, p)) ∅ 0 : sProp 𝕄) = atPos ER (sendC c p) 1 ∅ 0 from by
        rw [show endR (false, p) = 1 from if_neg (Finset.mem_filter.mp hp).2]; rfl,
      bigSep_congr (s := live) fun p hp => show (atPos ER (cellAt c (true, p)) (endR (true, p)) ∅ 0 : sProp 𝕄) = atPos ER (recvC c p) 1 ∅ 0 from by
        rw [show endR (true, p) = 1 from if_neg (Finset.mem_filter.mp hp).2]; rfl,
      bigSep_congr (s := dead) fun p hp => show (atPos ER (cellAt c (false, p)) (endR (false, p)) ∅ 0 : sProp 𝕄) = atPos ER (sendC c p) 0 ∅ 0 from by
        rw [show endR (false, p) = 0 from if_pos (Finset.mem_filter.mp hp).2]; rfl,
      bigSep_congr (s := dead) fun p hp => show (atPos ER (cellAt c (true, p)) (endR (true, p)) ∅ 0 : sProp 𝕄) = atPos ER (recvC c p) 0 ∅ 0 from by
        rw [show endR (true, p) = 0 from if_pos (Finset.mem_filter.mp hp).2]; rfl]
    isplitl [Hs Hr]
    · isplitl [Hs] <;> iassumption
    isplitl [Hds] <;> iassumption
  imodintro
  isplitl [Hc]; · iexact Hc
  isplitl [Hb]; · iexact Hb
  isplitl [HlA HkA H0A]
  · iapply (buf_again c false (all Wq Wo c false))
    isplitl [HlA]; · iexact HlA
    isplitl [HkA] <;> iassumption
  · iapply (buf_again c true (all Wq Wo c true))
    isplitl [HlB]; · iexact HlB
    isplitl [HkB] <;> iassumption

end Cert.KernelIdeal.Ring

end
-- ==== Proof.KI.Init.lean ====
/- The body before the first compute: the result cleared, the device's own weights put into slot 0, the first transfers started. -/
module

public import proofs.«01_k».proof.Proof.KI.Comm
public import proofs.«01_k».proof.Proof.KI.Loads

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Wq : Dev nD → S1x512x256.Idx → Elt F .bf16) (Wo : Dev nD → S1x256x512.Idx → Elt F .bf16)

theorem TT_zero : ((((live.erase (false, 1)).erase (true, 1)).erase (false, 9)).erase (true, 9)) = TT 0 := by decide +kernel

omit [FloatOps F] [Named F] in
/-- Slot 0 in full lends the half that the first transfer to the right reads. -/
theorem slot0_rightA (c : Dev nD) :
    pts c false 0 fullShare (allA Wq c) ⊢ iprop(sendPay Wq Wo c (false, 1) ∗ pts c false 0 fullShare.right (allA Wq c)) :=
  (pts_halves c false 0 fullShare _ : _ ⊣⊢ _).1
omit [FloatOps F] [Named F] in
/-- Of the other half, a half again for the first transfer to the left. -/
theorem slot0_leftA (c : Dev nD) :
    pts c false 0 fullShare.right (allA Wq c) ⊢ iprop(sendPay Wq Wo c (false, 9) ∗ pts c false 0 fullShare.right.right (allA Wq c)) :=
  (pts_halves c false 0 fullShare.right _ : _ ⊣⊢ _).1

omit [FloatOps F] [Named F] in
/-- Slot 0 in full lends the half that the first transfer to the right reads. -/
theorem slot0_rightB (c : Dev nD) :
    pts c true 0 fullShare (allB Wo c) ⊢ iprop(sendPay Wq Wo c (true, 1) ∗ pts c true 0 fullShare.right (allB Wo c)) :=
  (pts_halves c true 0 fullShare _ : _ ⊣⊢ _).1
omit [FloatOps F] [Named F] in
/-- Of the other half, a half again for the first transfer to the left. -/
theorem slot0_leftB (c : Dev nD) :
    pts c true 0 fullShare.right (allB Wo c) ⊢ iprop(sendPay Wq Wo c (true, 9) ∗ pts c true 0 fullShare.right.right (allB Wo c)) :=
  (pts_halves c true 0 fullShare.right _ : _ ⊣⊢ _).1

theorem run_part14 (c : Dev nD) (y : S2x256x512.Idx → Elt F .f32) {h0 : xM.IsWhole} {h1 : qM.IsWhole} {h2 : oM.IsWhole} {h3 : kM.IsWhole} {h4 : vM.IsWhole} {h5 : yM.IsWhole} {h6 : aM.IsWhole} {h7 : bM.IsWhole} (v15 : IVec S256x256 32) (v34 : IVec S256x256 1)
    (Q : (Σ' (_ : FVec F S256x256 .f32), FVec F S2x256x512 .f32) → sProp 𝕄) :
    py c y ⊢ iprop((py c y -∗ Q ⟨k0_pay40 v15 v34, k0_pay41⟩)
      -∗ wp frame (wpE defs₀ 𝒱₀ (c : Thread nD τ) none) Set.univ (k0_part14 xM h0 qM h1 oM h2 kM h3 vM h4 yM h5 aM h6 bM h7 cc0_scratch2 cc0_scratch3 cc0_scratch4 cc0_scratch5 v15 v34) Q) := by
  rw [k0_part14_eq_skeleton]
  unfold k0_part14_skel
  simp only [Prog.lift, Prog.bind_op, Prog.bind_ret, Prog.pure_eq_ret]
  iintro Hy HQ
  iapply (loadY Q c) $$ Hy; iintro Hy
  rw [wp_ret]; imodintro; iapply HQ; iexact Hy

set_option maxHeartbeats 1000000 in
theorem run_part15 (K : GSem nD τ sig → ℕ) (c : Dev nD) (W : Waits sig Unit) (fq : S512x256.Idx → Elt F .bf16) (fo : S256x512.Idx → Elt F .bf16) (y z : S2x256x512.Idx → Elt F .f32)
    (hq : k0_pay42 fq = Wq c) (ho : k0_pay43 fo = Wo c) {h0 : xM.IsWhole} {h1 : qM.IsWhole} {h2 : oM.IsWhole} {h3 : kM.IsWhole} {h4 : vM.IsWhole} {h5 : yM.IsWhole} {h6 : aM.IsWhole} {h7 : bM.IsWhole} (v4 v7 : BitVec 32) (Q : PUnit → sProp 𝕄) :
    iprop(records Wq Wo K ∗ pq c fq ∗ po c fo ∗ py c y ∗ (∃ f, pts c false 0 fullShare f) ∗ (∃ f, pts c true 0 fullShare f) ∗ todoS (F := F) c (false, 1)
        ∗ owes (c : Thread nD τ) (OW c live) W)
      ⊢ iprop((pq c fq ∗ po c fo ∗ py c z ∗ pts c false 0 fullShare.right (allA Wq c) ∗ pts c true 0 fullShare (allB Wo c) ∗ flyS (F := F) c (false, 1)
            ∗ owes (c : Thread nD τ) (OW c (live.erase (false, 1))) W -∗ Q ⟨⟩)
        -∗ wp frame (wpE defs₀ 𝒱₀ (c : Thread nD τ) none) Set.univ (k0_part15 xM h0 qM h1 oM h2 kM h3 vM h4 yM h5 aM h6 bM h7 cc0_scratch2 cc0_scratch3 cc0_scratch4 cc0_scratch5 c v4 v7 z) Q) := by
  rw [k0_part15_eq_skeleton]
  unfold k0_part15_skel
  simp only [Prog.lift, Prog.bind_op, Prog.bind_ret, Prog.pure_eq_ret]
  iintro ⟨#HI, Hq, Ho, Hy, ⟨%fa, HA⟩, ⟨%fb, HB⟩, Ht, HO⟩ HQ
  iapply (storeY Q c (w := z)) $$ Hy; iintro Hy
  iapply (loadWq Q c) $$ Hq; iintro Hq
  iapply (peekA Q c (j := 0) (by decide)) $$ HA; iintro HA
  iapply (putA Q Wq c (j := 0) (by decide) (hq.trans (congrArg Wq (org_zero c).symm))) $$ HA; iintro HA
  iapply (loadWo Q c) $$ Ho; iintro Ho
  iapply (peekB Q c (j := 0) (by decide)) $$ HB; iintro HB
  iapply (putB Q Wo c (j := 0) (by decide) (ho.trans (congrArg Wo (org_zero c).symm))) $$ HB; iintro HB
  ihave HA := (slot0_rightA Wq Wo c) $$ HA
  icases HA with ⟨HsA, HA⟩
  iapply (startA Wq Wo Q _ K c (1 : Fin 16) (by decide) (T := live) (by decide +kernel) (semA_send (1 : Fin 16) (by decide) (by decide)) (semA_recv (1 : Fin 16) (by decide))
      (d := ⟨k0_dev3 c, _⟩) (Fin.ext ((dev3_eq c).trans (congrArg Fin.val (dst_rt c (1 : Fin 16) (by decide)).symm)))
      (by decide) (by decide)) $$ [Ht HsA HO]
  · isplitr; · iexact HI
    isplitl [Ht]; · iexact Ht
    isplitl [HsA]; · iexact HsA
    iexact HO
  iintro ⟨Hf, HO⟩
  rw [wp_ret]; imodintro; iapply HQ
  isplitl [Hq]; · iexact Hq
  isplitl [Ho]; · iexact Ho
  isplitl [Hy]; · iexact Hy
  isplitl [HA]; · iexact HA
  isplitl [HB]; · iexact HB
  isplitl [Hf]; · iexact Hf
  iexact HO

set_option maxHeartbeats 1000000 in
theorem run_part16 (K : GSem nD τ sig → ℕ) (c : Dev nD) (W : Waits sig Unit) {h0 : xM.IsWhole} {h1 : qM.IsWhole} {h2 : oM.IsWhole} {h3 : kM.IsWhole} {h4 : vM.IsWhole} {h5 : yM.IsWhole} {h6 : aM.IsWhole} {h7 : bM.IsWhole} (v4 v7 : BitVec 32) (Q : (Σ' (_ : FVec F S512x256 .bf16), Vec F S1x256x512 .bf16) → sProp 𝕄) :
    iprop(records Wq Wo K ∗ pts c false 0 fullShare.right (allA Wq c) ∗ pts c true 0 fullShare (allB Wo c) ∗ todoS (F := F) c (true, 1) ∗ todoS (F := F) c (false, 9)
        ∗ todoS (F := F) c (true, 9) ∗ owes (c : Thread nD τ) (OW c (live.erase (false, 1))) W)
      ⊢ iprop((pts c false 0 fullShare.right.right (allA Wq c) ∗ pts c true 0 fullShare.right.right (allB Wo c) ∗ flyS (F := F) c (true, 1) ∗ flyS (F := F) c (false, 9)
            ∗ flyS (F := F) c (true, 9) ∗ owes (c : Thread nD τ) (OW c (TT 0)) W -∗ Q ⟨k0_pay44 (Wq c), Wo c⟩)
        -∗ wp frame (wpE defs₀ 𝒱₀ (c : Thread nD τ) none) Set.univ (k0_part16 xM h0 qM h1 oM h2 kM h3 vM h4 yM h5 aM h6 bM h7 cc0_scratch2 cc0_scratch3 cc0_scratch4 cc0_scratch5 c v4 v7) Q) := by
  rw [k0_part16_eq_skeleton]
  unfold k0_part16_skel
  simp only [Prog.lift, Prog.bind_op, Prog.bind_ret, Prog.pure_eq_ret]
  iintro ⟨#HI, HA, HB, Ht1, Ht2, Ht3, HO⟩ HQ
  ihave HB := (slot0_rightB Wq Wo c) $$ HB
  icases HB with ⟨HsB, HB⟩
  iapply (startB Wq Wo Q _ K c (1 : Fin 16) (by decide) (T := (live.erase (false, 1))) (by decide +kernel) (semB_send (1 : Fin 16) (by decide) (by decide)) (semB_recv (1 : Fin 16) (by decide))
      (d := ⟨k0_dev4 c, _⟩) (Fin.ext ((dev4_eq c).trans (congrArg Fin.val (dst_rt c (1 : Fin 16) (by decide)).symm)))
      (by decide) (by decide)) $$ [Ht1 HsB HO]
  · isplitr; · iexact HI
    isplitl [Ht1]; · iexact Ht1
    isplitl [HsB]; · iexact HsB
    iexact HO
  iintro ⟨Hf1, HO⟩
  ihave HA := (slot0_leftA Wq Wo c) $$ HA
  icases HA with ⟨HsA, HA⟩
  iapply (startA Wq Wo Q _ K c (9 : Fin 16) (by decide) (T := ((live.erase (false, 1)).erase (true, 1))) (by decide +kernel) (semA_send (9 : Fin 16) (by decide) (by decide)) (semA_recv (9 : Fin 16) (by decide))
      (d := ⟨k0_dev5 c, _⟩) (Fin.ext ((dev5_eq c).trans (congrArg Fin.val (dst_lf c (9 : Fin 16) (by decide)).symm)))
      (by decide) (by decide)) $$ [Ht2 HsA HO]
  · isplitr; · iexact HI
    isplitl [Ht2]; · iexact Ht2
    isplitl [HsA]; · iexact HsA
    iexact HO
  iintro ⟨Hf2, HO⟩
  ihave HB := (slot0_leftB Wq Wo c) $$ HB
  icases HB with ⟨HsB, HB⟩
  iapply (startB Wq Wo Q _ K c (9 : Fin 16) (by decide) (T := (((live.erase (false, 1)).erase (true, 1)).erase (false, 9))) (by decide +kernel) (semB_send (9 : Fin 16) (by decide) (by decide)) (semB_recv (9 : Fin 16) (by decide))
      (d := ⟨k0_dev6 c, _⟩) (Fin.ext ((dev6_eq c).trans (congrArg Fin.val (dst_lf c (9 : Fin 16) (by decide)).symm)))
      (by decide) (by decide)) $$ [Ht3 HsB HO]
  · isplitr; · iexact HI
    isplitl [Ht3]; · iexact Ht3
    isplitl [HsB]; · iexact HsB
    iexact HO
  iintro ⟨Hf3, HO⟩
  iapply (loadA Q Wq c (j := 0) (by decide)) $$ HA; iintro HA
  iapply (loadB Q Wo c (j := 0) (by decide)) $$ HB; iintro HB
  rw [wp_ret]; imodintro; rw [TT_zero]; rw [org_zero]; iapply HQ
  isplitl [HA]; · iexact HA
  isplitl [HB]; · iexact HB
  isplitl [Hf1]; · iexact Hf1
  isplitl [Hf2]; · iexact Hf2
  isplitl [Hf3]; · iexact Hf3
  iexact HO

end Cert.KernelIdeal.Ring

end
-- ==== Proof.KI.Body.lean ====
/- The kernel's body at one device, whole: what it starts from, what it ends with. -/
module

public import proofs.«01_k».proof.Proof.KI.Close
public import proofs.«01_k».proof.Proof.KI.Init
public import proofs.«01_k».proof.Proof.KI.Barrier

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Wq : Dev nD → S1x512x256.Idx → Elt F .bf16) (Wo : Dev nD → S1x256x512.Idx → Elt F .bf16)

/-- A device's ghost state once its cells are open. -/
def opened (K : GSem nD τ sig → ℕ) (c : Dev nD) : sProp 𝕄 :=
  iprop(records Wq Wo K ∗ dutyTok ER (barC (lf c)) 0 true ∗ dutyTok ER (barC (rt c)) 0 false ∗ atPos ER (barC c) 0 ∅ 0
    ∗ (bigSep live fun p => dutyTok ER (sendC c p) 0 true) ∗ (bigSep live fun p => dutyTok ER (recvC (dst p.2.val c) p) 0 true)
    ∗ bigSep Finset.univ fun x : Bool × Tr => iprop(atPos ER (cellAt c x) 0 ∅ 0 ∗ reached ER (cellAt c x) 0))

/-- The credit a device waits with. -/
def creds (c : Dev nD) : sProp 𝕄 :=
  iprop(cred (tallyAt (barC c) () 2) ∗ bigSep live fun p => cred (tallyAt (recvC c p) () (N p.1)))

/-- The output a device ends with. -/
def outv (x : S2x256x512.Idx → Elt F .bf16) (Kx Vx : S64x2x256x64.Idx → Elt F .bf16) (c : Dev nD) : S2x256x512.Idx → Elt F .f32 :=
  acc Wq Wo x Kx Vx c (stp Wq Wo x Kx Vx c k0_pay41) 8

theorem live_slots (c : Dev nD) (b : Bool) (f : (scr b).ty.Contents (Elt F)) :
    (bigSep J fun k => pts c b k.val fullShare f : sProp 𝕄) ⊢ bigSep J fun k => iprop(∃ f, pts c b k.val fullShare f) :=
  bigSep_mono fun k _ => by
    change BIBase.Entails (PROP := sProp 𝕄) _ _
    iintro H; iexists f; iexact H

/-- What the body ends with. -/
def post (fq : S512x256.Idx → Elt F .bf16) (fo : S256x512.Idx → Elt F .bf16) (x : S2x256x512.Idx → Elt F .bf16) (Kx Vx : S64x2x256x64.Idx → Elt F .bf16) (c : Dev nD) : sProp 𝕄 :=
  iprop((bigSep Finset.univ fun x : Bool × Tr => semVal (cellAt c x) 0) ∗ semVal (barC c) 0 ∗ (∃ f, buf (F := F) c false f) ∗ (∃ f, buf (F := F) c true f)
    ∗ px c x ∗ pq c fq ∗ po c fo ∗ pk c Kx ∗ pv c Vx ∗ py c (outv Wq Wo x Kx Vx c) ∗ ∃ W, owes (c : Thread nD τ) (0 : CellTallies nD τ sig Unit) W)

/-- The state of every transfer before the barrier. -/
theorem start_split (K : GSem nD τ sig → ℕ) (c : Dev nD) :
    iprop((bigSep live fun p => dutyTok ER (sendC c p) 0 true) ∗ (bigSep live fun p => dutyTok ER (recvC (dst p.2.val c) p) 0 true)
      ∗ (bigSep Finset.univ fun x : Bool × Tr => iprop(atPos ER (cellAt c x) 0 ∅ 0 ∗ reached ER (cellAt c x) 0))
      ∗ (bigSep live fun p => cred (tallyAt (recvC c p) () (N p.1))) ∗ (∃ f, buf (F := F) c false f) ∗ (∃ f, buf (F := F) c true f))
    ⊢ (iprop((bigSep live fun p => vacant (F := F) c p) ∗ (bigSep live fun p => rcv (F := F) c p)
      ∗ (bigSep live fun p => iprop(dutyTok ER (sendC c p) 0 true ∗ dutyTok ER (recvC (dst p.2.val c) p) 0 true ∗ (atPos ER (sendC c p) 0 ∅ 0 ∗ reached ER (sendC c p) 0)))
      ∗ (bigSep dead fun p => atPos ER (sendC c p) 0 ∅ 0) ∗ (bigSep dead fun p => atPos ER (recvC c p) 0 ∅ 0)
      ∗ (∃ f, pts (F := F) c false 0 fullShare f) ∗ (∃ f, pts (F := F) c true 0 fullShare f)) : sProp 𝕄) := by
  unfold rcv vacant
  simp only [cells_split, bigSep_sep']
  rw [live_pair (fun p => iprop(∃ f, pts (F := F) c p.1 p.2.val fullShare f))]
  unfold pair
  rw [bigSep_sep']
  iintro ⟨Hts, Htr, ⟨⟨⟨Has, Har⟩, ⟨Hds, Hdr⟩⟩, ⟨⟨Hrs, Hrr⟩, -⟩⟩, Hc, ⟨%fA, HA⟩, ⟨%fB, HB⟩⟩
  ihave HA := (Entails.of_eq (buf_zero c false fA)) $$ HA
  ihave HB := (Entails.of_eq (buf_zero c true fB)) $$ HB
  icases HA with ⟨HA0, HA⟩
  icases HB with ⟨HB0, HB⟩
  ihave HA := (live_slots c false fA) $$ HA
  ihave HB := (live_slots c true fB) $$ HB
  isplitl [HA HB Hrr]
  · isplitl [HA HB]
    · isplitl [HA]
      · iexact HA
      · iexact HB
    · iexact Hrr
  isplitl [Har Hc]
  · isplitl [Har]; · iexact Har
    iexact Hc
  isplitl [Hts Htr Has Hrs]
  · isplitl [Hts]; · iexact Hts
    isplitl [Htr]; · iexact Htr
    isplitl [Has]; · iexact Has
    iexact Hrs
  isplitl [Hds]; · iexact Hds
  isplitl [Hdr]; · iexact Hdr
  isplitl [HA0]; · iexists fA; iexact HA0
  iexists fB; iexact HB0

theorem todo_make (c : Dev nD) :
    iprop((bigSep live fun p => rcv (F := F) c p) ∗ (bigSep live fun p => vacant (F := F) (dst p.2.val c) p)
      ∗ (bigSep live fun p => iprop(dutyTok ER (sendC c p) 0 true ∗ dutyTok ER (recvC (dst p.2.val c) p) 0 true ∗ (atPos ER (sendC c p) 0 ∅ 0 ∗ reached ER (sendC c p) 0))))
    ⊢ (bigSep live (Todo (F := F) c) : sProp 𝕄) := by
  rw [← bigSep_sep', ← bigSep_sep']
  refine bigSep_mono fun p _ => ?_
  unfold Todo todoS
  change BIBase.Entails (PROP := sProp 𝕄) _ _
  iintro ⟨Hr, Hv, H1, H2, H3⟩
  isplitr [Hr]
  · isplitl [H1]; · iexact H1
    isplitl [H2]; · iexact H2
    isplitl [H3] <;> iassumption
  · iexact Hr

theorem todo_open (c : Dev nD) : bigSep live (Todo (F := F) c) ⊢ (iprop(((todoS (F := F) c (false, 1) ∗ rcv (F := F) c (false, 1)) ∗ (todoS (F := F) c (true, 1) ∗ rcv (F := F) c (true, 1)))
      ∗ ((todoS (F := F) c (false, 9) ∗ rcv (F := F) c (false, 9)) ∗ (todoS (F := F) c (true, 9) ∗ rcv (F := F) c (true, 9)))
      ∗ bigSep ((J.erase 1).erase 9) (pair (Todo (F := F) c))) : sProp 𝕄) :=
  Entails.of_eq (todo_first c)
theorem st_make (c : Dev nD) : (iprop(((flyS (F := F) c (false, 1) ∗ rcv (F := F) c (false, 1)) ∗ (flyS (F := F) c (true, 1) ∗ rcv (F := F) c (true, 1)))
      ∗ ((flyS (F := F) c (false, 9) ∗ rcv (F := F) c (false, 9)) ∗ (flyS (F := F) c (true, 9) ∗ rcv (F := F) c (true, 9)))
      ∗ bigSep ((J.erase 1).erase 9) (pair (Todo (F := F) c))) : sProp 𝕄) ⊢ bigSep J (St Wq Wo c 0) :=
  Entails.of_eq (st_first Wq Wo c).symm

set_option maxHeartbeats 2000000 in
theorem run_body (K : GSem nD τ sig → ℕ) (c : Dev nD) (W : Waits sig Unit) (fq : S512x256.Idx → Elt F .bf16) (fo : S256x512.Idx → Elt F .bf16)
    (x : S2x256x512.Idx → Elt F .bf16) (Kx Vx : S64x2x256x64.Idx → Elt F .bf16) (y : S2x256x512.Idx → Elt F .f32)
    (hq : k0_pay42 fq = Wq c) (ho : k0_pay43 fo = Wo c)
    {h0 : xM.IsWhole} {h1 : qM.IsWhole} {h2 : oM.IsWhole} {h3 : kM.IsWhole} {h4 : vM.IsWhole} {h5 : yM.IsWhole} {h6 : aM.IsWhole} {h7 : bM.IsWhole} (Q : PUnit → sProp 𝕄) :
    iprop((opened Wq Wo K c ∗ creds c ∗ levAts L lv ∗ (∃ f, buf (F := F) c false f) ∗ (∃ f, buf (F := F) c true f)
        ∗ px c x ∗ pq c fq ∗ po c fo ∗ pk c Kx ∗ pv c Vx ∗ py c y ∗ owes (c : Thread nD τ) (O₀ c) W) ∗ (post Wq Wo fq fo x Kx Vx c -∗ Q ⟨⟩))
      ⊢ wp frame (wpE defs₀ 𝒱₀ (c : Thread nD τ) none) Set.univ (cc0_body xM h0 qM h1 oM h2 kM h3 vM h4 yM h5 aM h6 bM h7 cc0_scratch2 cc0_scratch3 cc0_scratch4 cc0_scratch5) Q := by
  rw [cc0_body_eq_skeleton]
  unfold cc0_body_skel opened creds
  simp only [Prog.pure_eq_ret]
  iintro ⟨⟨⟨#HI, HtL, HtR, Hbar, Hts, Htr, Hcells⟩, ⟨Hcb, Hcr⟩, #Hlev, HA, HB, Hx, Hq, Ho, Hk, Hv, Hy, HO⟩, HQ⟩
  ihave Hst := (start_split K c) $$ [Hts Htr Hcells Hcr HA HB]
  · isplitl [Hts]; · iexact Hts
    isplitl [Htr]; · iexact Htr
    isplitl [Hcells]; · iexact Hcells
    isplitl [Hcr]; · iexact Hcr
    isplitl [HA] <;> iassumption
  icases Hst with ⟨Hvac, Hrcv, Hmine, Hds, Hdr, HA, HB⟩
  rw [wp_bind]
  iapply (run_part13 Wq Wo K c W) $$ [HtL HtR Hvac Hbar Hcb HO]
  · isplitr; · iexact HI
    isplitr; · iexact Hlev
    isplitl [HtL]; · iexact HtL
    isplitl [HtR]; · iexact HtR
    isplitl [Hvac]; · iexact Hvac
    isplitl [Hbar]; · iexact Hbar
    isplitl [Hcb] <;> iassumption
  iintro %v2 %v4 %v7 ⟨⟨%W1, HO⟩, Hbar, Hvac⟩
  ihave Htodo := (todo_make c) $$ [Hrcv Hvac Hmine]
  · isplitl [Hrcv]; · iexact Hrcv
    isplitl [Hvac] <;> iassumption
  ihave Htodo := (todo_open c) $$ Htodo
  icases Htodo with ⟨⟨⟨HsA1, HrA1⟩, ⟨HsB1, HrB1⟩⟩, ⟨⟨HsA9, HrA9⟩, ⟨HsB9, HrB9⟩⟩, Hrest⟩
  simp only []
  rw [wp_bind]
  iapply (run_part14 c y) $$ Hy; iintro Hy; simp only []
  rw [wp_bind]
  iapply (run_part15 Wq Wo K c W1 fq fo y k0_pay41 hq ho) $$ [Hq Ho Hy HA HB HsA1 HO]
  · isplitr; · iexact HI
    isplitl [Hq]; · iexact Hq
    isplitl [Ho]; · iexact Ho
    isplitl [Hy]; · iexact Hy
    isplitl [HA]; · iexact HA
    isplitl [HB]; · iexact HB
    isplitl [HsA1] <;> iassumption
  iintro ⟨Hq, Ho, Hy, HA, HB, HfA1, HO⟩
  rw [wp_bind]
  iapply (run_part16 Wq Wo K c W1) $$ [HA HB HsB1 HsA9 HsB9 HO]
  · isplitr; · iexact HI
    isplitl [HA]; · iexact HA
    isplitl [HB]; · iexact HB
    isplitl [HsB1]; · iexact HsB1
    isplitl [HsA9]; · iexact HsA9
    isplitl [HsB9] <;> iassumption
  iintro ⟨HA, HB, HfB1, HfA9, HfB9, HO⟩
  simp only []
  ihave Hins := (show iprop(px c x ∗ pk c Kx ∗ pv c Vx) ⊢ ins c x Kx Vx from .rfl) $$ [Hx Hk Hv]
  · isplitl [Hx]; · iexact Hx
    isplitl [Hk] <;> iassumption
  rw [wp_bind]
  iapply (run_part17 c x Kx Vx) $$ Hins; iintro Hins; simp only []
  rw [wp_bind]
  iapply (run_part18 c x Kx Vx) $$ Hins; iintro Hins; simp only []
  rw [wp_bind]
  iapply (run_part19 c x Kx Vx) $$ Hins; iintro Hins; simp only []
  rw [wp_bind]
  iapply (run_part20 c x Kx Vx) $$ Hins; iintro Hins; simp only []
  rw [wp_bind]
  iapply (run_part21 Wq Wo K c x Kx Vx k0_pay41 (stp Wq Wo x Kx Vx c k0_pay41) _ _ _ _ _ _ _ _ _ _ _ _
    (comp_first x (Wq c) (Wo c) (blk Kx c) (blk Vx c) k0_pay41)) $$ [Hins Hy HO HfA1 HrA1 HfB1 HrB1 HfA9 HrA9 HfB9 HrB9 Hrest]
  · isplitr; · iexact HI
    isplitr; · iexact Hlev
    isplitl [Hins]; · iexact Hins
    isplitl [Hy]; · iexact Hy
    isplitl [HO]; · iexists W1; iexact HO
    iapply (st_make Wq Wo c)
    isplitl [HfA1 HrA1 HfB1 HrB1]
    · isplitl [HfA1 HrA1]
      · isplitl [HfA1] <;> iassumption
      · isplitl [HfB1] <;> iassumption
    isplitl [HfA9 HrA9 HfB9 HrB9]
    · isplitl [HfA9 HrA9]
      · isplitl [HfA9] <;> iassumption
      · isplitl [HfB9] <;> iassumption
    iexact Hrest
  iintro ⟨Hins, Hy, ⟨%W2, HO⟩, Hst⟩
  rw [wp_ret]
  imod (finish Wq Wo K c) $$ [Hst Hds Hdr Hbar HA HB] with ⟨Hc, Hb, HA, HB⟩
  · isplitr; · iexact HI
    isplitl [Hst]; · iexact Hst
    isplitl [Hds]; · iexact Hds
    isplitl [Hdr]; · iexact Hdr
    isplitl [Hbar]; · iexact Hbar
    isplitl [HA] <;> iassumption
  imodintro
  iapply HQ
  unfold post outv ins
  icases Hins with ⟨Hx, Hk, Hv⟩
  isplitl [Hc]; · iexact Hc
  isplitl [Hb]; · iexact Hb
  isplitl [HA]; · iexists _; iexact HA
  isplitl [HB]; · iexists _; iexact HB
  isplitl [Hx]; · iexact Hx
  isplitl [Hq]; · iexact Hq
  isplitl [Ho]; · iexact Ho
  isplitl [Hk]; · iexact Hk
  isplitl [Hv]; · iexact Hv
  isplitl [Hy]; · iexact Hy
  iexists W2
  rw [show (0 : CellTallies nD τ sig Unit) = OW c (TT 8) from by
    unfold OW; rw [show TT 8 = ∅ from by decide +kernel, Finset.sum_empty]]
  iexact HO

end Cert.KernelIdeal.Ring

end
-- ==== Proof.KI.LaunchA.lean ====
/- The region as the pipeline runs it: what each window is fetched with and left with, and the body's obligation at its one
   point. -/
module

public import proofs.«01_k».proof.Proof.KI.Body
public import proofs.«01_k».proof.Proof.Gen.KernelIdeal.Launch
public import proofs.«01_k».proof.Proof.Gen.KernelIdeal.Regions
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-- What the windows of device `c` are fetched with. -/
def xs (c : Dev nD) : S2x256x512.Idx → Elt F .bf16 := (win0_0.blk t0_0).view.read (Elt F) (V1 m c main_arg0)
def qs (c : Dev nD) : S512x256.Idx → Elt F .bf16 := (win0_1.blk t0_0).view.read (Elt F) (V1 m c main_v6)
def os (c : Dev nD) : S256x512.Idx → Elt F .bf16 := (win0_2.blk t0_0).view.read (Elt F) (V1 m c main_arg4)
def ks (c : Dev nD) : S64x2x256x64.Idx → Elt F .bf16 := (win0_3.blk t0_0).view.read (Elt F) (V1 m c main_v17)
def vs (c : Dev nD) : S64x2x256x64.Idx → Elt F .bf16 := (win0_4.blk t0_0).view.read (Elt F) (V1 m c main_v18)

/-- Every device's weights, as it sends them round. -/
def wq (c : Dev nD) : S1x512x256.Idx → Elt F .bf16 := k0_pay42 (qs m c)
def wo (c : Dev nD) : S1x256x512.Idx → Elt F .bf16 := k0_pay43 (os m c)

/-- The output. -/
def ys (c : Dev nD) : S2x256x512.Idx → Elt F .f32 := outv (wq m) (wo m) (xs m c) (ks m c) (vs m c) c

def Xk (c : Dev nD) : sProp 𝕄 := iprop((∃ K, opened (wq m) (wo m) K c) ∗ creds (F := F) c ∗ levAts L lv)
def Yc (c : Dev nD) : sProp 𝕄 := bigSep Finset.univ fun x : Bool × Tr => semVal (cellAt c x) 0
def Yk (c : Dev nD) : sProp 𝕄 := semVal (barC c) 0
def scrAny (c : Dev nD) : sProp 𝕄 := iprop((∃ f, buf (F := F) c false f) ∗ (∃ f, buf (F := F) c true f))

def dat0 (c : Dev nD) : Dat τ (Elt F) Unit ℕ UU ℕ cfg0 c where
  A w := V1 m c (Proc.devRef .tc (Pipeline.arrRef spec0 w))
  after w _ := match w with
    | ⟨0, _⟩ => xs m c
    | ⟨1, _⟩ => qs m c
    | ⟨2, _⟩ => os m c
    | ⟨3, _⟩ => ks m c
    | ⟨4, _⟩ => vs m c
    | ⟨5, _⟩ => ys m c
  Φ t := if t.val = 0 then iprop(Xk m c ∗ scrAny (F := F) c ∗ ∃ r, prngReg c r)
    else iprop((Yc (F := F) c ∗ Yk (F := F) c) ∗ scrAny (F := F) c ∗ ∃ r, prngReg c r)
  q _ := fullShare
  owed t := if t.val = 0 then O₀ c else 0

def pdats : (p : Fin 1) → (c : Dev nD) → Dat τ (Elt F) Unit ℕ UU ℕ (Pipeline.pin (pcfgs (F := F)) adm p) c
  | 0 => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed (Fin.castSucc t0_0 : Fin (cfg0.N + 1)) = O₀ c := by
  show (if ((Fin.castSucc t0_0 : Fin (cfg0.N + 1))).val = 0 then O₀ c else 0) = O₀ c; exact if_pos rfl
theorem owed_succ (c : Dev nD) : (dat0 (F := F) m c).owed (Fin.succ t0_0 : Fin (cfg0.N + 1)) = 0 := by
  show (if ((Fin.succ t0_0 : Fin (cfg0.N + 1))).val = 0 then O₀ c else 0) = 0; exact if_neg (by decide)
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem before_0 (c : Dev nD) (d) : (dat0 m c).before (0 : Fin 6) t0_0 d = xs m c := by
  unfold Dat.before; rw [if_pos (fetch0_0 t0_0)]; rfl
theorem before_1 (c : Dev nD) (d) : (dat0 m c).before (1 : Fin 6) t0_0 d = qs m c := by
  unfold Dat.before; rw [if_pos (fetch0_1 t0_0)]; rfl
theorem before_2 (c : Dev nD) (d) : (dat0 m c).before (2 : Fin 6) t0_0 d = os m c := by
  unfold Dat.before; rw [if_pos (fetch0_2 t0_0)]; rfl
theorem before_3 (c : Dev nD) (d) : (dat0 m c).before (3 : Fin 6) t0_0 d = ks m c := by
  unfold Dat.before; rw [if_pos (fetch0_3 t0_0)]; rfl
theorem before_4 (c : Dev nD) (d) : (dat0 m c).before (4 : Fin 6) t0_0 d = vs m c := by
  unfold Dat.before; rw [if_pos (fetch0_4 t0_0)]; rfl

theorem owesAt_put (c : Dev nD) (t : Fin (cfg0.N + 1)) (O : CellTallies nD τ sig Unit) (h0 : (dat0 (F := F) m c).owed t = O) (W : Waits sig Unit) :
    (owes (c : Thread nD τ) O W : sProp 𝕄) ⊢ ((dat0 m c).owesAt () t : sProp 𝕄) := by
  unfold Dat.owesAt Pipeline.owesWithin Dat.bound; rw [h0, show (dat0 (F := F) m c).recorded t = Set.univ from rfl]
  iintro HO; iexists W; isplitr; · ipureintro; exact fun _ _ => Or.inl trivial
  iexact HO
theorem owesAt_take (c : Dev nD) (t : Fin (cfg0.N + 1)) (O : CellTallies nD τ sig Unit) (h0 : (dat0 (F := F) m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((Xk m c ∗ scrAny (F := F) c ∗ ∃ r, prngReg c r) ∗ (dat0 m c).owesAt () (Fin.castSucc t0_0)
    ∗ (∃ d, stg c cc0_stg0_0 ((dat0 m c).before (0 : Fin 6) t0_0 d)) ∗ (∃ d, stg c cc0_stg1_0 ((dat0 m c).before (1 : Fin 6) t0_0 d))
    ∗ (∃ d, stg c cc0_stg2_0 ((dat0 m c).before (2 : Fin 6) t0_0 d)) ∗ (∃ d, stg c cc0_stg3_0 ((dat0 m c).before (3 : Fin 6) t0_0 d))
    ∗ (∃ d, stg c cc0_stg4_0 ((dat0 m c).before (4 : Fin 6) t0_0 d)) ∗ (∃ d, stg c cc0_stg5_0 ((dat0 m c).before (5 : Fin 6) t0_0 d)))
def bodyPost (c : Dev nD) : sProp 𝕄 :=
  iprop(((Yc (F := F) c ∗ Yk (F := F) c) ∗ scrAny (F := F) c ∗ ∃ r, prngReg c r) ∗ (dat0 m c).owesAt () (Fin.succ t0_0)
    ∗ stg c cc0_stg0_0 (xs m c) ∗ stg c cc0_stg1_0 (qs m c) ∗ stg c cc0_stg2_0 (os m c) ∗ stg c cc0_stg3_0 (ks m c) ∗ stg c cc0_stg4_0 (vs m c)
    ∗ stg c cc0_stg5_0 (ys m c))

theorem body_sound (c : Dev nD) : bodyPre m c ⊢ wp frame (wpE defs₀ 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5)
    (fun _ => bodyPost m c) := by
  unfold bodyPre Xk scrAny
  simp only [before_0, before_1, before_2, before_3, before_4]
  iintro ⟨⟨⟨⟨%K, HK⟩, Hcr, #Hlev⟩, ⟨HA, HB⟩, Hp⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  subst e0 e1 e2 e3 e4
  ihave HO := (owesAt_take m c _ _ (owed_first m c)) $$ HO
  icases HO with ⟨%W, HO⟩
  iapply (run_body (wq m) (wo m) K c W (qs m c) (os m c) (xs m c) (ks m c) (vs m c) f5 rfl rfl (fun _ => bodyPost m c))
  isplitr [Hp]
  · isplitl [HK]; · iexact HK
    isplitl [Hcr]; · iexact Hcr
    isplitr; · iexact Hlev
    isplitl [HA]; · iexact HA
    isplitl [HB]; · iexact HB
    isplitl [H0]; · unfold px; iexact H0
    isplitl [H1]; · unfold pq; iexact H1
    isplitl [H2]; · unfold po; iexact H2
    isplitl [H3]; · unfold pk; iexact H3
    isplitl [H4]; · unfold pv; iexact H4
    isplitl [H5]; · unfold py; iexact H5
    iexact HO
  unfold post bodyPost Yc Yk scrAny px pq po pk pv py
  iintro ⟨Hc, Hb, HA, HB, H0, H1, H2, H3, H4, H5, ⟨%W', HO⟩⟩
  isplitl [Hc Hb HA HB Hp]
  · isplitl [Hc Hb]
    · isplitl [Hc] <;> iassumption
    isplitl [HA HB]
    · isplitl [HA] <;> iassumption
    iexact Hp
  isplitl [HO]; · iapply (owesAt_put m c _ 0 (owed_succ m c) W'); iexact HO
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr; · ipureintro; rfl
  iexact H5

set_option maxRecDepth 4000 in
theorem body_obligation (c : Dev nD) : BodyObligation (dat0 (F := F) m c) defs₀ 𝒱₀ () Set.univ := fun t => by
  rw [fin_N0 t]
  rw [bigSep_W0, bigSep_W0]
  simp only [owns_whole_eq]
  exact body_sound m c

end Cert.KernelIdeal.Ring

end
-- ==== Proof.KI.LaunchB.lean ====
/- The tokens and the credit each device starts with. -/
module

public import proofs.«01_k».proof.Proof.KI.LaunchA
public import Idealize.ShloMosaic.Lib.Rounds.Family

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The tokens -/

/-- Both duties of every barrier cell. -/
def barToks : Finset (GSem nD τ sig × ℕ × Bool) :=
  Finset.univ.map ⟨fun x : Dev nD × Bool => (barC x.1, 0, x.2), fun _ _ h =>
    Prod.ext (congrArg (fun t : GSem nD τ sig × ℕ × Bool => t.1.1.1) h) (congrArg (fun t : GSem nD τ sig × ℕ × Bool => t.2.2) h)⟩
/-- The duty of every send and receive cell. -/
def scToks : Finset (GSem nD τ sig × ℕ × Bool) :=
  Finset.univ.map ⟨fun x : Dev nD × (Bool × Tr) => (cellAt x.1 x.2, 0, true), fun _ _ h =>
    scEmb.injective (congrArg (fun t : GSem nD τ sig × ℕ × Bool => t.1) h)⟩

theorem toks_disjoint : Disjoint barToks scToks := by
  rw [Finset.disjoint_left]
  rintro g h₁ h₂
  obtain ⟨x, -, rfl⟩ := Finset.mem_map.mp h₁
  obtain ⟨y, -, h⟩ := Finset.mem_map.mp h₂
  have e : (SemLoc.dma (scI y.2) : SemLoc sig) = .reg barS := congrArg (fun t : GSem nD τ sig × ℕ × Bool => t.1.2) h
  cases e

theorem cells_disjoint : Disjoint (barCells : Finset (GSem nD τ sig)) scCells := by
  rw [Finset.disjoint_left]
  rintro g h₁ h₂
  obtain ⟨c, -, rfl⟩ := Finset.mem_map.mp h₁
  obtain ⟨y, -, h⟩ := Finset.mem_map.mp h₂
  have e : (SemLoc.dma (scI y.2) : SemLoc sig) = .reg barS := congrArg Prod.snd h
  cases e

def lfE : Dev nD ≃ Dev nD := ⟨lf, rt, rt_lf, lf_rt⟩
def rtE : Dev nD ≃ Dev nD := ⟨rt, lf, lf_rt, rt_lf⟩
def dstE (k : ℕ) : Dev nD ≃ Dev nD := ⟨dst k, frm k, frm_dst k, dst_frm k⟩

/-- The tokens a device pays with. -/
def toks (c : Dev nD) : sProp 𝕄 :=
  iprop(dutyTok ER (barC (lf c)) 0 true ∗ dutyTok ER (barC (rt c)) 0 false
    ∗ (bigSep live fun p => dutyTok ER (sendC c p) 0 true) ∗ (bigSep live fun p => dutyTok ER (recvC (dst p.2.val c) p) 0 true))

/-- A family over devices and transfers, summed in either order. -/
theorem two_ways (T : Finset Tr) (Φ : Dev nD → Tr → sProp 𝕄) :
    (bigSep Finset.univ fun c => bigSep T fun p => Φ c p) = bigSep T fun p => bigSep Finset.univ fun c => Φ c p := by
  induction T using Finset.induction_on with
  | empty => simp only [BI.bigSep_empty]; exact BI.bigSep_emp_const _
  | insert p T hp ih =>
    rw [bigSep_congr (s := Finset.univ) fun c _ => bigSep_insert hp (Φ := Φ c), bigSep_insert hp, ← ih]
    exact bigSep_sep' ..

theorem union_split {α : Type} [DecidableEq α] {S T : Finset α} (h : Disjoint S T) (Φ : α → sProp 𝕄) :
    bigSep (S ∪ T) Φ ⊢ iprop(bigSep S Φ ∗ bigSep T Φ) := Entails.of_eq (bigSep_union h)

theorem bigSep_bool (Φ : Bool → sProp 𝕄) : bigSep Finset.univ Φ = iprop(Φ true ∗ Φ false) := by
  rw [show (Finset.univ : Finset Bool) = {true, false} from by decide, bigSep_insert (by decide), bigSep_singleton]
  rfl

theorem bar_around : bigSep barToks (fun x => (dutyTok ER x.1 x.2.1 x.2.2 : sProp 𝕄))
    = iprop((bigSep Finset.univ fun c : Dev nD => dutyTok ER (barC (lf c)) 0 true) ∗ bigSep Finset.univ fun c : Dev nD => dutyTok ER (barC (rt c)) 0 false) := by
  unfold barToks
  rw [bigSep_map, bigSep_univ_prod]
  change (bigSep Finset.univ fun c : Dev nD => bigSep Finset.univ fun b : Bool => (dutyTok ER (barC c) 0 b : sProp 𝕄)) = _
  rw [bigSep_congr (s := Finset.univ) fun c _ => bigSep_bool (fun b => (dutyTok ER (barC c) 0 b : sProp 𝕄)), bigSep_sep',
    bigSep_univ_equiv lfE (fun c : Dev nD => (dutyTok ER (barC c) 0 true : sProp 𝕄)),
    bigSep_univ_equiv rtE (fun c : Dev nD => (dutyTok ER (barC c) 0 false : sProp 𝕄))]
  rfl

theorem recv_around : (bigSep Finset.univ fun c : Dev nD => bigSep live fun p => (dutyTok ER (recvC c p) 0 true : sProp 𝕄))
    = bigSep Finset.univ fun c : Dev nD => bigSep live fun p => (dutyTok ER (recvC (dst p.2.val c) p) 0 true : sProp 𝕄) := by
  rw [two_ways, two_ways]
  exact bigSep_congr fun p _ => bigSep_univ_equiv (dstE p.2.val) (fun c : Dev nD => (dutyTok ER (recvC c p) 0 true : sProp 𝕄))

theorem sc_around : bigSep scToks (fun x => (dutyTok ER x.1 x.2.1 x.2.2 : sProp 𝕄))
    ⊢ iprop((bigSep Finset.univ fun c : Dev nD => bigSep live fun p => dutyTok ER (sendC c p) 0 true)
      ∗ bigSep Finset.univ fun c : Dev nD => bigSep live fun p => dutyTok ER (recvC (dst p.2.val c) p) 0 true) := by
  unfold scToks
  rw [bigSep_map, bigSep_univ_prod]
  change (bigSep Finset.univ fun c : Dev nD => bigSep Finset.univ fun x : Bool × Tr => (dutyTok ER (cellAt c x) 0 true : sProp 𝕄)) ⊢ _
  rw [bigSep_congr (s := Finset.univ) fun c _ => cells_split (fun x => (dutyTok ER (cellAt c x) 0 true : sProp 𝕄)), bigSep_sep', bigSep_sep', ← recv_around]
  iintro ⟨H, -⟩
  iexact H

theorem toks_deal : bigSep (barToks ∪ scToks) (fun x => (dutyTok ER x.1 x.2.1 x.2.2 : sProp 𝕄)) ⊢ bigSep Finset.univ (toks (F := F)) := by
  refine (union_split toks_disjoint _).trans ?_
  rw [bar_around]
  unfold toks
  rw [bigSep_sep', bigSep_sep', bigSep_sep']
  iintro ⟨⟨H1, H2⟩, H⟩
  ihave H := (sc_around (F := F)) $$ H
  icases H with ⟨H3, H4⟩
  isplitl [H1]; · iexact H1
  isplitl [H2]; · iexact H2
  isplitl [H3] <;> iassumption

/-! ## The launch credit -/

theorem lf_inj {c d : Dev nD} (h : lf c = lf d) : c = d := by rw [← rt_lf c, h, rt_lf]
theorem rt_inj {c d : Dev nD} (h : rt c = rt d) : c = d := by rw [← lf_rt c, h, lf_rt]

theorem OW_bar (d c : Dev nD) : OW d live (barC c) () = 0 := by
  by_contra h
  obtain ⟨p, -, hp⟩ := OW_apply_pos (Nat.pos_of_ne_zero h)
  have e : (SemLoc.reg barS : SemLoc sig) = .dma (recvI p) := congrArg Prod.snd hp
  cases e

theorem tally_bar (d c : Dev nD) : (tallyAt (barC d) () 1 : CellTallies nD τ sig Unit) (barC c) () = if c = d then 1 else 0 := by
  rw [tallyAt_apply]
  by_cases h : c = d
  · subst h; rw [if_pos ⟨rfl, rfl⟩, if_pos rfl]
  · rw [if_neg (fun ⟨h1, _⟩ => h (congrArg (fun g : GSem nD τ sig => g.1.1) h1)), if_neg h]

theorem owed_bar (d c : Dev nD) : O₀ d (barC c) () = (if d = lf c then 1 else 0) + (if d = rt c then 1 else 0) := by
  unfold O₀
  rw [Pi.add_apply, Pi.add_apply, Finsupp.add_apply, Finsupp.add_apply, OW_bar, tally_bar, tally_bar, Nat.zero_add]
  congr 1
  · exact if_congr ⟨fun h => by rw [h, lf_rt], fun h => by rw [h, rt_lf]⟩ rfl rfl
  · exact if_congr ⟨fun h => by rw [h, rt_lf], fun h => by rw [h, lf_rt]⟩ rfl rfl

theorem owed_recv (d c : Dev nD) (p : Tr) (hp : p ∈ live) : O₀ d (recvC c p) () = if d = frm p.2.val c then N p.1 else 0 := by
  unfold O₀
  have hb (e : Dev nD) : (tallyAt (barC e) () 1 : CellTallies nD τ sig Unit) (recvC c p) () = 0 := by
    rw [tallyAt_ne_cell (fun h => by have e : (SemLoc.dma (recvI p) : SemLoc sig) = .reg barS := congrArg Prod.snd h; cases e)]; rfl
  rw [Pi.add_apply, Pi.add_apply, Finsupp.add_apply, Finsupp.add_apply, hb, hb, Nat.add_zero]
  unfold OW
  rw [Finset.sum_apply, Finsupp.finset_sum_apply]
  rw [Finset.sum_eq_single p]
  · rw [tallyAt_apply]
    refine if_congr ⟨fun h => ?_, fun h => ?_⟩ rfl rfl
    · have e : c = dst p.2.val d := congrArg (fun g : GSem nD τ sig => g.1.1) h.1
      rw [e, frm_dst]
    · rw [h, dst_frm]; exact ⟨rfl, rfl⟩
  · intro q _ hq
    rw [tallyAt_apply, if_neg]
    rintro ⟨h, -⟩
    exact hq (recvI_inj (SemLoc.dma.inj (congrArg Prod.snd h))).symm
  · exact fun h => absurd hp h

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lf c) fun _ => 1, Finset.sum_ite_eq' Finset.univ (rt c) fun _ => 1,
    if_pos (Finset.mem_univ _), if_pos (Finset.mem_univ _)]

theorem launch_recv (c : Dev nD) (p : Tr) (hp : p ∈ live) :
    tallyOn (recvC c p) (launchCredit (Pipeline.owing O₀) 0 (recvC c p)) = (tallyAt (recvC c p) () (N p.1) : CellTallies nD τ sig Unit) := by
  unfold tallyAt; refine congrArg _ (Finsupp.ext fun u => ?_); cases u
  rw [Pipeline.launchCredit_owing, Finsupp.single_eq_same, Finset.sum_congr rfl fun d _ => owed_recv d c p hp,
    Finset.sum_ite_eq' Finset.univ (frm p.2.val c) fun _ => N p.1, if_pos (Finset.mem_univ _)]

def recvLoc : Tr ↪ SemLoc sig := ⟨fun p => .dma (recvI p), fun _ _ h => recvI_inj (SemLoc.dma.inj h)⟩

theorem creds_intro (c : Dev nD) : (Pipeline.launchCred O₀ c : sProp 𝕄) ⊢ creds (F := F) c := by
  have hsub : live.map recvLoc ⊆ Finset.univ.erase (SemLoc.reg barS : SemLoc sig) := fun s hs => by
    obtain ⟨p, -, rfl⟩ := Finset.mem_map.mp hs
    exact Finset.mem_erase.mpr ⟨fun h => (by cases h), Finset.mem_univ _⟩
  unfold Pipeline.launchCred creds
  rw [bigSep_univ_at _ (SemLoc.reg barS), launch_bar]
  refine sep_mono_right ?_
  rw [bigSep_congr (s := live) fun p hp => show (cred (tallyAt (recvC c p) () (N p.1)) : sProp 𝕄)
    = cred (tallyOn (recvC c p) (launchCredit (Pipeline.owing O₀) 0 (recvC c p))) from by rw [launch_recv c p hp]]
  rw [← Finset.union_sdiff_of_subset hsub]
  refine (union_split Finset.disjoint_sdiff _).trans ?_
  rw [bigSep_map]
  iintro ⟨H, -⟩
  iexact H

theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

theorem unscoped_eq : ∀ sm : SemLoc sig, sm.isScoped .tc = false → sm = .reg barS := by decide +kernel

end Cert.KernelIdeal.Ring

end
-- ==== Proof.KI.LaunchC.lean ====
/- The launch, and the run of the whole program from any memory. -/
module

public import proofs.«01_k».proof.Proof.KI.LaunchB
public import Idealize.ShloMosaic.Lib.Pipeline.RegionTalk

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The region -/

/-- A device's ghost state before its cells are open. -/
def ghost (K : GSem nD τ sig → ℕ) (c : Dev nD) : sProp 𝕄 :=
  iprop(records (wq m) (wo m) K ∗ atPos ER (barC c) 0 ∅ 0 ∗ (bigSep Finset.univ fun x : Bool × Tr => openTok ER (cellAt c x)) ∗ toks (F := F) c)
def Tk (c : Dev nD) : sProp 𝕄 := iprop((∃ K, ghost m K c) ∗ creds (F := F) c)

/-- The semaphores the kernel waits on or signals by its copies. -/
abbrev osem (x : Bool × Tr) : SemLoc sig := .dma (scI x)

theorem sc_inv (K : GSem nD τ sig → ℕ) (c : Dev nD) (x : Bool × Tr) : records (wq m) (wo m) K ⊢ cellInv ER (Rd (wq m) (wo m)) (K (cellAt c x)) (cellAt c x) :=
  inv_at (wq m) (wo m) K (Finset.mem_union_right _ (Finset.mem_map_of_mem scEmb (Finset.mem_univ (c, x))))

theorem with_inv (K : GSem nD τ sig → ℕ) (c : Dev nD) :
    iprop(records (wq m) (wo m) K ∗ bigSep Finset.univ fun x : Bool × Tr => openTok ER (cellAt c x))
      ⊢ (bigSep Finset.univ fun x : Bool × Tr => iprop(cellInv ER (Rd (wq m) (wo m)) (K (cellAt c x)) (cellAt c x) ∗ openTok ER (cellAt c x)) : sProp 𝕄) :=
  bigSep_with_persistent (R := records (wq m) (wo m) K) (Φ := fun x : Bool × Tr => (openTok ER (cellAt c x) : sProp 𝕄)) fun x _ => by
    iintro ⟨#HR, H⟩
    isplitr; · iapply (sc_inv m K c x); iexact HR
    iexact H

theorem hopen (c : Dev nD) : iprop(Tk m c ∗ Pipeline.ownSems0 osem c ∗ levAts L lv) ⊢ (|={Set.univ}=> Xk m c : sProp 𝕄) := by
  unfold Tk Xk ghost Pipeline.ownSems0
  iintro ⟨⟨⟨%K, #HR, Hat, Hop, Htk⟩, Hcr⟩, Hs, #Hlev⟩
  imod (Rounds.cells_open ER (Rd (wq m) (wo m)) Finset.univ (fun x : Bool × Tr => cellAt c x) (fun x => K (cellAt c x)) (Es := Set.univ) (fun _ _ => Set.mem_univ _)) $$ [Hop Hs] with Hc
  · isplitl [Hop]
    · iapply (with_inv m K c)
      isplitr; · iexact HR
      iexact Hop
    · iexact Hs
  imodintro
  unfold toks
  icases Htk with ⟨H1, H2, H3, H4⟩
  isplitr [Hcr]
  · iexists K; unfold opened
    isplitr; · iexact HR
    isplitl [H1]; · iexact H1
    isplitl [H2]; · iexact H2
    isplitl [Hat]; · iexact Hat
    isplitl [H3]; · iexact H3
    isplitl [H4]; · iexact H4
    iexact Hc
  isplitl [Hcr]; · iexact Hcr
  iexact Hlev

theorem kitP : Pipeline.PLaunchFacts (nD := nD) (τ := τ) (pcfgs (F := F)) 0 where
  cellOf_inj a := by rw [Subsingleton.elim a adm]; exact Gen.cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : u ∈ L g ∧ 0 < lv g u := by
  unfold O₀ at h
  rw [Pi.add_apply, Pi.add_apply, Finsupp.add_apply, Finsupp.add_apply] at h
  have hb (e : Dev nD) (h : 0 < (tallyAt (barC e) () 1 : CellTallies nD τ sig Unit) g u) : u ∈ L g ∧ 0 < lv g u := by
    rw [tallyAt_apply] at h
    split at h
    · next hg => rw [hg.1]; exact ⟨by rw [L_tc]; exact Finset.mem_singleton_self _, Nat.one_pos⟩
    · exact absurd h (Nat.lt_irrefl 0)
  rcases Nat.add_pos_iff_pos_or_pos.mp h with h | h
  · rcases Nat.add_pos_iff_pos_or_pos.mp h with h | h
    · obtain ⟨p, -, rfl⟩ := OW_apply_pos h
      refine ⟨by rw [L_tc]; exact Finset.mem_singleton_self _, ?_⟩
      show 0 < lvs (.dma (recvI p))
      rw [lvs_recv]; omega
    · exact hb _ h
  · exact hb _ h

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_pos h
  · exact absurd h (Nat.lt_irrefl 0)

theorem scrAny_eq (c : Dev nD) : (Pipeline.scopedRest (Pipeline.pin (pcfgs (F := F)) adm 0).spec c : sProp 𝕄) = scrAny c := by
  refine (scopedRest0_eq c).trans ?_
  rfl

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V1 m c) ∗ Xk m c)
    ⊢ (pdats m 0 c).Φ 0 := by
  rw [show (pdats m 0 c).Φ 0 = iprop(Xk m c ∗ scrAny (F := F) c ∗ ∃ r, prngReg c r) from rfl, scrAny_eq]
  iintro ⟨Hs, Hp, -, HX⟩
  isplitl [HX]; · iexact HX
  isplitl [Hs] <;> iassumption

/-- What the region leaves in the output. -/
def outs : Outs (F := F) := fun _ r c => Function.update (fun r => V1 m c r) main_v19 ((dat0 m c).arrAt (5 : Fin 6) cfg0.N) r
theorem outs_eq (c : Dev nD) : outs m 2 main_v19 c = (dat0 m c).arrAt (5 : Fin 6) cfg0.N := Function.update_self ..

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c) ∗ Pipeline.ownSems0 osem c ∗ Yk (F := F) c) := by
  rw [show (pdats m 0 c).Φ (Fin.last _) = iprop((Yc (F := F) c ∗ Yk (F := F) c) ∗ scrAny (F := F) c ∗ ∃ r, prngReg c r) from rfl, scrAny_eq, held_none]
  unfold Yc Pipeline.ownSems0
  iintro ⟨⟨Hc, Hb⟩, Hs, Hp⟩
  isplitl [Hs]; · iexact Hs
  isplitl [Hp]; · iexact Hp
  isplitr; · iempintro
  isplitl [Hc] <;> iassumption

abbrev arrs : Finset (DevRef τ sig) := Pipeline.arrRefs (τ := τ) spec0
abbrev rest : Finset (DevRef τ sig) := Pipeline.ucRefs τ sig \ arrs

theorem arr0 (c : Dev nD) (w : Fin 6) : (dat0 m c).arrAt w 0 = V1 m c (Proc.devRef .tc (Pipeline.arrRef spec0 w)) := rfl

theorem V2_ne (c : Dev nD) (b : DevRef τ sig) (h : b ≠ Proc.devRef .tc main_v19) : V2 m (outs m) c b = V1 m c b := Function.update_of_ne h _ _

theorem arrN (c : Dev nD) (w : Fin 6) : (dat0 m c).arrAt w cfg0.N = V2 m (outs m) c (Proc.devRef .tc (Pipeline.arrRef spec0 w)) := by
  match w with
  | ⟨0, _⟩ => exact ((dat0 m c).arrAt_in (0 : Fin 6) rfl _).trans (V2_of m (outs m) c main_arg0 (by decide)).symm
  | ⟨1, _⟩ => exact ((dat0 m c).arrAt_in (1 : Fin 6) rfl _).trans (V2_of m (outs m) c main_v6 (by decide)).symm
  | ⟨2, _⟩ => exact ((dat0 m c).arrAt_in (2 : Fin 6) rfl _).trans (V2_of m (outs m) c main_arg4 (by decide)).symm
  | ⟨3, _⟩ => exact ((dat0 m c).arrAt_in (3 : Fin 6) rfl _).trans (V2_of m (outs m) c main_v17 (by decide)).symm
  | ⟨4, _⟩ => exact ((dat0 m c).arrAt_in (4 : Fin 6) rfl _).trans (V2_of m (outs m) c main_v18 (by decide)).symm
  | ⟨5, _⟩ => exact (outs_eq m c).symm.trans (Function.update_self (f := V1 m c) (Proc.devRef .tc main_v19) (outs m 2 main_v19 c)).symm

theorem out_mem : (Proc.devRef .tc main_v19 : DevRef τ sig) ∈ arrs :=
  Finset.mem_map.mpr ⟨main_v19, Finset.mem_image.mpr ⟨(5 : Fin 6), Finset.mem_univ _, rfl⟩, rfl⟩

theorem hrest (c : Dev nD) (b : DevRef τ sig) (hb : b ∈ rest \ ∅) : V2 m (outs m) c b = V1 m c b :=
  V2_ne m c b fun h => by
    rw [Finset.sdiff_empty] at hb
    exact (Finset.mem_sdiff.mp hb).2 (h ▸ out_mem)

theorem hshare (c : Dev nD) (w : Fin 6) : (dat0 m c).share w = fullShare := by unfold Dat.share; split <;> rfl

theorem stage_low : ∀ (w : Fin 6) (k : Fin (spec0 w).nbuf), lvs (.dma ((spec0 w).sem k)) = 0 := by decide +kernel

set_option backward.isDefEq.respectTransparency.types false in
def reg : RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ rest (Finset.empty_subset _) kitP rfl (fun c => (body_obligation m c).loose)
    (fun _ => 0) O₀ (fun c => (owed_zero m c).trans (zero_add _).symm) (owed_last m) (fun _ => rfl) (hshare m)
    (V1 m) (V2 m (outs m)) (hrest m)
    (Tk m) (Yk (F := F)) (Xk m) (Yk (F := F)) (hopen m) (hin m) (hout m)
    (fun c => by iintro H; imodintro; iexact H)
    (fun _ => 0)
    ⟨fun c w s => by rw [L_tc]; exact Finset.mem_singleton_self _, fun c w s => le_of_eq (stage_low w s), fun c t g i h => cutD m c t g i h⟩
    (fun _ => iprop(emp))
    (arr0 m) (arrN m)

/-! ## The launch -/

theorem reg_pre (c : Dev nD) : iprop(StableHlo.held (c : Thread nD τ) (Pipeline.ucRefs τ sig) (V1 m c)
      ∗ Tk m c ∗ (∃ r, prngReg c r) ∗ ∃ W, owes (c : Thread nD τ) (O₀ c) W) ⊢ (reg m).pre c := by
  show _ ⊢ iprop(StableHlo.held (c.tc : Thread nD τ) arrs (V1 m c) ∗ (∃ r, prngReg c r)
    ∗ (StableHlo.held (c.tc : Thread nD τ) rest (V1 m c) ∗ emp) ∗ Tk m c ∗ ∃ Wd, owes (c : Thread nD τ) (0 + O₀ c) Wd)
  rw [zero_add, StableHlo.held_sub_split (c : Thread nD τ) (Pipeline.arrRefs_sub_ucRefs (τ := τ) spec0 (by decide))]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) (Pipeline.ucRefs τ sig) (V2 m (outs m) c)
      ∗ (Yk (F := F) c ∗ ∃ W, owes (c : Thread nD τ) (0 : CellTallies nD τ sig Unit) W)) := by
  show iprop(StableHlo.held (c.tc : Thread nD τ) arrs (V2 m (outs m) c) ∗ (∃ r, prngReg c r)
    ∗ (StableHlo.held (c.tc : Thread nD τ) rest (V2 m (outs m) c) ∗ emp) ∗ Yk (F := F) c ∗ ∃ Wd, owes (c : Thread nD τ) (0 : CellTallies nD τ sig Unit) Wd) ⊢ _
  rw [StableHlo.held_sub_split (c : Thread nD τ) (Pipeline.arrRefs_sub_ucRefs (τ := τ) spec0 (by decide))]
  iintro ⟨Ha, -, ⟨Hr, -⟩, Hb, HO⟩
  isplitl [Ha Hr]
  · isplitl [Ha] <;> iassumption
  isplitl [Hb] <;> iassumption

/-- The launch element: the pipeline's at its staging cells, the protocol's at its own. -/
def u₀ : UU :=
  (initOf (Pipeline.cells (Pipeline.pin (pcfgs (F := F)) adm) Gen.cellOf_inj) (Pipeline.launchToks (Pipeline.pin (pcfgs (F := F)) adm) Gen.cellOf_inj),
    launchOf barCells scCells (barToks ∪ scToks))

/-- A resource held by one device alone. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells scCells (barToks ∪ scToks))))

def Ee : Fin 2 → Dev nD → sProp 𝕄
  | 0 => fun c => iprop(Tk m c ∗ (∃ r, prngReg c r) ∗ ∃ W, owes (c : Thread nD τ) (O₀ c) W)
  | 1 => fun c => iprop(Yk (F := F) c ∗ ∃ W, owes (c : Thread nD τ) (0 : CellTallies nD τ sig Unit) W)

def T₀ (c : Dev nD) : sProp 𝕄 := iprop(StableHlo.held (c : Thread nD τ) (Pipeline.ucRefs τ sig) (V0 m c) ∗ Ee m 0 c)
def Tₙ (c : Dev nD) : sProp 𝕄 := iprop(StableHlo.held (c : Thread nD τ) (Pipeline.ucRefs τ sig) (V2 m (outs m) c) ∗ Yk (F := F) c)

/-- What of a device's launch holdings is not the protocol's ghost state. -/
def bundle (c : Dev nD) : sProp 𝕄 :=
  iprop(StableHlo.held (c : Thread nD τ) (Pipeline.ucRefs τ sig) (V0 m c) ∗ creds (F := F) c ∗ owes (c : Thread nD τ) (O₀ c) ∅ ∗ ∃ r, prngReg c r)
/-- The protocol's, that stays with the device. -/
def linear (c : Dev nD) : sProp 𝕄 :=
  iprop(atPos ER (barC c) 0 ∅ 0 ∗ (bigSep Finset.univ fun x : Bool × Tr => openTok ER (cellAt c x)) ∗ toks (F := F) c)

theorem T₀_intro (K : GSem nD τ sig → ℕ) (c : Dev nD) : iprop(records (wq m) (wo m) K ∗ (linear (F := F) c ∗ bundle m c)) ⊢ T₀ m c := by
  unfold bundle T₀ Ee Tk ghost linear
  iintro ⟨#HR, ⟨Hat, Hop, Htk⟩, Hh, Hcr, HO, Hp⟩
  isplitl [Hh]; · iexact Hh
  isplitl [Hat Hop Htk Hcr]
  · isplitl [Hat Hop Htk]
    · iexists K
      isplitr; · iexact HR
      isplitl [Hat]; · iexact Hat
      isplitl [Hop] <;> iassumption
    iexact Hcr
  isplitl [Hp]; · iexact Hp
  iexists ∅; iexact HO

theorem unpair (Φ Ψ : Dev nD → sProp 𝕄) : bigSep Finset.univ (fun c => iprop(Φ c ∗ Ψ c)) ⊢ iprop(bigSep Finset.univ Φ ∗ bigSep Finset.univ Ψ) :=
  Entails.of_eq (bigSep_sep' ..)
theorem repair (Φ Ψ : Dev nD → sProp 𝕄) : iprop(bigSep Finset.univ Φ ∗ bigSep Finset.univ Ψ) ⊢ bigSep Finset.univ (fun c => iprop(Φ c ∗ Ψ c)) :=
  Entails.of_eq (bigSep_sep' ..).symm

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c)
      ⊢ (iprop(bundle m c ∗ (semVal (barC c) 0 ∗ G (F := F) c)) : sProp 𝕄) := by
    rw [show unscopedBufs c (fun b => m ((c.tc : Thread nD τ).loc b)) = StableHlo.held (c : Thread nD τ) (Pipeline.ucRefs τ sig) (V0 m c) from
      Pipeline.unscopedBufs_held (Ix := Unit) (Name := ℕ) (U := UU) (Lvl := ℕ) c (V0 m c), unscopedSems_eq]
    unfold bundle
    iintro ⟨Hh, Hus, HO, Hcr, Hp, HG⟩
    ihave Hcr := (creds_intro (F := F) c) $$ Hcr
    isplitl [Hh Hcr HO Hp]
    · isplitl [Hh]; · iexact Hh
      isplitl [Hcr]; · iexact Hcr
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun x : Bool × Tr => (openTok ER (cellAt c x) : sProp 𝕄)) :=
    Entails.of_eq ((bigSep_map (s := Finset.univ) scEmb (Φ := fun g : GSem nD τ sig => (openTok ER g : sProp 𝕄))).trans (bigSep_univ_prod _))
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
      ⊢ (bigSep Finset.univ fun c : Dev nD => iprop(bundle m c ∗ (semVal (barC c) 0 ∗ G (F := F) c)) : sProp 𝕄) from bigSep_mono fun c _ => hcore c) $$ H
  ihave H2 := (unpair _ _) $$ H'; icases H2 with ⟨HB, H3⟩
  ihave H4 := (unpair _ _) $$ H3; icases H4 with ⟨Hv, HG⟩
  ihave Hu := (show bigSep Finset.univ (G (F := F)) ⊢ BI.own (ER (launchOf barCells scCells (barToks ∪ scToks))) from
    Entails.of_eq (bigSep_onDev (F := F) (BI.own (ER (launchOf barCells scCells (barToks ∪ scToks)))))) $$ HG
  imod (Rounds.fund_launch ER (Rd (wq m) (wo m)) cells_disjoint (fun g _ h => h) (barToks ∪ scToks)) $$ [Hv Hu] with ⟨%κ, -, #Hinv, #Hr, Hat, Hopen, Htok⟩
  · isplitl [Hv]
    · iapply hv $$ Hv
    · iexact Hu
  imodintro
  iapply (bigSep_with_persistent (R := records (wq m) (wo m) κ) (Φ := fun c => iprop(linear (F := F) c ∗ bundle m c)) fun c _ => T₀_intro m κ c)
  isplitr
  · unfold records
    isplitr; · iexact Hinv
    iexact Hr
  iapply (repair _ _)
  isplitr [HB]
  · unfold linear
    iapply (repair _ _); isplitl [Hat]; · iapply hat $$ Hat
    iapply (repair _ _); isplitl [Hopen]; · iapply hop $$ Hopen
    iapply (toks_deal (F := F)) $$ Htok
  · iexact HB

/-! ## The run -/

set_option backward.isDefEq.respectTransparency.types false in
/-- From any memory with zero counters, every weakly fair execution of the program on the sixteen devices terminates; every final
    state has the arguments unchanged, the output at the region's contents, and every counter at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v19) = (dat0 m c).arrAt (5 : Fin 6) cfg0.N)
    ∧ r.2.sem = fun _ => 0) := by
  refine Pipeline.θ_run_regions_kit_dev_sems (pcfgs (F := F)) adm (pdats m) () Gen.cellOf_inj EP defs₀ 𝒱₀ L lv m ρ main
    (segs m 𝒱₀ L lv (Ee m) () (pdats m) (reg m))
    (fun c Q => by
      rewrite [main_chain c, Seg.run_eq_chain,
        show (segs m 𝒱₀ L lv (Ee m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) (O₀ := O₀) (hL := L_of_ne) (G := G) (u₀ := u₀ (F := F))
    (hu₀ := ?_) (T₀ := T₀ m) (Tₙ := Tₙ m)
    (hch := fun c => ⟨.rfl, reg_pre m c, (reg_post m c).trans ?_⟩)
    (hinit := init m ρ)
    (QY := fun c s => (∀ b ∈ Pipeline.ucRefs τ sig, s.mem ((c : Thread nD τ).1, b) = V2 m (outs m) c b) ∧ s.sem (barC c) = 0)
    (hfin := fun c s' => ?_) (hQ := fun s h hs => ⟨fun c => ?_, ?_⟩)
  · unfold u₀ G
    iintro Hu
    ihave H := (ownU_pair _ _) $$ Hu
    icases H with ⟨HP, HX⟩
    imodintro
    isplitl [HP]; · iexact HP
    rw [bigSep_onDev]; iexact HX
  · unfold Tₙ
    iintro ⟨Hh, Hb, HO⟩
    isplitr [HO]
    · isplitl [Hh] <;> iassumption
    · iexact HO
  · unfold Tₙ StableHlo.held Yk
    iintro ⟨⟨Hh, Hb⟩, HSI⟩
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    icombine HSI Hb gives %hb
    imodintro
    isplitr
    · ipureintro
      exact ⟨h, by simpa using hb⟩
    iexact HSI
  · have hr (r : Ref sig .tc) (hu : ¬ r.isScoped = true) := (h c).1 (Proc.devRef .tc r) (Finset.mem_filter.mpr ⟨StableHlo.devRef_mem_tcRefs r, hu⟩)
    exact ⟨(hr main_arg0 (by decide)).trans (V2_main_arg0 m (outs m) c), (hr main_arg1 (by decide)).trans (V2_main_arg1 m (outs m) c),
      (hr main_arg2 (by decide)).trans (V2_main_arg2 m (outs m) c), (hr main_arg3 (by decide)).trans (V2_main_arg3 m (outs m) c),
      (hr main_arg4 (by decide)).trans (V2_main_arg4 m (outs m) c),
      (hr main_v19 (by decide)).trans ((Function.update_self (f := V1 m c) (Proc.devRef .tc main_v19) (outs m 2 main_v19 c)).trans (outs_eq m c))⟩
  · exact sem_eq_zero hs fun c sm hsm => by
      obtain rfl := unscoped_eq sm hsm
      exact (h c).2

end Cert.KernelIdeal.Ring

end
-- ==== Proof.RI.Line.lean ====
/-
  The reference's run. Its program is a straight line of array operations (the module's own functions read at their
  calls); each one is the named operation below, in order, so the final contents are those operations' results folded
  over the contents at the start.
-/
module

public import proofs.«01_k».proof.Proof.Gen.ReferenceIdeal
public import Idealize.ShloMosaic.Lib.StableHlo.Run

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F]

/-- The operations, in order. -/
abbrev ops : List (HloOp τ sig (Elt F)) :=
  [ unary main_arg0 main_v0 ((extf .f32 · bitsLt_bf16_f32)),
    unary main_arg1 main_v1 ((extf .f32 · bitsLt_bf16_f32)),
    unary main_arg2 main_v2 ((extf .f32 · bitsLt_bf16_f32)),
    unary main_arg3 main_v3 ((extf .f32 · bitsLt_bf16_f32)),
    unary main_arg4 main_v4 ((extf .f32 · bitsLt_bf16_f32)),
    binary main_v0 main_v1 main_v5 ((fun l r => Host.dotGeneral dot_S32x256x512_S512x4096_S32x256x4096_2_0_01_1_n_n none l r)),
    reshape main_v5 main_v6 (rfl : (.f32 : EltTy) = .f32) shapeCasts_S32x256x4096_S32x256x64x64,
    nullary main_v7 (iotaInDim S256 32 0),
    nullary main_c (constantI S_ 32 64#32),
    unary main_c main_call0_v0 id,
    unary main_call0_v0 main_call0_v1 (broadcastInDim S256 ![] bcast_S_S256),
    binary main_v7 main_call0_v1 main_call0_v2 Host.divsi,
    unary main_v7 main_call0_v3 signi,
    unary main_call0_v0 main_call0_v4 signi,
    unary main_call0_v4 main_call0_v5 (broadcastInDim S256 ![] bcast_S_S256),
    binary main_call0_v3 main_call0_v5 main_call0_v6 (cmpi .ne),
    unary main_call0_v0 main_call0_v7 (broadcastInDim S256 ![] bcast_S_S256),
    binary main_v7 main_call0_v7 main_call0_v8 Host.remsi,
    nullary main_call0_c (constantI S_ 32 0#32),
    unary main_call0_c main_call0_v9 (broadcastInDim S256 ![] bcast_S_S256),
    binary main_call0_v8 main_call0_v9 main_call0_v10 (cmpi .ne),
    binary main_call0_v6 main_call0_v10 main_call0_v11 andi,
    nullary main_call0_c_0 (constantI S_ 32 1#32),
    unary main_call0_c_0 main_call0_v12 (broadcastInDim S256 ![] bcast_S_S256),
    binary main_call0_v2 main_call0_v12 main_call0_v13 subi,
    ternary main_call0_v11 main_call0_v13 main_call0_v2 main_v8 select,
    unary main_v8 main_v9 (broadcastInDim S256x1 ![0] bcast_S256_S256x1_0),
    nullary main_v10 (iotaInDim S256 32 0),
    nullary main_c_0 (constantI S_ 32 64#32),
    unary main_c_0 main_call1_v0 id,
    unary main_call1_v0 main_call1_v1 (broadcastInDim S256 ![] bcast_S_S256),
    binary main_v10 main_call1_v1 main_call1_v2 Host.divsi,
    unary main_v10 main_call1_v3 signi,
    unary main_call1_v0 main_call1_v4 signi,
    unary main_call1_v4 main_call1_v5 (broadcastInDim S256 ![] bcast_S_S256),
    binary main_call1_v3 main_call1_v5 main_call1_v6 (cmpi .ne),
    unary main_call1_v0 main_call1_v7 (broadcastInDim S256 ![] bcast_S_S256),
    binary main_v10 main_call1_v7 main_call1_v8 Host.remsi,
    nullary main_call1_c (constantI S_ 32 0#32),
    unary main_call1_c main_call1_v9 (broadcastInDim S256 ![] bcast_S_S256),
    binary main_call1_v8 main_call1_v9 main_call1_v10 (cmpi .ne),
    binary main_call1_v6 main_call1_v10 main_call1_v11 andi,
    nullary main_call1_c_0 (constantI S_ 32 1#32),
    unary main_call1_c_0 main_call1_v12 (broadcastInDim S256 ![] bcast_S_S256),
    binary main_call1_v2 main_call1_v12 main_call1_v13 subi,
    ternary main_call1_v11 main_call1_v13 main_call1_v2 main_v11 select,
    unary main_v11 main_v12 (broadcastInDim S1x256 ![1] bcast_S256_S1x256_1),
    unary main_v9 main_v13 (broadcastInDim S256x256 ![0, 1] bcast_S256x1_S256x256_0_1),
    unary main_v12 main_v14 (broadcastInDim S256x256 ![0, 1] bcast_S1x256_S256x256_0_1),
    binary main_v13 main_v14 main_v15 (cmpi .eq),
    nullary main_c_1 (constantI S_ 32 0#32),
    unary main_c_1 main_v16 (broadcastInDim S1x256 ![] bcast_S_S1x256),
    binary main_v12 main_v16 main_v17 (cmpi .eq),
    unary main_v17 main_v18 (broadcastInDim S256x256 ![0, 1] bcast_S1x256_S256x256_0_1),
    binary main_v15 main_v18 main_v19 (ori),
    unary main_v9 main_v20 (broadcastInDim S256x256 ![0, 1] bcast_S256x1_S256x256_0_1),
    unary main_v12 main_v21 (broadcastInDim S256x256 ![0, 1] bcast_S1x256_S256x256_0_1),
    binary main_v20 main_v21 main_v22 (addi),
    nullary main_c_2 (constantI S_ 32 3#32),
    unary main_c_2 main_call2_v0 id,
    nullary main_call2_c (constantI S_ 32 0#32),
    binary main_call2_v0 main_call2_c main_call2_v1 (cmpi .eq),
    nullary main_call2_c_0 (constantI S_ 32 1#32),
    ternary main_call2_v1 main_call2_c_0 main_call2_v0 main_call2_v2 select,
    unary main_call2_v2 main_call2_v3 (broadcastInDim S256x256 ![] bcast_S_S256x256),
    binary main_v22 main_call2_v3 main_call2_v4 Host.remsi,
    nullary main_call2_c_1 (constantI S_ 32 0#32),
    unary main_call2_c_1 main_call2_v5 (broadcastInDim S256x256 ![] bcast_S_S256x256),
    binary main_call2_v4 main_call2_v5 main_call2_v6 (cmpi .ne),
    nullary main_call2_c_2 (constantI S_ 32 0#32),
    unary main_call2_c_2 main_call2_v7 (broadcastInDim S256x256 ![] bcast_S_S256x256),
    binary main_call2_v4 main_call2_v7 main_call2_v8 (cmpi .slt),
    nullary main_call2_c_3 (constantI S_ 32 0#32),
    binary main_call2_v2 main_call2_c_3 main_call2_v9 (cmpi .slt),
    unary main_call2_v9 main_call2_v10 (broadcastInDim S256x256 ![] bcast_S_S256x256),
    binary main_call2_v8 main_call2_v10 main_call2_v11 (cmpi .ne),
    binary main_call2_v11 main_call2_v6 main_call2_v12 andi,
    unary main_call2_v2 main_call2_v13 (broadcastInDim S256x256 ![] bcast_S_S256x256),
    binary main_call2_v4 main_call2_v13 main_call2_v14 addi,
    ternary main_call2_v12 main_call2_v14 main_call2_v4 main_v23 select,
    nullary main_c_3 (constantI S_ 32 0#32),
    unary main_c_3 main_v24 (broadcastInDim S256x256 ![] bcast_S_S256x256),
    binary main_v23 main_v24 main_v25 (cmpi .eq),
    binary main_v19 main_v25 main_v26 (ori),
    binary main_v6 main_v2 main_v27 ((fun l r => Host.dotGeneral dot_S32x256x64x64_S32x256x64x64_S32x64x256x256_3_3_1_1_02_02 none l r)),
    nullary main_cst (constant S_ .f32 0x3E000000#32),
    unary main_cst main_v28 (broadcastInDim S32x64x256x256 ![] bcast_S_S32x64x256x256),
    binary main_v27 main_v28 main_v29 (mulf),
    unary main_v26 main_v30 (broadcastInDim S1x1x256x256 ![2, 3] bcast_S256x256_S1x1x256x256_2_3),
    nullary main_cst_4 (constant S_ .f32 0xFF800000#32),
    unary main_cst_4 main_call3_v0 id,
    unary main_v30 main_call3_v1 (broadcastInDim S32x64x256x256 ![0, 1, 2, 3] bcast_S1x1x256x256_S32x64x256x256_0_1_2_3),
    unary main_call3_v0 main_call3_v2 (broadcastInDim S32x64x256x256 ![] bcast_S_S32x64x256x256),
    ternary main_call3_v1 main_v29 main_call3_v2 main_v31 select,
    nullary main_cst_5 (constant S_ .f32 0xFF800000#32),
    binary main_v31 main_cst_5 main_v32 ((fun x v => Host.reduce FloatOps.maximumf x v reducesTo_S32x64x256x256_S32x64x256_d3 h_S_)),
    unary main_v32 main_v33 (broadcastInDim S32x64x256x1 ![0, 1, 2] bcast_S32x64x256_S32x64x256x1_0_1_2),
    unary main_v33 main_v34 (broadcastInDim S32x64x256x256 ![0, 1, 2, 3] bcast_S32x64x256x1_S32x64x256x256_0_1_2_3),
    binary main_v31 main_v34 main_v35 (subf),
    unary main_v35 main_v36 (Host.exp),
    nullary main_c_6 (constantI S_ 1 0#1),
    binary main_v26 main_c_6 main_v37 ((fun x v => Host.reduce IntOp.ori x v reducesTo_S256x256_S256_d1 h_S_)),
    unary main_v37 main_v38 (broadcastInDim S1x1x256x1 ![2] bcast_S256_S1x1x256x1_2),
    nullary main_cst_7 (constant S_ .f32 0x00000000#32),
    binary main_v36 main_cst_7 main_v39 ((fun x v => Host.reduceAdd x v reducesTo_S32x64x256x256_S32x64x256_d3 h_S_)),
    unary main_v39 main_v40 (broadcastInDim S32x64x256x1 ![0, 1, 2] bcast_S32x64x256_S32x64x256x1_0_1_2),
    nullary main_cst_8 (constant S_ .f32 0x3F800000#32),
    unary main_cst_8 main_call4_v0 id,
    unary main_v38 main_call4_v1 (broadcastInDim S32x64x256x1 ![0, 1, 2, 3] bcast_S1x1x256x1_S32x64x256x1_0_1_2_3),
    unary main_call4_v0 main_call4_v2 (broadcastInDim S32x64x256x1 ![] bcast_S_S32x64x256x1),
    ternary main_call4_v1 main_v40 main_call4_v2 main_v41 select,
    unary main_v41 main_v42 (broadcastInDim S32x64x256x256 ![0, 1, 2, 3] bcast_S32x64x256x1_S32x64x256x256_0_1_2_3),
    binary main_v36 main_v42 main_v43 (Host.divf),
    unary main_v37 main_v44 (broadcastInDim S1x1x256x1 ![2] bcast_S256_S1x1x256x1_2),
    nullary main_cst_9 (constant S_ .f32 0x00000000#32),
    unary main_cst_9 main_call5_v0 id,
    unary main_v44 main_call5_v1 (broadcastInDim S32x64x256x256 ![0, 1, 2, 3] bcast_S1x1x256x1_S32x64x256x256_0_1_2_3),
    unary main_call5_v0 main_call5_v2 (broadcastInDim S32x64x256x256 ![] bcast_S_S32x64x256x256),
    ternary main_call5_v1 main_v43 main_call5_v2 main_v45 select,
    binary main_v3 main_v45 main_v46 ((fun l r => Host.dotGeneral dot_S32x256x64x64_S32x64x256x256_S32x64x64x256_1_3_3_2_02_01 none l r)),
    unary main_v46 main_v47 ((transpose S32x256x64x64 [0, 3, 1, 2] · transposes_S32x64x64x256_S32x256x64x64_0_3_1_2)),
    reshape main_v47 main_v48 (rfl : (.f32 : EltTy) = .f32) shapeCasts_S32x256x64x64_S32x256x4096,
    binary main_v48 main_v4 main_v49 ((fun l r => Host.dotGeneral dot_S32x256x4096_S4096x512_S32x256x512_2_0_01_1_n_n none l r)) ]

set_option maxRecDepth 4096 in
set_option maxHeartbeats 4000000 in
/-- The program is that straight line. -/
theorem main_eq (c : Dev nD) : main (F := F) c = seq ops := by
  simp only [main, main_part0, main_part1, fn_where.body, fn_floor_divide.body, fn_where_0.body, fn_remainder.body, fn_where_1.body,
    fn_where_2.body, fn_where_3.body, seq, bind_assoc, pure_bind]
  rfl

set_option maxRecDepth 4096 in
theorem ops_sub : (ops : List (HloOp τ sig (Elt F))).Forall fun op => op.bufs ⊆ tcRefs τ sig :=
  ⟨unary_bufs_sub .., unary_bufs_sub .., unary_bufs_sub .., unary_bufs_sub .., unary_bufs_sub .., binary_bufs_sub .., reshape_bufs_sub ..,
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., unary_bufs_sub .., nullary_bufs_sub .., nullary_bufs_sub .., unary_bufs_sub .., unary_bufs_sub ..,
    binary_bufs_sub .., unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., unary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., binary_bufs_sub .., binary_bufs_sub .., nullary_bufs_sub ..,
    unary_bufs_sub .., binary_bufs_sub .., unary_bufs_sub .., nullary_bufs_sub .., unary_bufs_sub .., unary_bufs_sub .., unary_bufs_sub ..,
    ternary_bufs_sub .., nullary_bufs_sub .., binary_bufs_sub .., unary_bufs_sub .., unary_bufs_sub .., binary_bufs_sub ..,
    unary_bufs_sub .., nullary_bufs_sub .., binary_bufs_sub .., unary_bufs_sub .., nullary_bufs_sub .., binary_bufs_sub ..,
    unary_bufs_sub .., nullary_bufs_sub .., unary_bufs_sub .., unary_bufs_sub .., unary_bufs_sub .., ternary_bufs_sub ..,
    unary_bufs_sub .., binary_bufs_sub .., unary_bufs_sub .., nullary_bufs_sub .., unary_bufs_sub .., unary_bufs_sub .., unary_bufs_sub ..,
    ternary_bufs_sub .., binary_bufs_sub .., unary_bufs_sub .., reshape_bufs_sub .., binary_bufs_sub ..⟩

theorem scopedRefs_eq : (Finset.univ.filter fun b : Ref sig .tc => b.isScoped) = ∅ := by decide
theorem scopedSems_eq : (Finset.univ.filter fun sm : SemLoc sig => sm.isScoped .tc) = ∅ := by decide

/-- Every execution ends, with each buffer at the operations' fold over its contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.Math.Softmax.lean ====
/-
  Attention's weights over the extended reals: exponentials normalised by the reciprocal of their sum after the average,
  and exponentials of scores less their maximum normalised before it, give the same average, whatever the values are.
-/
module

public import Idealize.ShloMosaic.Lib.IdealHost

@[expose] public section

noncomputable section

namespace Cert.Math

open Idealize.ShloMosaic

/-- The average of `v` with weights `exp s`, normalised after the sum. -/
def late {n : ℕ} (s v : Fin n → EReal) : EReal :=
  (∑ j, Ideal.exp (s j) * v j) * Ideal.div 1 (∑ j, Ideal.exp (s j))

/-- The average of `v` with weights `exp (s − M)`, each normalised before the sum. -/
def early {n : ℕ} (M : EReal) (s v : Fin n → EReal) : EReal :=
  ∑ j, v j * Ideal.div (Ideal.exp (s j - M)) (∑ j, Ideal.exp (s j - M))

theorem coe_sum {ι : Type} (A : Finset ι) (f : ι → ℝ) : ((∑ j ∈ A, f j : ℝ) : EReal) = ∑ j ∈ A, (f j : EReal) := by
  classical
  induction A using Finset.induction_on with
  | empty => simp
  | insert a A h ih => rw [Finset.sum_insert h, Finset.sum_insert h, EReal.coe_add, ih]

/-- A nonnegative real factor moves out of a sum of extended reals. -/
theorem sum_mul_coe {ι : Type} (A : Finset ι) (f : ι → EReal) {r : ℝ} (hr : 0 ≤ r) :
    ∑ j ∈ A, f j * (r : EReal) = (∑ j ∈ A, f j) * (r : EReal) := by
  classical
  induction A using Finset.induction_on with
  | empty => simp
  | insert a A h ih =>
    rw [Finset.sum_insert h, Finset.sum_insert h, ih]
    exact (EReal.right_distrib_of_nonneg_of_ne_top (EReal.coe_nonneg.mpr hr) (EReal.coe_ne_top r) _ _).symm

theorem sup_attained {n : ℕ} (s : Fin n → EReal) (i : Fin n) (M : EReal) (hM : M = Finset.univ.fold max ⊥ s) :
    (∀ j, s j ≤ M) ∧ ∃ j, s j = M := by
  have h : M = Finset.univ.sup s := hM
  refine ⟨fun j => h ▸ Finset.le_sup (f := s) (Finset.mem_univ j), ?_⟩
  obtain ⟨j, -, hj⟩ := Finset.exists_mem_eq_sup Finset.univ ⟨i, Finset.mem_univ i⟩ s
  exact ⟨j, hj.symm.trans h.symm⟩

/-- The two averages agree where no score is `+∞` and one of them is finite. -/
theorem late_eq_early {n : ℕ} (s v : Fin n → EReal) (i : Fin n) (ht : ∀ j, s j ≠ ⊤) (hi : s i ≠ ⊥) (M : EReal)
    (hM : M = Finset.univ.fold max ⊥ s) : late s v = early M s v := by
  obtain ⟨hle, j₀, hj₀⟩ := sup_attained s i M hM
  have hMt : M ≠ ⊤ := hj₀ ▸ ht j₀
  have hMb : M ≠ ⊥ := fun h => hi (le_bot_iff.mp (h ▸ hle i))
  lift M to ℝ using ⟨hMt, hMb⟩ with m
  have hu : ∀ j, ∃ u : ℝ, 0 ≤ u ∧ (s j ≠ ⊥ → 0 < u) ∧ Ideal.exp (s j) = (u : EReal)
      ∧ Ideal.exp (s j - (m : EReal)) = ((u * Real.exp (-m) : ℝ) : EReal) := by
    intro j
    have h := ht j
    generalize s j = t at h
    induction t with
    | bot => exact ⟨0, le_rfl, fun h => absurd rfl h, rfl, by rw [EReal.bot_sub, zero_mul]; rfl⟩
    | top => exact absurd rfl h
    | coe r =>
      refine ⟨Real.exp r, (Real.exp_pos r).le, fun _ => Real.exp_pos r, rfl, ?_⟩
      rw [← EReal.coe_sub, ← Real.exp_add, ← sub_eq_add_neg]; rfl
  choose u hu0 hup hu1 hu2 using hu
  have hU : 0 < ∑ j, u j := Finset.sum_pos' (fun j _ => hu0 j) ⟨i, Finset.mem_univ i, hup i hi⟩
  have hE : 0 < Real.exp (-m) := Real.exp_pos _
  unfold late early
  simp only [hu1, hu2]
  rw [← coe_sum, ← coe_sum, ← Finset.sum_mul, Ideal.div_coe hU.ne', one_mul, ← sum_mul_coe _ _ (by positivity)]
  refine Finset.sum_congr rfl fun j _ => ?_
  rw [Ideal.div_coe (mul_pos hU hE).ne', ← EReal.coe_mul, mul_comm ((u j : EReal)), mul_assoc, ← EReal.coe_mul]
  congr 2
  field_simp

end Cert.Math

end
-- ==== Proof.Math.Score.lean ====
/-
  The scores over the extended reals: the factor one eighth may be taken on the weights of the queries or on the scores,
  where the factors are finite; and the block pattern of the mask.
-/
module

public import proofs.«01_k».proof.Proof.Math.Softmax

@[expose] public section

noncomputable section

namespace Cert.Math

open Idealize.ShloMosaic

/-- The pattern: a pair of positions is kept by their blocks of 64. -/
def kept (i j : Fin 256) : Bool :=
  decide (i.val / 64 = j.val / 64) || decide (j.val / 64 = 0) || decide ((i.val / 64 + j.val / 64) % 3 = 0)

theorem kept_self (i : Fin 256) : kept i i = true := by simp [kept]

/-- The kernel's score of a pair: the factor on the weights, the mask added. -/
def ksc {a b : ℕ} (x : Fin a → EReal) (w : Fin a → Fin b → EReal) (k : Fin b → EReal) (e : EReal) (B : EReal) : EReal :=
  (∑ d, (∑ c, x c * (w c d * e)) * k d) + B

/-- The reference's: the factor on the score. -/
def rsc {a b : ℕ} (x : Fin a → EReal) (w : Fin a → Fin b → EReal) (k : Fin b → EReal) (e : EReal) : EReal :=
  (∑ d, (∑ c, x c * w c d) * k d) * e

/-- A finite extended real. -/
def IsReal (x : EReal) : Prop := ∃ r : ℝ, x = (r : EReal)

theorem rsc_real {a b : ℕ} {x : Fin a → EReal} {w : Fin a → Fin b → EReal} {k : Fin b → EReal} (e : ℝ)
    (hx : ∀ c, IsReal (x c)) (hw : ∀ c d, IsReal (w c d)) (hk : ∀ d, IsReal (k d)) :
    IsReal (rsc x w k e) ∧ ksc x w k e 0 = rsc x w k e := by
  choose xr hxr using hx
  choose wr hwr using hw
  choose kr hkr using hk
  unfold ksc rsc
  simp only [hxr, hwr, hkr, ← EReal.coe_mul, ← coe_sum, add_zero]
  refine ⟨⟨_, rfl⟩, congrArg _ ?_⟩
  rw [Finset.sum_mul]
  refine Finset.sum_congr rfl fun d _ => ?_
  simp only [← mul_assoc, ← Finset.sum_mul]
  ring

/-- A masked score, as the reference has it. -/
def msc {a b : ℕ} (p : Bool) (x : Fin a → EReal) (w : Fin a → Fin b → EReal) (k : Fin b → EReal) (e : EReal) : EReal :=
  if p then rsc x w k e else ⊥

theorem ksc_eq_msc {a b : ℕ} {x : Fin a → EReal} {w : Fin a → Fin b → EReal} {k : Fin b → EReal} (e : ℝ) (p : Bool)
    (hx : ∀ c, IsReal (x c)) (hw : ∀ c d, IsReal (w c d)) (hk : ∀ d, IsReal (k d)) :
    ksc x w k e (if p then 0 else ⊥) = msc p x w k e := by
  cases p
  · simp [ksc, msc]
  · simpa [msc] using (rsc_real e hx hw hk).2

/-- A head's average as the kernel has it is the one as the reference has it. -/
theorem head {a b : ℕ} (x : Fin a → EReal) (w : Fin a → Fin b → EReal) (k : Fin 256 → Fin b → EReal) (v : Fin 256 → EReal)
    (e : ℝ) (i : Fin 256) (hx : ∀ c, IsReal (x c)) (hw : ∀ c d, IsReal (w c d)) (hk : ∀ j d, IsReal (k j d)) :
    late (fun j => ksc x w (k j) e (if kept i j then 0 else ⊥)) v
      = early (Finset.univ.fold max ⊥ fun j => msc (kept i j) x w (k j) e) (fun j => msc (kept i j) x w (k j) e) v := by
  simp only [fun j => ksc_eq_msc e (kept i j) hx hw (hk j)]
  refine late_eq_early _ _ i (fun j => ?_) ?_ _ rfl
  · obtain ⟨r, hr⟩ := (rsc_real e hx hw (hk j)).1
    unfold msc; rw [hr]
    split
    · exact EReal.coe_ne_top r
    · exact bot_ne_top
  · obtain ⟨r, hr⟩ := (rsc_real e hx hw (hk i)).1
    simp only [msc, kept_self, if_true, hr]
    exact EReal.coe_ne_bot r

/-- One eighth in both formats. -/
theorem eighth_bf16 : Ideal.ofBits .bf16 0x3E00#16 = (((1 : ℝ) / 8 : ℝ) : EReal) := by
  simp [Ideal.ofBits, Ideal.ieee, -EReal.coe_mul]; norm_num

theorem eighth_f32 : Ideal.ofBits .f32 0x3E000000#32 = (((1 : ℝ) / 8 : ℝ) : EReal) := by
  simp [Ideal.ofBits, Ideal.ieee, -EReal.coe_mul]; norm_num

theorem neg_inf_f32 : Ideal.ofBits .f32 0xFF800000#32 = ⊥ := by
  simp [Ideal.ofBits, Ideal.ieee]

theorem pos_inf_f32 : Ideal.ofBits .f32 0x7F800000#32 = ⊤ := by
  simp [Ideal.ofBits, Ideal.ieee]

/-- What is below `+∞` in magnitude is a real. -/
theorem fin_of_abs {x : EReal} (h : max x (-x) < ⊤) : IsReal x := by
  induction x with
  | bot => simp at h
  | top => simp at h
  | coe r => exact ⟨r, rfl⟩

end Cert.Math

end
-- ==== Proof.KI.Read.lean ====
/- One step of the kernel's arithmetic read at an index. -/
module

public import proofs.«01_k».proof.Proof.KI.Val
public import proofs.«01_k».proof.Proof.Math.Score
public import Idealize.ShloMosaic.Lib.Pointwise

@[expose] public section

noncomputable section

namespace Cert.KernelIdeal.Ring

open Cert.KernelIdeal Cert.KernelIdeal.Gen
open Idealize.ShloMosaic Cert.Math

theorem expo_apply (q : FVec Ideal S256x64 .bf16) (k : Vec Ideal S1x1x256x64 .bf16) (i j : Fin 256) :
    expo q k (ix2 i j) = Ideal.exp ((∑ d : Fin 64, q (ix2 i d) * k (ix4 0 0 j d)) + bias (F := Ideal) (ix2 i j)) := by
  pointwise [expo]

theorem ctx_apply (q : FVec Ideal S256x64 .bf16) (k v : Vec Ideal S1x1x256x64 .bf16) (i : Fin 256) (d : Fin 64) :
    ctx q k v (ix2 i d) = (∑ j : Fin 256, expo q k (ix2 i j) * v (ix4 0 0 j d)) * Ideal.div 1 (∑ j : Fin 256, expo q k (ix2 i j)) := by
  pointwise [ctx, recip]

theorem qry_apply (x : Vec Ideal S2x256x512 .bf16) (wq : Vec Ideal S1x512x256 .bf16) (r : Fin 512) (p : Fin 256) :
    qry x wq (ix2 r p) = ∑ c : Fin 512, x (ix3 ⟨r.val / 256, by omega⟩ ⟨r.val % 256, by omega⟩ c) * wq (ix3 0 c p) := by
  pointwise [qry]

theorem qry_apply' (x : Vec Ideal S2x256x512 .bf16) (wq : Vec Ideal S1x512x256 .bf16) (b : Fin 2) (i p : Fin 256) :
    qry x wq (ix2 ⟨b.val * 256 + i.val, by omega⟩ p) = ∑ c : Fin 512, x (ix3 b i c) * wq (ix3 0 c p) := by
  rw [qry_apply]
  refine Finset.sum_congr rfl fun c _ => congrArg (· * _) ?_
  exact congrArg₂ (fun b i => x (ix3 b i c)) (Fin.ext (by show (b.val * 256 + i.val) / 256 = b.val; omega))
    (Fin.ext (by show (b.val * 256 + i.val) % 256 = i.val; omega))

theorem comp_apply (x : Vec Ideal S2x256x512 .bf16) (wq : Vec Ideal S1x512x256 .bf16) (wo : Vec Ideal S1x256x512 .bf16)
    (k v : Fin 4 → Fin 2 → Vec Ideal S1x1x256x64 .bf16) (acc : Vec Ideal S2x256x512 .f32) (b : Fin 2) (i : Fin 256) (n : Fin 512) :
    comp x wq wo k v acc (ix3 b i n)
      = acc (ix3 b i n) + ∑ p : Fin 256, rows x wq k v (ix2 ⟨b.val * 256 + i.val, by omega⟩ p) * wo (ix3 0 p n) := by
  pointwise [comp]

/-- A block index as the body computes it: the quotient by 64, rounded down. -/
theorem block_word : ∀ i : Fin 256, (Scalar.select
    (IntOp.andi
      (IntOp.cmpi CmpIPredicate.ne
        (IntOp.subi (BitVec.setWidth 32 (IntOp.cmpi CmpIPredicate.sgt (BitVec.ofNat 32 i.val) 0#32))
          (BitVec.setWidth 32 (IntOp.cmpi CmpIPredicate.slt (BitVec.ofNat 32 i.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 i.val) 64#32) 0#32))
    (IntOp.subi (IntOp.divsi ArithUnit.vector (BitVec.ofNat 32 i.val) 64#32) 1#32)
    (IntOp.divsi ArithUnit.vector (BitVec.ofNat 32 i.val) 64#32)) = BitVec.ofNat 32 (i.val / 64) := by decide +kernel

theorem keep_word : ∀ a b : Fin 4,
    IntOp.ori (IntOp.ori (IntOp.cmpi .eq (BitVec.ofNat 32 a.val) (BitVec.ofNat 32 b.val)) (IntOp.cmpi .eq (BitVec.ofNat 32 b.val) 0#32))
      (IntOp.cmpi .eq (IntOp.remsi .vector (IntOp.addi (BitVec.ofNat 32 a.val) (BitVec.ofNat 32 b.val)) 3#32) 0#32)
      = BitVec.ofBool (decide (a.val = b.val) || decide (b.val = 0) || decide ((a.val + b.val) % 3 = 0)) := by decide +kernel

/-- The mask's bias is zero where the pattern keeps the pair and `−∞` elsewhere. -/
theorem bias_apply (i j : Fin 256) : bias (F := Ideal) (ix2 i j) = if kept i j then 0 else ⊥ := by
  pointwise [bias, k0_pay38, k0_pay39, k0_pay40]
  rw [block_word, block_word]
  have h := keep_word ⟨i.val / 64, by omega⟩ ⟨j.val / 64, by omega⟩
  simp only at h
  rw [h, show (Named.named (F := Ideal) κ "mask" 3463342888#32 : Ideal .f32) = ⊥ from IdealRules.named_const.ideal_named_scalar _ _ _ _ rfl]
  change Scalar.select (BitVec.ofBool (kept i j)) _ _ = _
  cases kept i j <;> rfl

theorem row_apply (q : FVec Ideal S256x256 .bf16) (k v : Fin 4 → Vec Ideal S1x1x256x64 .bf16) (i : Fin 256) (h : Fin 4) (d : Fin 64) :
    row q k v (ix2 i ⟨h.val * 64 + d.val, by omega⟩)
      = late (fun j => (∑ d' : Fin 64, q (ix2 i ⟨h.val * 64 + d'.val, by omega⟩) * k h (ix4 0 0 j d')) + if kept i j then 0 else ⊥)
          (fun j => v h (ix4 0 0 j d)) := by
  have hd := d.isLt
  unfold late
  simp only [← bias_apply]
  match h with
  | 0 | 1 =>
    pointwise [row]
    rw [ctx_apply]
    simp only [expo_apply]
    pointwise
  | 2 =>
    pointwise [row]
    refine (dif_neg (by omega)).trans ((dif_neg (by omega)).trans ((dif_pos (by omega)).trans ?_))
    rw [ctx_apply, show (⟨128 + d.val - 64 - 64, by omega⟩ : Fin 64) = d from Fin.ext (by show 128 + d.val - 64 - 64 = d.val; omega)]
    simp only [expo_apply]
    pointwise
  | 3 =>
    pointwise [row]
    refine (dif_neg (by omega)).trans ((dif_neg (by omega)).trans ((dif_neg (by omega)).trans ?_))
    rw [ctx_apply, show (⟨192 + d.val - 64 - 64 - 64, by omega⟩ : Fin 64) = d from Fin.ext (by show 192 + d.val - 64 - 64 - 64 = d.val; omega)]
    simp only [expo_apply]
    pointwise

theorem rows_apply (x : Vec Ideal S2x256x512 .bf16) (wq : Vec Ideal S1x512x256 .bf16)
    (k v : Fin 4 → Fin 2 → Vec Ideal S1x1x256x64 .bf16) (b : Fin 2) (i : Fin 256) (h : Fin 4) (d : Fin 64) :
    rows x wq k v (ix2 ⟨b.val * 256 + i.val, by omega⟩ ⟨h.val * 64 + d.val, by omega⟩)
      = late (fun j => (∑ d' : Fin 64, (∑ c : Fin 512, x (ix3 b i c) * wq (ix3 0 c ⟨h.val * 64 + d'.val, by omega⟩)) * k h b (ix4 0 0 j d'))
            + if kept i j then 0 else ⊥) (fun j => v h b (ix4 0 0 j d)) := by
  have hi := i.isLt
  match b with
  | 0 =>
    pointwise [rows]
    rw [row_apply]
    refine congrArg (late · _) (funext fun j => congrArg (· + _) (Finset.sum_congr rfl fun d' _ => congrArg (· * _) ?_))
    pointwise
    exact (congrArg (fun r => qry x wq (ix2 r _)) (Fin.ext (by simp))).trans (qry_apply' x wq 0 i _)
  | 1 =>
    pointwise [rows]
    rw [row_apply]
    refine congrArg (late · _) (funext fun j => congrArg (· + _) (Finset.sum_congr rfl fun d' _ => congrArg (· * _) ?_))
    pointwise
    exact (congrArg (fun r => qry x wq (ix2 r _)) (Fin.ext (by simp))).trans (qry_apply' x wq 1 i _)

end Cert.KernelIdeal.Ring

end
-- ==== Proof.KI.Sum.lean ====
/- The output after the whole ring: one projected attention per device of the ring, added up. -/
module

public import proofs.«01_k».proof.Proof.KI.Body
public import proofs.«01_k».proof.Proof.KI.Read

@[expose] public section

noncomputable section

namespace Cert.KernelIdeal.Ring

open Cert.KernelIdeal Cert.KernelIdeal.Gen
open Idealize.ShloMosaic Cert.Math

/-- The head and the column of a row of a shard. -/
def hd (p : Fin 256) : Fin 4 := ⟨p.val / 64, by omega⟩
def cl (p : Fin 256) : Fin 64 := ⟨p.val % 64, by omega⟩
def jn (h : Fin 4) (d : Fin 64) : Fin 256 := ⟨h.val * 64 + d.val, by omega⟩

/-- A row of a shard, averaged. -/
def avg (x : Vec Ideal S2x256x512 .bf16) (wq : Vec Ideal S1x512x256 .bf16) (K V : Vec Ideal S64x2x256x64 .bf16) (e : Dev nD)
    (b : Fin 2) (i p : Fin 256) : EReal :=
  late (fun j => (∑ d : Fin 64, (∑ c : Fin 512, x (ix3 b i c) * wq (ix3 0 c (jn (hd p) d)))
      * K (ix4 ⟨e.val * 4 + (hd p).val, by have : e.val < 16 := e.isLt; omega⟩ b j d)) + if kept i j then 0 else ⊥)
    (fun j => V (ix4 ⟨e.val * 4 + (hd p).val, by have : e.val < 16 := e.isLt; omega⟩ b j (cl p)))

theorem blk_apply (f : S64x2x256x64.Idx → Elt Ideal .bf16) (e : Dev nD) (h : Fin 4) (b : Fin 2) (j : Fin 256) (d : Fin 64) :
    blk f e h b (ix4 0 0 j d) = f (ix4 ⟨e.val * 4 + h.val, by have : e.val < 16 := e.isLt; omega⟩ b j d) :=
  congrArg f (by funext a; match a with | 0 | 1 | 2 | 3 => rfl)

/-- What one device's shard adds. -/
def term (Wq : Dev nD → S1x512x256.Idx → Elt Ideal .bf16) (Wo : Dev nD → S1x256x512.Idx → Elt Ideal .bf16)
    (x : Vec Ideal S2x256x512 .bf16) (K V : Vec Ideal S64x2x256x64 .bf16) (b : Fin 2) (i : Fin 256) (n : Fin 512) (e : Dev nD) : EReal :=
  ∑ p : Fin 256, avg x (Wq e) K V e b i p * Wo e (ix3 0 p n)

variable (Wq : Dev nD → S1x512x256.Idx → Elt Ideal .bf16) (Wo : Dev nD → S1x256x512.Idx → Elt Ideal .bf16)
    (x : Vec Ideal S2x256x512 .bf16) (K V : Vec Ideal S64x2x256x64 .bf16) (b : Fin 2) (i : Fin 256) (n : Fin 512)

theorem stp_apply (e : Dev nD) (y : S2x256x512.Idx → Elt Ideal .f32) :
    stp Wq Wo x K V e y (ix3 b i n) = y (ix3 b i n) + term Wq Wo x K V b i n e := by
  unfold stp term
  rw [comp_apply]
  refine congrArg (_ + ·) (Finset.sum_congr rfl fun p _ => congrArg (· * _) ?_)
  have hp : p = ⟨(hd p).val * 64 + (cl p).val, by have := (hd p).isLt; have := (cl p).isLt; omega⟩ :=
    Fin.ext (by show p.val = p.val / 64 * 64 + p.val % 64; omega)
  refine (congrArg (fun p' => rows _ _ _ _ (ix2 _ p')) hp).trans ((rows_apply x (Wq e) (blk K e) (blk V e) b i (hd p) (cl p)).trans ?_)
  simp only [blk_apply]
  rfl

theorem org_bij : ∀ c : Dev nD, Function.Bijective fun k : Fin 16 => org c k.val := by decide +kernel

/-- The output is the sum over the devices. -/
theorem outv_apply (c : Dev nD) : outv Wq Wo x K V c (ix3 b i n) = ∑ e : Dev nD, term Wq Wo x K V b i n e := by
  rw [← (org_bij c).sum_comp, Fin.sum_univ_eq_sum_range (fun k => term Wq Wo x K V b i n (org c k)) 16]
  have h0 : (k0_pay41 : FVec Ideal S2x256x512 .f32) (ix3 b i n) = 0 := by pointwise [k0_pay41]
  simp only [outv, acc, stp_apply, h0, Finset.sum_range_succ, Finset.sum_range_zero, org_zero, zero_add, Nat.reduceAdd, Nat.reduceLT, if_true, if_false]
  abel

end Cert.KernelIdeal.Ring

end
-- ==== Proof.KI.Value.lean ====
/- What the windows hold: the arguments as the host lays them out. -/
module

public import proofs.«01_k».proof.Proof.KI.LaunchC
public import proofs.«01_k».proof.Proof.KI.Sum
public import Idealize.ShloMosaic.Lib.StableHlo.ReadAt
public import Idealize.ShloMosaic.Lib.DynamicIndex

@[expose] public section

noncomputable section

namespace Cert.KernelIdeal.Ring

open Cert.KernelIdeal Cert.KernelIdeal.Gen
open Idealize.ShloMosaic Idealize.ShloMosaic.TcCoe Idealize.SL.Sem Cert.Math

section Generic
variable {F : FTy → Type} [FloatOps F] [Named F]

theorem read_out (c : Dev nD) (D : Pipeline.Dat τ (Elt F) Unit ℕ UU ℕ cfg0 c) :
    (win0_5.blk t0_0).view.read (Elt F) (D.arrAt (5 : Fin 6) cfg0.N) = D.flushed (5 : Fin 6) t0_0 :=
  D.read_blk_arrAt_eq_flushed (5 : Fin 6) (fun t t' _ _ h => absurd (Subsingleton.elim (α := Fin 1) t t') h) cfg0.N t0_0 t0_0.isLt (flush0_5 t0_0)

variable (m : (ℓ : Loc nD τ sig) → Buf (Elt F) ℓ)

theorem out_read (c : Dev nD) : (win0_5.blk t0_0).view.read (Elt F) ((dat0 m c).arrAt (5 : Fin 6) cfg0.N) = ys m c :=
  (read_out c (dat0 m c)).trans rfl

theorem read_at (A : S2x256x512.Idx → Elt F .f32) (b : Fin 2) (i : Fin 256) (n : Fin 512) :
    (win0_5.blk t0_0).view.read (Elt F) A (ix3 b i n) = A (ix3 b i n) := by
  refine congrArg A ?_
  funext a; exact Fin.ext (Pipeline.Window.rect_emb_val_of_index_zero win0_5 t0_0 a rfl _)

/-- The output array at the end is the ring's output. -/
theorem out_apply (c : Dev nD) (b : Fin 2) (i : Fin 256) (n : Fin 512) :
    (dat0 m c).arrAt (5 : Fin 6) cfg0.N (ix3 b i n) = ys m c (ix3 b i n) :=
  (read_at ((dat0 m c).arrAt (5 : Fin 6) cfg0.N) b i n).symm.trans (congrFun (out_read m c) _)

end Generic

/-- A product of two elements of the arrays, as extended reals. -/
abbrev times (x y : EReal) : EReal := x * y

variable (m : (ℓ : Loc nD τ sig) → Buf (Elt Ideal) ℓ)

/-- The host leaves the queries' inputs and the output weights; -/
theorem xs_apply (c : Dev nD) (b : Fin 2) (i : Fin 256) (a : Fin 512) :
    xs m c (ix3 b i a) = m ((c.tc : Thread nD τ).loc main_arg0) (ix3 b i a) := by
  rw [show m ((c.tc : Thread nD τ).loc main_arg0) = V1 m c main_arg0 from ((V1_of m c main_arg0 (by decide)).trans rfl).symm]
  refine congrArg (V1 m c main_arg0) ?_
  funext a; exact Fin.ext (Pipeline.Window.rect_emb_val_of_index_zero win0_0 t0_0 a rfl _)

theorem os_apply (c : Dev nD) (p : Fin 256) (n : Fin 512) :
    os m c (ix2 p n) = m ((c.tc : Thread nD τ).loc main_arg4) (ix2 p n) := by
  rw [show m ((c.tc : Thread nD τ).loc main_arg4) = V1 m c main_arg4 from ((V1_of m c main_arg4 (by decide)).trans rfl).symm]
  refine congrArg (V1 m c main_arg4) ?_
  funext a; exact Fin.ext (Pipeline.Window.rect_emb_val_of_index_zero win0_2 t0_0 a rfl _)

/-- it scales the query weights; -/
theorem qs_apply (c : Dev nD) (a : Fin 512) (p : Fin 256) :
    qs m c (ix2 a p) = times (m ((c.tc : Thread nD τ).loc main_arg1) (ix2 a p)) (((1 : ℝ) / 8 : ℝ) : EReal) := by
  have h : V1 m c main_v6 (ix2 a p) = times (m ((c.tc : Thread nD τ).loc main_arg1) (ix2 a p)) (((1 : ℝ) / 8 : ℝ) : EReal) := by
    rw [← eighth_bf16]
    unfold V1
    after_reads_at
  refine Eq.trans (congrArg (V1 m c main_v6) ?_) h
  funext a; exact Fin.ext (Pipeline.Window.rect_emb_val_of_index_zero win0_1 t0_0 a rfl _)

/-- where a device's two batches begin, -/
def pos (c : Dev nD) : IVec S_ 32 :=
  select (cmpi .slt (muli (Host.remui (Host.divui (constantI S_ 32 (Dev.word c)) (constantI S_ 32 1#32)) (constantI S_ 32 16#32)) (constantI S_ 32 2#32))
      (constantI S_ 32 0#32))
    (addi (muli (Host.remui (Host.divui (constantI S_ 32 (Dev.word c)) (constantI S_ 32 1#32)) (constantI S_ 32 16#32)) (constantI S_ 32 2#32)) (constantI S_ 32 32#32))
    (muli (Host.remui (Host.divui (constantI S_ 32 (Dev.word c)) (constantI S_ 32 1#32)) (constantI S_ 32 16#32)) (constantI S_ 32 2#32))

theorem pos_val : ∀ c : Dev nD, (pos c (Shape.Idx.first h_S_)).toInt = ((2 * c.val : ℕ) : ℤ) := by decide +kernel

/-- and those two batches of an array, its heads first. -/
def cut (c : Dev nD) (X : S32x256x64x64.Idx → Elt Ideal .bf16) : S64x2x256x64.Idx → Elt Ideal .bf16 :=
  transpose S64x2x256x64 [2, 0, 1, 3]
    (Host.dynamicSlice S2x256x64x64 X
      (fun k => ((![pos c, constantI S_ 32 0#32, constantI S_ 32 0#32, constantI S_ 32 0#32] : Fin 4 → IVec S_ 32) k (Shape.Idx.first h_S_)).toInt)
      sliceFits_S32x256x64x64_S2x256x64x64) transposes_S2x256x64x64_S64x2x256x64_2_0_1_3

theorem cut_apply (c : Dev nD) (X : S32x256x64x64.Idx → Elt Ideal .bf16) (h : Fin 64) (b : Fin 2) (j : Fin 256) (d : Fin 64) :
    cut c X (ix4 h b j d) = X (ix4 ⟨2 * c.val + b.val, by have : c.val < 16 := c.isLt; omega⟩ j h d) := by
  have hc : c.val < 16 := c.isLt
  unfold cut
  rw [Host.dynamicSlice_eq_extractStridedSlice S2x256x64x64 X _ ![2 * c.val, 0, 0, 0] sliceFits_S32x256x64x64_S2x256x64x64
    ⟨rfl, fun a => by match a with | 0 => show 2 * c.val + 2 ≤ 32; omega | 1 => show 0 + 256 ≤ 256; omega | 2 | 3 => show 0 + 64 ≤ 64; omega⟩
    (fun a => by match a with | 0 => exact pos_val c | 1 | 2 | 3 => rfl)]
  pointwise

theorem w10 (c : Dev nD) : StableHlo.upto (hostOps0 c) (V0 m c) 19 (Proc.tc.devRef main_v10) = pos c := by after_reads_simp; rfl
theorem w4 (c : Dev nD) : StableHlo.upto (hostOps0 c) (V0 m c) 19 (Proc.tc.devRef main_c_4) = constantI S_ 32 0#32 := by after_reads_simp
theorem w5 (c : Dev nD) : StableHlo.upto (hostOps0 c) (V0 m c) 19 (Proc.tc.devRef main_c_5) = constantI S_ 32 0#32 := by after_reads_simp
theorem w6 (c : Dev nD) : StableHlo.upto (hostOps0 c) (V0 m c) 19 (Proc.tc.devRef main_c_6) = constantI S_ 32 0#32 := by after_reads_simp

theorem v17_eq (c : Dev nD) : V1 m c main_v17 = cut c (m ((c.tc : Thread nD τ).loc main_arg2)) := by
  unfold V1
  after_reads_simp
  unfold cut
  refine congrArg (fun f => transpose _ _ (Host.dynamicSlice _ _ f _) _) (funext fun k => ?_)
  match k with
  | 0 => exact congrArg (fun w : IVec S_ 32 => (w (Shape.Idx.first h_S_)).toInt) (w10 m c)
  | 1 => exact congrArg (fun w : IVec S_ 32 => (w (Shape.Idx.first h_S_)).toInt) (w4 m c)
  | 2 => exact congrArg (fun w : IVec S_ 32 => (w (Shape.Idx.first h_S_)).toInt) (w5 m c)
  | 3 => exact congrArg (fun w : IVec S_ 32 => (w (Shape.Idx.first h_S_)).toInt) (w6 m c)

theorem w15 (c : Dev nD) : StableHlo.upto (hostOps0 c) (V0 m c) 30 (Proc.tc.devRef main_v15) = pos c := by after_reads_simp; rfl
theorem w10' (c : Dev nD) : StableHlo.upto (hostOps0 c) (V0 m c) 30 (Proc.tc.devRef main_c_10) = constantI S_ 32 0#32 := by after_reads_simp
theorem w11' (c : Dev nD) : StableHlo.upto (hostOps0 c) (V0 m c) 30 (Proc.tc.devRef main_c_11) = constantI S_ 32 0#32 := by after_reads_simp
theorem w12' (c : Dev nD) : StableHlo.upto (hostOps0 c) (V0 m c) 30 (Proc.tc.devRef main_c_12) = constantI S_ 32 0#32 := by after_reads_simp

theorem v18_eq (c : Dev nD) : V1 m c main_v18 = cut c (m ((c.tc : Thread nD τ).loc main_arg3)) := by
  unfold V1
  after_reads_simp
  unfold cut
  refine congrArg (fun f => transpose _ _ (Host.dynamicSlice _ _ f _) _) (funext fun k => ?_)
  match k with
  | 0 => exact congrArg (fun w : IVec S_ 32 => (w (Shape.Idx.first h_S_)).toInt) (w15 m c)
  | 1 => exact congrArg (fun w : IVec S_ 32 => (w (Shape.Idx.first h_S_)).toInt) (w10' m c)
  | 2 => exact congrArg (fun w : IVec S_ 32 => (w (Shape.Idx.first h_S_)).toInt) (w11' m c)
  | 3 => exact congrArg (fun w : IVec S_ 32 => (w (Shape.Idx.first h_S_)).toInt) (w12' m c)

theorem ks_apply (c : Dev nD) (h : Fin 64) (b : Fin 2) (j : Fin 256) (d : Fin 64) :
    ks m c (ix4 h b j d) = m ((c.tc : Thread nD τ).loc main_arg2) (ix4 ⟨2 * c.val + b.val, by have : c.val < 16 := c.isLt; omega⟩ j h d) := by
  rw [← cut_apply c (m ((c.tc : Thread nD τ).loc main_arg2)) h b j d, ← v17_eq]
  refine congrArg (V1 m c main_v17) ?_
  funext a; exact Fin.ext (Pipeline.Window.rect_emb_val_of_index_zero win0_3 t0_0 a rfl _)

theorem vs_apply (c : Dev nD) (h : Fin 64) (b : Fin 2) (j : Fin 256) (d : Fin 64) :
    vs m c (ix4 h b j d) = m ((c.tc : Thread nD τ).loc main_arg3) (ix4 ⟨2 * c.val + b.val, by have : c.val < 16 := c.isLt; omega⟩ j h d) := by
  rw [← cut_apply c (m ((c.tc : Thread nD τ).loc main_arg3)) h b j d, ← v18_eq]
  refine congrArg (V1 m c main_v18) ?_
  funext a; exact Fin.ext (Pipeline.Window.rect_emb_val_of_index_zero win0_4 t0_0 a rfl _)

end Cert.KernelIdeal.Ring

end
-- ==== Proof.RI.Value.lean ====
/- What the reference computes, in stages. -/
module

public import proofs.«01_k».proof.Proof.RI.Line
public import proofs.«01_k».proof.Proof.Math.Score
public import Idealize.ShloMosaic.Lib.Pointwise
public import Idealize.ShloMosaic.Lib.StableHlo.RunRead

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem Cert.Math

/-- The block index of each position. -/
def blockIx : IVec S256 32 :=
  select (andi
      (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

/-- The divisor three, as the remainder's function picks it. -/
def three : IVec S_ 32 := select (cmpi .eq (constantI S_ 32 3#32) (constantI S_ 32 0#32)) (constantI S_ 32 1#32) (constantI S_ 32 3#32)

/-- The remainder by three, with the divisor's sign. -/
def rem3 (x : IVec S256x256 32) : IVec S256x256 32 :=
  let r := Host.remsi x (broadcastInDim S256x256 ![] bcast_S_S256x256 three)
  select (andi (cmpi .ne (cmpi .slt r (broadcastInDim S256x256 ![] bcast_S_S256x256 (constantI S_ 32 0#32)))
        (broadcastInDim S256x256 ![] bcast_S_S256x256 (cmpi .slt three (constantI S_ 32 0#32))))
      (cmpi .ne r (broadcastInDim S256x256 ![] bcast_S_S256x256 (constantI S_ 32 0#32))))
    (addi r (broadcastInDim S256x256 ![] bcast_S_S256x256 three)) r

/-- The mask. -/
def mask : IVec S256x256 1 :=
  let col := broadcastInDim S256x1 ![0] bcast_S256_S256x1_0 blockIx
  let row := broadcastInDim S1x256 ![1] bcast_S256_S1x256_1 blockIx
  ori (ori (cmpi .eq (broadcastInDim S256x256 ![0, 1] bcast_S256x1_S256x256_0_1 col) (broadcastInDim S256x256 ![0, 1] bcast_S1x256_S256x256_0_1 row))
      (broadcastInDim S256x256 ![0, 1] bcast_S1x256_S256x256_0_1 (cmpi .eq row (broadcastInDim S1x256 ![] bcast_S_S1x256 (constantI S_ 32 0#32)))))
    (cmpi .eq (rem3 (addi (broadcastInDim S256x256 ![0, 1] bcast_S256x1_S256x256_0_1 col) (broadcastInDim S256x256 ![0, 1] bcast_S1x256_S256x256_0_1 row)))
      (broadcastInDim S256x256 ![] bcast_S_S256x256 (constantI S_ 32 0#32)))

/-- The masked scores. -/
def scores (x : FVec Ideal S32x256x512 .bf16) (wq : FVec Ideal S512x4096 .bf16) (k : FVec Ideal S32x256x64x64 .bf16) : FVec Ideal S32x64x256x256 .f32 :=
  select (broadcastInDim S32x64x256x256 ![0, 1, 2, 3] bcast_S1x1x256x256_S32x64x256x256_0_1_2_3 (broadcastInDim S1x1x256x256 ![2, 3] bcast_S256x256_S1x1x256x256_2_3 mask))
    (mulf (Host.dotGeneral dot_S32x256x64x64_S32x256x64x64_S32x64x256x256_3_3_1_1_02_02 none
        (shapeCast S32x256x64x64 (Host.dotGeneral dot_S32x256x512_S512x4096_S32x256x4096_2_0_01_1_n_n none (extf .f32 x bitsLt_bf16_f32) (extf .f32 wq bitsLt_bf16_f32)) shapeCasts_S32x256x4096_S32x256x64x64)
        (extf .f32 k bitsLt_bf16_f32))
      (broadcastInDim S32x64x256x256 ![] bcast_S_S32x64x256x256 (constant S_ .f32 0x3E000000#32)))
    (broadcastInDim S32x64x256x256 ![] bcast_S_S32x64x256x256 (constant S_ .f32 0xFF800000#32))

/-- The exponentials of the scores less their rows' maxima. -/
def expd (s : FVec Ideal S32x64x256x256 .f32) : FVec Ideal S32x64x256x256 .f32 :=
  Host.exp (subf s (broadcastInDim S32x64x256x256 ![0, 1, 2, 3] bcast_S32x64x256x1_S32x64x256x256_0_1_2_3
    (broadcastInDim S32x64x256x1 ![0, 1, 2] bcast_S32x64x256_S32x64x256x1_0_1_2
      (Host.reduce FloatOps.maximumf s (constant S_ .f32 0xFF800000#32) reducesTo_S32x64x256x256_S32x64x256_d3 h_S_))))

/-- Which rows keep anything. -/
def rowKept : IVec S256 1 := Host.reduce IntOp.ori mask (constantI S_ 1 0#1) reducesTo_S256x256_S256_d1 h_S_

/-- The weights. -/
def weights (w : FVec Ideal S32x64x256x256 .f32) : FVec Ideal S32x64x256x256 .f32 :=
  select (broadcastInDim S32x64x256x256 ![0, 1, 2, 3] bcast_S1x1x256x1_S32x64x256x256_0_1_2_3 (broadcastInDim S1x1x256x1 ![2] bcast_S256_S1x1x256x1_2 rowKept))
    (Host.divf w (broadcastInDim S32x64x256x256 ![0, 1, 2, 3] bcast_S32x64x256x1_S32x64x256x256_0_1_2_3
      (select (broadcastInDim S32x64x256x1 ![0, 1, 2, 3] bcast_S1x1x256x1_S32x64x256x1_0_1_2_3 (broadcastInDim S1x1x256x1 ![2] bcast_S256_S1x1x256x1_2 rowKept))
        (broadcastInDim S32x64x256x1 ![0, 1, 2] bcast_S32x64x256_S32x64x256x1_0_1_2
          (Host.reduceAdd w (constant S_ .f32 0x00000000#32) reducesTo_S32x64x256x256_S32x64x256_d3 h_S_))
        (broadcastInDim S32x64x256x1 ![] bcast_S_S32x64x256x1 (constant S_ .f32 0x3F800000#32)))))
    (broadcastInDim S32x64x256x256 ![] bcast_S_S32x64x256x256 (constant S_ .f32 0x00000000#32))

/-- The result. -/
def result (w : FVec Ideal S32x64x256x256 .f32) (v : FVec Ideal S32x256x64x64 .bf16) (wo : FVec Ideal S4096x512 .bf16) : FVec Ideal S32x256x512 .f32 :=
  Host.dotGeneral dot_S32x256x4096_S4096x512_S32x256x512_2_0_01_1_n_n none
    (shapeCast S32x256x4096 (transpose S32x256x64x64 [0, 3, 1, 2]
      (Host.dotGeneral dot_S32x256x64x64_S32x64x256x256_S32x64x64x256_1_3_3_2_02_01 none (extf .f32 v bitsLt_bf16_f32) w)
      transposes_S32x64x64x256_S32x256x64x64_0_3_1_2) shapeCasts_S32x256x64x64_S32x256x4096) (extf .f32 wo bitsLt_bf16_f32)

set_option maxHeartbeats 2000000 in
theorem result_eq (V : Valuation τ sig (Elt Ideal)) : after ops V (main_v49 : DevRef τ sig)
    = result (weights (expd (scores (V (main_arg0 : DevRef τ sig)) (V (main_arg1 : DevRef τ sig)) (V (main_arg2 : DevRef τ sig)))))
        (V (main_arg3 : DevRef τ sig)) (V (main_arg4 : DevRef τ sig)) := by
  after_reads_simp
  rfl

theorem blockIx_apply (i : Fin 256) : blockIx (ix1 i) = BitVec.ofNat 32 (i.val / 64) := by
  revert i
  pointwise [blockIx]
  decide +kernel

theorem mask_word : ∀ a b : Fin 4,
    IntOp.ori
      (IntOp.ori (IntOp.cmpi .eq (BitVec.ofNat 32 a.val) (BitVec.ofNat 32 b.val)) (IntOp.cmpi .eq (BitVec.ofNat 32 b.val) 0#32))
      (IntOp.cmpi .eq
        (Scalar.select
          (IntOp.andi
            (IntOp.cmpi .ne
              (IntOp.cmpi .slt (IntOp.remsi .host (IntOp.addi (BitVec.ofNat 32 a.val) (BitVec.ofNat 32 b.val))
                  (Scalar.select (IntOp.cmpi .eq 3#32 0#32) 1#32 3#32)) 0#32)
              (IntOp.cmpi .slt (Scalar.select (IntOp.cmpi .eq 3#32 0#32) 1#32 3#32) 0#32))
            (IntOp.cmpi .ne (IntOp.remsi .host (IntOp.addi (BitVec.ofNat 32 a.val) (BitVec.ofNat 32 b.val))
                (Scalar.select (IntOp.cmpi .eq 3#32 0#32) 1#32 3#32)) 0#32))
          (IntOp.addi (IntOp.remsi .host (IntOp.addi (BitVec.ofNat 32 a.val) (BitVec.ofNat 32 b.val))
              (Scalar.select (IntOp.cmpi .eq 3#32 0#32) 1#32 3#32))
            (Scalar.select (IntOp.cmpi .eq 3#32 0#32) 1#32 3#32))
          (IntOp.remsi .host (IntOp.addi (BitVec.ofNat 32 a.val) (BitVec.ofNat 32 b.val))
            (Scalar.select (IntOp.cmpi .eq 3#32 0#32) 1#32 3#32))) 0#32)
      = BitVec.ofBool (decide (a.val = b.val) || decide (b.val = 0) || decide ((a.val + b.val) % 3 = 0)) := by decide +kernel

/-- The mask is the pattern. -/
theorem mask_apply (i j : Fin 256) : mask (ix2 i j) = BitVec.ofBool (kept i j) := by
  pointwise [mask, rem3, three, blockIx_apply]
  exact mask_word ⟨i.val / 64, by omega⟩ ⟨j.val / 64, by omega⟩

theorem select_ofBool {α : Type} (p : Bool) (a b : α) : Scalar.select (BitVec.ofBool p) a b = if p then a else b := by cases p <;> rfl

theorem scores_apply (x : FVec Ideal S32x256x512 .bf16) (wq : FVec Ideal S512x4096 .bf16) (k : FVec Ideal S32x256x64x64 .bf16)
    (B : Fin 32) (H : Fin 64) (i j : Fin 256) :
    scores x wq k (ix4 B H i j) = msc (kept i j) (fun c : Fin 512 => x (ix3 B i c)) (fun c (d : Fin 64) => wq (ix2 c ⟨H.val * 64 + d.val, by omega⟩))
      (fun d => k (ix4 B j H d)) (((1 : ℝ) / 8 : ℝ) : EReal) := by
  pointwise [scores]
  rw [mask_apply, select_ofBool, eighth_f32, neg_inf_f32]
  rfl

/-- Every row keeps its own block. -/
theorem rowKept_apply (i : Fin 256) : rowKept (ix1 i) = 1#1 := by
  pointwise [rowKept]
  rw [← Finset.insert_erase (Finset.mem_univ i), Finset.fold_insert (Finset.notMem_erase i _), mask_apply, kept_self]
  exact (by decide : ∀ b : BitVec 1, IntOp.ori 1#1 b = 1#1) _

theorem expd_apply (s : FVec Ideal S32x64x256x256 .f32) (B : Fin 32) (H : Fin 64) (i j : Fin 256) :
    expd s (ix4 B H i j) = Ideal.exp (s (ix4 B H i j) - Finset.univ.fold max ⊥ fun j => s (ix4 B H i j)) := by
  pointwise [expd]
  rw [neg_inf_f32]

theorem weights_apply (w : FVec Ideal S32x64x256x256 .f32) (B : Fin 32) (H : Fin 64) (i j : Fin 256) :
    weights w (ix4 B H i j) = Ideal.div (w (ix4 B H i j)) (∑ j, w (ix4 B H i j)) := by
  pointwise [weights]
  rw [rowKept_apply]
  rfl

theorem result_apply (w : FVec Ideal S32x64x256x256 .f32) (v : FVec Ideal S32x256x64x64 .bf16) (wo : FVec Ideal S4096x512 .bf16)
    (B : Fin 32) (i : Fin 256) (n : Fin 512) :
    result w v wo (ix3 B i n) = ∑ P : Fin 4096, (∑ j : Fin 256, v (ix4 B j ⟨P.val / 64, by omega⟩ ⟨P.val % 64, by omega⟩)
      * w (ix4 B ⟨P.val / 64, by omega⟩ i j)) * wo (ix2 P n) := by
  pointwise [result]

/-- The whole, at an index. -/
def whole (x : FVec Ideal S32x256x512 .bf16) (wq : FVec Ideal S512x4096 .bf16) (k v : FVec Ideal S32x256x64x64 .bf16)
    (wo : FVec Ideal S4096x512 .bf16) : FVec Ideal S32x256x512 .f32 := result (weights (expd (scores x wq k))) v wo

theorem whole_apply (x : FVec Ideal S32x256x512 .bf16) (wq : FVec Ideal S512x4096 .bf16) (k v : FVec Ideal S32x256x64x64 .bf16)
    (wo : FVec Ideal S4096x512 .bf16) (B : Fin 32) (i : Fin 256) (n : Fin 512) :
    whole x wq k v wo (ix3 B i n) = ∑ P : Fin 4096,
      (early (Finset.univ.fold max ⊥ fun j => msc (kept i j) (fun c : Fin 512 => x (ix3 B i c))
            (fun c (d : Fin 64) => wq (ix2 c ⟨P.val / 64 * 64 + d.val, by omega⟩)) (fun d => k (ix4 B j ⟨P.val / 64, by omega⟩ d)) (((1 : ℝ) / 8 : ℝ) : EReal))
          (fun j : Fin 256 => msc (kept i j) (fun c : Fin 512 => x (ix3 B i c))
            (fun c (d : Fin 64) => wq (ix2 c ⟨P.val / 64 * 64 + d.val, by omega⟩)) (fun d => k (ix4 B j ⟨P.val / 64, by omega⟩ d)) (((1 : ℝ) / 8 : ℝ) : EReal))
          (fun j => v (ix4 B j ⟨P.val / 64, by omega⟩ ⟨P.val % 64, by omega⟩))) * wo (ix2 P n) := by
  unfold whole
  rw [result_apply]
  refine Finset.sum_congr rfl fun P _ => congrArg (· * _) ?_
  unfold early
  simp only [weights_apply, expd_apply, scores_apply]

end Cert.ReferenceIdeal.Line

end
-- ==== Proof.Equal.lean ====
/- The kernel's output is the device's block of the reference's. -/
module

public import proofs.«01_k».proof.Proof.KI.Value
public import proofs.«01_k».proof.Proof.RI.Value
public import Idealize.ShloMosaic.Lib.LayoutAt

@[expose] public section

noncomputable section

namespace Cert.Equal

open Idealize.ShloMosaic Idealize.ShloMosaic.TcCoe Cert.Math
open Cert.KernelIdeal.Ring Cert.ReferenceIdeal.Line

section Blocks
variable (c : Fin 16)

/-- A device's block of the inputs, -/
theorem x_block (X : (⟨3, ![32, 256, 512]⟩ : Shape).Idx → EReal) (b : Fin 2) (i : Fin 256) (a : Fin 512) :
    (Layout.block ⟨3, ![2, 256, 512]⟩ ⟨3, ![32, 256, 512]⟩ 0 16 c X) (ix3 b i a) = X (ix3 ⟨2 * c.val + b.val, by omega⟩ i a) := by
  shard_norm
  shard_ext

/-- of the query weights -/
theorem wq_block (W : (⟨2, ![512, 4096]⟩ : Shape).Idx → EReal) (a : Fin 512) (p : Fin 256) :
    (Layout.block ⟨2, ![512, 256]⟩ ⟨2, ![512, 4096]⟩ 1 16 c W) (ix2 a p) = W (ix2 a ⟨c.val * 256 + p.val, by omega⟩) := by
  shard_norm
  shard_ext

/-- and of the output weights. -/
theorem wo_block (W : (⟨2, ![4096, 512]⟩ : Shape).Idx → EReal) (p : Fin 256) (n : Fin 512) :
    (Layout.block ⟨2, ![256, 512]⟩ ⟨2, ![4096, 512]⟩ 0 16 c W) (ix2 p n) = W (ix2 ⟨c.val * 256 + p.val, by omega⟩ n) := by
  shard_norm
  shard_ext

/-- What every device's block of the query weights is, the whole is. -/
theorem wq_real (W : (⟨2, ![512, 4096]⟩ : Shape).Idx → EReal)
    (h : ∀ (c : Fin 16) (a : Fin 512) (p : Fin 256), IsReal ((Layout.block ⟨2, ![512, 256]⟩ ⟨2, ![512, 4096]⟩ 1 16 c W) (ix2 a p)))
    (a : Fin 512) (P : Fin 4096) : IsReal (W (ix2 a P)) := by
  have h := h ⟨P.val / 256, by omega⟩ a ⟨P.val % 256, by omega⟩
  rw [wq_block] at h
  have hP : (⟨P.val / 256 * 256 + P.val % 256, by omega⟩ : Fin 4096) = P := Fin.ext (by show P.val / 256 * 256 + P.val % 256 = P.val; omega)
  rw [← hP]
  exact h

end Blocks

/-- A sum over the rows of the whole, shard by shard. -/
theorem sum_shards (f : Fin 4096 → EReal) : ∑ P, f P = ∑ e : Fin 16, ∑ p : Fin 256, f ⟨e.val * 256 + p.val, by omega⟩ := by
  rw [← finProdFinEquiv.sum_comp (fun P : Fin (16 * 256) => f P), Fintype.sum_prod_type]
  refine Finset.sum_congr rfl fun e _ => Finset.sum_congr rfl fun p _ => congrArg f (Fin.ext ?_)
  show p.val + 256 * e.val = e.val * 256 + p.val
  omega

section Kernel
open Cert.KernelIdeal Cert.KernelIdeal.Gen

variable (m : (ℓ : Loc nD τ sig) → Buf (Elt Ideal) ℓ)

theorem wq_apply (e : Dev nD) (a : Fin 512) (p : Fin 256) :
    wq m e (ix3 0 a p) = times (m ((e.tc : Thread nD τ).loc main_arg1) (ix2 a p)) (((1 : ℝ) / 8 : ℝ) : EReal) := by
  rw [← qs_apply m]
  pointwise [wq, k0_pay42]

theorem wo_apply (e : Dev nD) (p : Fin 256) (n : Fin 512) :
    wo m e (ix3 0 p n) = m ((e.tc : Thread nD τ).loc main_arg4) (ix2 p n) := by
  rw [← os_apply m]
  pointwise [wo, k0_pay43]

variable (X : (⟨3, ![32, 256, 512]⟩ : Shape).Idx → EReal) (Wq : (⟨2, ![512, 4096]⟩ : Shape).Idx → EReal)
  (K V : (⟨4, ![32, 256, 64, 64]⟩ : Shape).Idx → EReal) (Wo : (⟨2, ![4096, 512]⟩ : Shape).Idx → EReal)
  (h0 : ∀ c : Dev nD, m ((c.tc : Thread nD τ).loc main_arg0) = Layout.block ⟨3, ![2, 256, 512]⟩ ⟨3, ![32, 256, 512]⟩ 0 16 c X)
  (h1 : ∀ c : Dev nD, m ((c.tc : Thread nD τ).loc main_arg1) = Layout.block ⟨2, ![512, 256]⟩ ⟨2, ![512, 4096]⟩ 1 16 c Wq)
  (h2 : ∀ c : Dev nD, m ((c.tc : Thread nD τ).loc main_arg2) = K)
  (h3 : ∀ c : Dev nD, m ((c.tc : Thread nD τ).loc main_arg3) = V)
  (h4 : ∀ c : Dev nD, m ((c.tc : Thread nD τ).loc main_arg4) = Layout.block ⟨2, ![256, 512]⟩ ⟨2, ![4096, 512]⟩ 0 16 c Wo)

include h0 h1 h2 h3

/-- One row's average, read off the whole arrays. -/
theorem avg_eq (c e : Dev nD) (b : Fin 2) (i p : Fin 256) (B : Fin 32) (hB : B.val = 2 * c.val + b.val)
    (P : Fin 4096) (hP : P.val = e.val * 256 + p.val) :
    avg (xs m c) (wq m e) (ks m c) (vs m c) e b i p
      = late (fun j => ksc (fun a : Fin 512 => X (ix3 B i a)) (fun a (d : Fin 64) => Wq (ix2 a ⟨P.val / 64 * 64 + d.val, by omega⟩))
          (fun d => K (ix4 B j ⟨P.val / 64, by omega⟩ d)) (((1 : ℝ) / 8 : ℝ) : EReal) (if kept i j then 0 else ⊥))
        (fun j => V (ix4 B j ⟨P.val / 64, by omega⟩ ⟨P.val % 64, by omega⟩)) := by
  have hc : c.val < 16 := c.isLt
  have he : e.val < 16 := e.isLt
  have hH : (⟨e.val * 4 + (hd p).val, by omega⟩ : Fin 64) = ⟨P.val / 64, by omega⟩ :=
    Fin.ext (by show e.val * 4 + p.val / 64 = P.val / 64; omega)
  have hD : cl p = ⟨P.val % 64, by omega⟩ := Fin.ext (by show p.val % 64 = P.val % 64; omega)
  have hBB : (⟨2 * c.val + b.val, by omega⟩ : Fin 32) = B := Fin.ext hB.symm
  have hx (a : Fin 512) : xs m c (ix3 b i a) = X (ix3 B i a) := by
    rw [xs_apply, h0, ← hBB]; exact x_block c X b i a
  have hw (a : Fin 512) (d : Fin 64) :
      wq m e (ix3 0 a (jn (hd p) d)) = times (Wq (ix2 a ⟨P.val / 64 * 64 + d.val, by omega⟩)) (((1 : ℝ) / 8 : ℝ) : EReal) := by
    rw [wq_apply, h1]
    refine congrArg (times · _) ((wq_block e Wq a _).trans (congrArg (fun q => Wq (ix2 a q)) (Fin.ext ?_)))
    show e.val * 256 + (p.val / 64 * 64 + d.val) = P.val / 64 * 64 + d.val
    omega
  have hk (j : Fin 256) (d : Fin 64) : ks m c (ix4 ⟨e.val * 4 + (hd p).val, by omega⟩ b j d) = K (ix4 B j ⟨P.val / 64, by omega⟩ d) := by
    rw [ks_apply, h2, hBB, hH]
  have hv (j : Fin 256) : vs m c (ix4 ⟨e.val * 4 + (hd p).val, by omega⟩ b j (cl p)) = V (ix4 B j ⟨P.val / 64, by omega⟩ ⟨P.val % 64, by omega⟩) := by
    rw [vs_apply, h3, hBB, hH, hD]
  unfold avg
  simp only [hx, hw, hk, hv]
  rfl

include h4

/-- The output, at an index, is the reference's whole. -/
theorem ys_eq (hX : ∀ (c : Dev nD) b i a, IsReal (m ((c.tc : Thread nD τ).loc main_arg0) (ix3 (b : Fin 2) (i : Fin 256) (a : Fin 512))))
    (hW : ∀ (c : Dev nD) a p, IsReal (m ((c.tc : Thread nD τ).loc main_arg1) (ix2 (a : Fin 512) (p : Fin 256))))
    (hK : ∀ (c : Dev nD) b j g d, IsReal (m ((c.tc : Thread nD τ).loc main_arg2) (ix4 (b : Fin 32) (j : Fin 256) (g : Fin 64) (d : Fin 64))))
    (c : Dev nD) (b : Fin 2) (i : Fin 256) (n : Fin 512) (B : Fin 32) (hB : B.val = 2 * c.val + b.val) :
    ys m c (ix3 b i n) = whole X Wq K V Wo (ix3 B i n) := by
  have hX (a : Fin 512) : IsReal (X (ix3 B i a)) := by
    have h := hX c b i a
    rw [h0] at h
    exact (congrArg IsReal ((x_block c X b i a).trans (congrArg (fun q => X (ix3 q i a)) (Fin.ext hB.symm)))).mp h
  have hW := wq_real Wq fun c a p => (congrFun (h1 c) (ix2 a p) ▸ hW c a p :)
  have hK (j : Fin 256) (g d : Fin 64) : IsReal (K (ix4 B j g d)) := h2 c ▸ hK c B j g d
  unfold ys
  rw [outv_apply, whole_apply, sum_shards]
  refine Finset.sum_congr rfl fun e _ => ?_
  unfold term
  refine Finset.sum_congr rfl fun p _ => ?_
  rw [avg_eq m X Wq K V h0 h1 h2 h3 c e b i p B hB ⟨e.val * 256 + p.val, by have : e.val < 16 := e.isLt; omega⟩ rfl,
    head _ _ _ _ _ i hX (fun _ _ => hW _ _) (fun _ _ => hK _ _ _), wo_apply, h4]
  exact congrArg (_ * ·) (wo_block e Wo p n)

/-- As arrays. -/
theorem out_eq (hX : ∀ (c : Dev nD) b i a, IsReal (m ((c.tc : Thread nD τ).loc main_arg0) (ix3 (b : Fin 2) (i : Fin 256) (a : Fin 512))))
    (hW : ∀ (c : Dev nD) a p, IsReal (m ((c.tc : Thread nD τ).loc main_arg1) (ix2 (a : Fin 512) (p : Fin 256))))
    (hK : ∀ (c : Dev nD) b j g d, IsReal (m ((c.tc : Thread nD τ).loc main_arg2) (ix4 (b : Fin 32) (j : Fin 256) (g : Fin 64) (d : Fin 64))))
    (c : Dev nD) : (dat0 m c).arrAt (5 : Fin 6) cfg0.N
      = Layout.block ⟨3, ![2, 256, 512]⟩ ⟨3, ![32, 256, 512]⟩ 0 16 c (whole X Wq K V Wo) := by
  funext q
  rw [show q = ix3 (q 0) (q 1) (q 2) from by funext a; match a with | 0 | 1 | 2 => rfl]
  exact (out_apply m c _ _ _).trans ((ys_eq m X Wq K V Wo h0 h1 h2 h3 h4 hX hW hK c _ _ _
    ⟨2 * c.val + (q 0).val, by have : c.val < 16 := c.isLt; have : (q 0).val < 2 := (q 0).isLt; omega⟩ rfl).trans
    (x_block c (whole X Wq K V Wo) _ _ _).symm)

end Kernel

end Cert.Equal

end
-- ==== Proof.Finite.lean ====
/- What the precondition says of the arrays. -/
module

public import proofs.«01_k».proof.Defs
public import proofs.«01_k».proof.Proof.Math.Score
public import Idealize.ShloMosaic.Lib.Pointwise

@[expose] public section

noncomputable section

namespace Cert.Finite

open Idealize.ShloMosaic Cert.Math

section Kernel
open Cert.Pre_finite_scores_KernelIdeal

theorem facts : Facts := ⟨by decide, by decide, by decide, by decide⟩

attribute [local instance] facts

variable (x : FVec Ideal S2x256x512 .bf16) (wq : FVec Ideal S512x256 .bf16) (k v : FVec Ideal S32x256x64x64 .bf16) (wo : FVec Ideal S256x512 .bf16)

theorem below {a : EReal} (h : BitVec.ofBool (decide (max a (-a) < Ideal.ofBits .f32 0x7F800000#32)) = 1#1) : IsReal a := by
  rw [pos_inf_f32] at h
  refine fin_of_abs ?_
  by_contra hn
  rw [decide_eq_false hn] at h
  exact absurd h (by decide)

/-- The inputs are real, -/
theorem real_x (h : (fn x wq k v wo).1 = fun _ => 1#1) (b : Fin 2) (i : Fin 256) (a : Fin 512) : IsReal (x (ix3 b i a)) := by
  have h := congrFun h (ix3 b i a)
  revert h
  pointwise [fn]
  exact fun h => below h

/-- the query weights are, -/
theorem real_wq (h : (fn x wq k v wo).2.1 = fun _ => 1#1) (a : Fin 512) (p : Fin 256) : IsReal (wq (ix2 a p)) := by
  have h := congrFun h (ix2 a p)
  revert h
  pointwise [fn]
  exact fun h => below h

/-- and the keys are. -/
theorem real_k (h : (fn x wq k v wo).2.2 = fun _ => 1#1) (b : Fin 32) (j : Fin 256) (g d : Fin 64) : IsReal (k (ix4 b j g d)) := by
  have h := congrFun h (ix4 b j g d)
  revert h
  pointwise [fn]
  exact fun h => below h

end Kernel

theorem facts_whole : Cert.Pre_finite_scores_ReferenceIdeal.Facts := ⟨by decide, by decide, by decide, by decide⟩

end Cert.Finite

end
-- ==== Proof.lean ====
/- The certificate's claims, assembled from the runs. -/
module

public import proofs.«01_k».proof.Defs
public import proofs.«01_k».proof.Proof.KI.LaunchC
public import proofs.«01_k».proof.Proof.KB.LaunchC
public import proofs.«01_k».proof.Proof.RI.Line
public import proofs.«01_k».proof.Proof.Equal
public import proofs.«01_k».proof.Proof.Finite
public import Idealize.ShloMosaic.Lib.Quiescent

@[expose] public section

noncomputable section

namespace Cert.Proof

open Idealize.ShloMosaic Idealize.ShloMosaic.TcCoe Idealize.ShloMosaic.StableHlo Idealize.SL.Sem

/-- The kernel leaves its arguments and its semaphores as they were. -/
theorem frame_kernel : Cert.quiescent_Kernel (hKernel := Cert.Kernel.Gen.facts) := fun m g _ =>
  (θ_run Cert.Kernel.defs _ _).mono (fun _ h => ⟨fun c => ⟨(h.1 c).1, (h.1 c).2.1, (h.1 c).2.2.1, (h.1 c).2.2.2.1, (h.1 c).2.2.2.2.1⟩, h.2⟩)
    (Cert.Kernel.Ring.run_main (F := Bits) m g)

/-- So does the idealized kernel. -/
theorem frame_ideal : Cert.quiescent_KernelIdeal (hKernelIdeal := Cert.KernelIdeal.Gen.facts) := fun m g _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Ring.run_main (F := Ideal) m g)

section Reference
open Cert.ReferenceIdeal Cert.ReferenceIdeal.Line

/-- No operation of the reference writes an argument. -/
theorem arg0_eq (V : Valuation τ sig (Elt Ideal)) : after ops V (main_arg0 : DevRef τ sig) = V (main_arg0 : DevRef τ sig) := by
  simp only [after_cons, after_nil]; rfl
theorem arg1_eq (V : Valuation τ sig (Elt Ideal)) : after ops V (main_arg1 : DevRef τ sig) = V (main_arg1 : DevRef τ sig) := by
  simp only [after_cons, after_nil]; rfl
theorem arg2_eq (V : Valuation τ sig (Elt Ideal)) : after ops V (main_arg2 : DevRef τ sig) = V (main_arg2 : DevRef τ sig) := by
  simp only [after_cons, after_nil]; rfl
theorem arg3_eq (V : Valuation τ sig (Elt Ideal)) : after ops V (main_arg3 : DevRef τ sig) = V (main_arg3 : DevRef τ sig) := by
  simp only [after_cons, after_nil]; rfl
theorem arg4_eq (V : Valuation τ sig (Elt Ideal)) : after ops V (main_arg4 : DevRef τ sig) = V (main_arg4 : DevRef τ sig) := by
  simp only [after_cons, after_nil]; rfl

/-- The reference leaves its arguments as they were; it has no semaphore. -/
theorem frame_reference : Cert.quiescent_ReferenceIdeal (hReferenceIdeal := Cert.ReferenceIdeal.Gen.facts) := fun m g _ =>
  (θ_run Cert.ReferenceIdeal.defs _ _).mono (fun r h => ⟨fun c => ⟨(h c main_arg0).trans (arg0_eq _), (h c main_arg1).trans (arg1_eq _),
      (h c main_arg2).trans (arg2_eq _), (h c main_arg3).trans (arg3_eq _), (h c main_arg4).trans (arg4_eq _)⟩,
      sem_eq_zero_of_no_sems rfl r.2⟩)
    (run_main (F := Ideal) m g)

end Reference

/-- The mask's constant is the named one. -/
theorem preserves : Cert.preserves_Kernel_KernelIdeal :=
  IdealRules.named_const.statement Cert.KernelIdeal.κ "mask" .f32 0xCE6E6B28#32 ⊥ rfl

/-- The frames hold of the finite arrays too. -/
theorem frame_ideal_finite : Cert.quiescent_KernelIdeal_pre_finite_scores_KernelIdeal (hKernelIdeal := Cert.KernelIdeal.Gen.facts)
    (hPre_finite_scores_KernelIdeal := Cert.Finite.facts) := fun m g _ => frame_ideal m g trivial

theorem frame_reference_finite : Cert.quiescent_ReferenceIdeal_pre_finite_scores_ReferenceIdeal (hReferenceIdeal := Cert.ReferenceIdeal.Gen.facts)
    (hPre_finite_scores_ReferenceIdeal := Cert.Finite.facts_whole) := fun m g _ => frame_reference m g trivial

/-- Each device's result is its block of the reference's. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Finite.facts) := fun m g m' g' hfin hin =>
  ⟨Cert.ReferenceIdeal.Line.whole
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    (θ_run Cert.KernelIdeal.defs _ _).mono (fun _ h c =>
      ⟨(h.1 c).2.2.2.2.2.trans (Cert.Equal.out_eq m _ _ _ _ _ (fun c => (hin c).1) (fun c => (hin c).2.1) (fun c => (hin c).2.2.1)
          (fun c => (hin c).2.2.2.1) (fun c => (hin c).2.2.2.2)
          (fun c => Cert.Finite.real_x _ _ _ _ _ (hfin c).1) (fun c => Cert.Finite.real_wq _ _ _ _ _ (hfin c).2.1)
          (fun c => Cert.Finite.real_k _ _ _ _ _ (hfin c).2.2) c),
        (h.1 c).1, (h.1 c).2.1, (h.1 c).2.2.1, (h.1 c).2.2.2.1, (h.1 c).2.2.2.2.1⟩)
      (Cert.KernelIdeal.Ring.run_main (F := Ideal) m g),
    (θ_run Cert.ReferenceIdeal.defs _ _).mono (fun _ h =>
      ⟨(h 0 Cert.ReferenceIdeal.main_v49).trans (Cert.ReferenceIdeal.Line.result_eq _),
        (h 0 Cert.ReferenceIdeal.main_arg0).trans (arg0_eq _), (h 0 Cert.ReferenceIdeal.main_arg1).trans (arg1_eq _),
        (h 0 Cert.ReferenceIdeal.main_arg2).trans (arg2_eq _), (h 0 Cert.ReferenceIdeal.main_arg3).trans (arg3_eq _),
        (h 0 Cert.ReferenceIdeal.main_arg4).trans (arg4_eq _)⟩)
      (Cert.ReferenceIdeal.Line.run_main (F := Ideal) m' g')⟩

theorem claim : Cert.Claim :=
  ⟨Cert.Kernel.Gen.facts, Cert.KernelIdeal.Gen.facts, Cert.ReferenceIdeal.Gen.facts, Cert.Finite.facts, Cert.Finite.facts_whole,
    frame_kernel, frame_ideal, frame_ideal_finite, frame_reference, frame_reference_finite, preserves, algebraic⟩

end Cert.Proof

end
